-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![2048, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  bcast_S_S512x128 : S_.BroadcastsInDim S512x128 (![] : Fin 0 → Fin S512x128.rank)
  bcast_S_S2048x2 : S_.BroadcastsInDim S2048x2 (![] : Fin 0 → Fin S2048x2.rank)

variable [Facts]

def fn {F : FTy → Type} [FloatOps F] (main_arg0 : FVec F S2048x512 .bf16) (main_arg1 : FVec F S512x128 .bf16) (main_arg2 : IVec S2048x2 32) (main_arg3 : FVec F S8x512x1024 .bf16) : IVec S2048x512 1 × IVec S512x128 1 × IVec S2048x2 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x128 .bf16 := Host.absf main_arg1
  let main_cst_0 : FVec F S_ .bf16 := constant S_ .bf16 0x7F80#16
  let main_v4 : FVec F S512x128 .bf16 := broadcastInDim S512x128 ![] bcast_S_S512x128 main_cst_0
  let main_v5 : IVec S512x128 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 128#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Pre_routed_ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S_ : Shape := ⟨0, ![]⟩

class Facts : Prop where
  bcast_S_S2048x512 : S_.BroadcastsInDim S2048x512 (![] : Fin 0 → Fin S2048x512.rank)
  bcast_S_S512x128 : S_.BroadcastsInDim S512x128 (![] : Fin 0 → Fin S512x128.rank)
  bcast_S_S2048x2 : S_.BroadcastsInDim S2048x2 (![] : Fin 0 → Fin S2048x2.rank)

variable [Facts]

def fn {F : FTy → Type} [FloatOps F] (main_arg0 : FVec F S2048x512 .bf16) (main_arg1 : FVec F S512x128 .bf16) (main_arg2 : IVec S2048x2 32) (main_arg3 : FVec F S128x512x1024 .bf16) : IVec S2048x512 1 × IVec S512x128 1 × IVec S2048x2 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_v3 : FVec F S512x128 .bf16 := Host.absf main_arg1
  let main_cst_0 : FVec F S_ .bf16 := constant S_ .bf16 0x7F80#16
  let main_v4 : FVec F S512x128 .bf16 := broadcastInDim S512x128 ![] bcast_S_S512x128 main_cst_0
  let main_v5 : IVec S512x128 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 128#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Kernel.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S1x16 : Shape := ⟨2, ![1, 16]⟩
abbrev S128x1024 : Shape := ⟨2, ![128, 1024]⟩
abbrev S2048x8 : Shape := ⟨2, ![2048, 8]⟩
abbrev S4096x1024 : Shape := ⟨2, ![4096, 1024]⟩
abbrev S7x128x1024 : Shape := ⟨3, ![7, 128, 1024]⟩
abbrev S8x128x1024 : Shape := ⟨3, ![8, 128, 1024]⟩
abbrev S_ : Shape := ⟨0, ![]⟩
abbrev S7 : Shape := ⟨1, ![7]⟩
abbrev S8 : Shape := ⟨1, ![8]⟩
abbrev S1x1x16 : Shape := ⟨3, ![1, 1, 16]⟩
abbrev S1 : Shape := ⟨1, ![1]⟩
abbrev S1x1x1 : Shape := ⟨3, ![1, 1, 1]⟩
abbrev S2048x128 : Shape := ⟨2, ![2048, 128]⟩
abbrev S2048x1 : Shape := ⟨2, ![2048, 1]⟩
abbrev S2048 : Shape := ⟨1, ![2048]⟩
abbrev S1x512x1024 : Shape := ⟨3, ![1, 512, 1024]⟩
abbrev S512x1024 : Shape := ⟨2, ![512, 1024]⟩
abbrev S128x512 : Shape := ⟨2, ![128, 512]⟩
abbrev S256x512 : Shape := ⟨2, ![256, 512]⟩
abbrev S128x8 : Shape := ⟨2, ![128, 8]⟩
abbrev S256x8 : Shape := ⟨2, ![256, 8]⟩
abbrev S256x1 : Shape := ⟨2, ![256, 1]⟩
abbrev S256x4096 : Shape := ⟨2, ![256, 4096]⟩
abbrev S256x1024 : Shape := ⟨2, ![256, 1024]⟩
abbrev S1x128x1024 : Shape := ⟨3, ![1, 128, 1024]⟩
abbrev S128x1 : Shape := ⟨2, ![128, 1]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x2, .i32⟩
  | .hbm, ⟨3, _⟩ => ⟨S8x512x1024, .bf16⟩
  | .hbm, ⟨4, _⟩ => ⟨S1x16, .i32⟩
  | .hbm, ⟨5, _⟩ => ⟨S1x16, .i32⟩
  | .hbm, ⟨6, _⟩ => ⟨S128x1024, .f32⟩
  | .local _ .vmem, ⟨0, _⟩ => ⟨S2048x512, .bf16⟩
  | .local _ .vmem, ⟨1, _⟩ => ⟨S512x128, .bf16⟩
  | .local _ .vmem, ⟨2, _⟩ => ⟨S2048x2, .i32⟩
  | .local _ .vmem, ⟨3, _⟩ => ⟨S8x512x1024, .bf16⟩
  | .local _ .vmem, ⟨4, _⟩ => ⟨S1x16, .i32⟩
  | .local _ .vmem, ⟨5, _⟩ => ⟨S1x16, .i32⟩
  | .local _ .vmem, ⟨6, _⟩ => ⟨S128x1024, .f32⟩
  | .local _ .vmem, ⟨7, _⟩ => ⟨S2048x8, .bf16⟩
  | .local _ .vmem, ⟨8, _⟩ => ⟨S2048x512, .bf16⟩
  | .local _ .vmem, ⟨9, _⟩ => ⟨S4096x1024, .bf16⟩
  | .local _ .vmem, ⟨10, _⟩ => ⟨S128x1024, .bf16⟩
  | .local _ .vmem, ⟨11, _⟩ => ⟨S128x1024, .bf16⟩
  | .local _ .vmem, ⟨12, _⟩ => ⟨S7x128x1024, .bf16⟩
  | .local _ .vmem, ⟨13, _⟩ => ⟨S8x128x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 16
abbrev τ : Topo := Topo.v7x

variable {F : FTy → Type} [FloatOps F]

abbrev grid0 : Pipeline.Grid := .none

def k0_dev1 (v32 : BitVec 32) : Nat :=
  let c0_i32_23 : BitVec 32 := 0#32
  let c1_i32_22 : BitVec 32 := 1#32
  let v53 : BitVec 32 := Scalar.muli v32 c1_i32_22
  let v54 : BitVec 32 := Scalar.addi c0_i32_23 v53
  v54.toNat

def k0_dev2 (v51 : BitVec 32) : Nat :=
  let c0_i32_26 : BitVec 32 := 0#32
  let c1_i32_25 : BitVec 32 := 1#32
  let v55 : BitVec 32 := Scalar.muli v51 c1_i32_25
  let v56 : BitVec 32 := Scalar.addi c0_i32_26 v55
  v56.toNat

def k0_off1 (v167 : BitVec 32) : Fin 2 → Nat :=
  let c128_i32 : BitVec 32 := 128#32
  let v187 : BitVec 32 := Scalar.muli v167 c128_i32
  let v189 : Index := Scalar.indexCast v187
  let c0_93 : Index := 0#32
  ![v189.toNat, 0]

def k0_off2 (v186 : BitVec 32) : Fin 2 → Nat :=
  let c128_i32_92 : BitVec 32 := 128#32
  let v188 : BitVec 32 := Scalar.muli v186 c128_i32_92
  let v191 : Index := Scalar.indexCast v188
  let c0_94 : Index := 0#32
  ![v191.toNat, 0]

def k0_off3 (v167 : BitVec 32) : Fin 2 → Nat :=
  let c128_i32 : BitVec 32 := 128#32
  let v187 : BitVec 32 := Scalar.muli v167 c128_i32
  let v194 : Index := Scalar.indexCast v187
  let c0_95 : Index := 0#32
  ![v194.toNat, 0]

def k0_chk3 (v167 : BitVec 32) : Prop :=
  (∀ a, (k0_off1 v167) a + S128x512.size a ≤ S2048x512.size a) ∧
  (∀ a, (k0_off3 v167) a + S128x8.size a ≤ S2048x8.size a)
theorem k0_off1_inb : ∀ (v167 : BitVec 32) (k0_hw3 : k0_chk3 v167), ∀ a, (k0_off1 v167) a + S128x512.size a ≤ S2048x512.size a := fun v167 k0_hw3 => k0_hw3.1
theorem k0_off3_inb : ∀ (v167 : BitVec 32) (k0_hw3 : k0_chk3 v167), ∀ a, (k0_off3 v167) a + S128x8.size a ≤ S2048x8.size a := fun v167 k0_hw3 => k0_hw3.2

def k0_off4 (v186 : BitVec 32) : Fin 2 → Nat :=
  let c128_i32_92 : BitVec 32 := 128#32
  let v188 : BitVec 32 := Scalar.muli v186 c128_i32_92
  let v196 : Index := Scalar.indexCast v188
  let c0_96 : Index := 0#32
  ![v196.toNat, 0]

def k0_chk4 (v186 : BitVec 32) : Prop :=
  (∀ a, (k0_off2 v186) a + S128x512.size a ≤ S2048x512.size a) ∧
  (∀ a, (k0_off4 v186) a + S128x8.size a ≤ S2048x8.size a)
theorem k0_off2_inb : ∀ (v186 : BitVec 32) (k0_hw4 : k0_chk4 v186), ∀ a, (k0_off2 v186) a + S128x512.size a ≤ S2048x512.size a := fun v186 k0_hw4 => k0_hw4.1
theorem k0_off4_inb : ∀ (v186 : BitVec 32) (k0_hw4 : k0_chk4 v186), ∀ a, (k0_off4 v186) a + S128x8.size a ≤ S2048x8.size a := fun v186 k0_hw4 => k0_hw4.2

def k0_dev3 (v51 : BitVec 32) : Nat :=
  let c0_i32_107 : BitVec 32 := 0#32
  let c1_i32_106 : BitVec 32 := 1#32
  let v236 : BitVec 32 := Scalar.muli v51 c1_i32_106
  let v237 : BitVec 32 := Scalar.addi c0_i32_107 v236
  v237.toNat
def k0_dev4 (v32 : BitVec 32) : Nat :=
  let c0_i32_113 : BitVec 32 := 0#32
  let c1_i32_112 : BitVec 32 := 1#32
  let v242 : BitVec 32 := Scalar.muli v32 c1_i32_112
  let v243 : BitVec 32 := Scalar.addi c0_i32_113 v242
  v243.toNat
def k0_off5 (v267 : BitVec 32) : Fin 2 → Nat :=
  let c128_i32_135 : BitVec 32 := 128#32
  let v288 : BitVec 32 := Scalar.muli v267 c128_i32_135
  let v290 : Index := Scalar.indexCast v288
  let c0_137 : Index := 0#32
  ![v290.toNat, 0]

def k0_off6 (v287 : BitVec 32) : Fin 2 → Nat :=
  let c128_i32_136 : BitVec 32 := 128#32
  let v289 : BitVec 32 := Scalar.muli v287 c128_i32_136
  let v292 : Index := Scalar.indexCast v289
  let c0_138 : Index := 0#32
  ![v292.toNat, 0]

def k0_off7 (v267 : BitVec 32) : Fin 2 → Nat :=
  let c128_i32_135 : BitVec 32 := 128#32
  let v288 : BitVec 32 := Scalar.muli v267 c128_i32_135
  let v295 : Index := Scalar.indexCast v288
  let c0_139 : Index := 0#32
  ![v295.toNat, 0]

def k0_chk5 (v267 : BitVec 32) : Prop :=
  (∀ a, (k0_off5 v267) a + S128x512.size a ≤ S2048x512.size a) ∧
  (∀ a, (k0_off7 v267) a + S128x8.size a ≤ S2048x8.size a)
theorem k0_off5_inb : ∀ (v267 : BitVec 32) (k0_hw5 : k0_chk5 v267), ∀ a, (k0_off5 v267) a + S128x512.size a ≤ S2048x512.size a := fun v267 k0_hw5 => k0_hw5.1
theorem k0_off7_inb : ∀ (v267 : BitVec 32) (k0_hw5 : k0_chk5 v267), ∀ a, (k0_off7 v267) a + S128x8.size a ≤ S2048x8.size a := fun v267 k0_hw5 => k0_hw5.2

def k0_off8 (v287 : BitVec 32) : Fin 2 → Nat :=
  let c128_i32_136 : BitVec 32 := 128#32
  let v289 : BitVec 32 := Scalar.muli v287 c128_i32_136
  let v297 : Index := Scalar.indexCast v289
  let c0_140 : Index := 0#32
  ![v297.toNat, 0]

def k0_chk6 (v287 : BitVec 32) : Prop :=
  (∀ a, (k0_off6 v287) a + S128x512.size a ≤ S2048x512.size a) ∧
  (∀ a, (k0_off8 v287) a + S128x8.size a ≤ S2048x8.size a)
theorem k0_off6_inb : ∀ (v287 : BitVec 32) (k0_hw6 : k0_chk6 v287), ∀ a, (k0_off6 v287) a + S128x512.size a ≤ S2048x512.size a := fun v287 k0_hw6 => k0_hw6.1
theorem k0_off8_inb : ∀ (v287 : BitVec 32) (k0_hw6 : k0_chk6 v287), ∀ a, (k0_off8 v287) a + S128x8.size a ≤ S2048x8.size a := fun v287 k0_hw6 => k0_hw6.2

def k0_dev5 (v51 : BitVec 32) : Nat :=
  let c0_i32_179 : BitVec 32 := 0#32
  let c1_i32_178 : BitVec 32 := 1#32
  let v361 : BitVec 32 := Scalar.muli v51 c1_i32_178
  let v362 : BitVec 32 := Scalar.addi c0_i32_179 v361
  v362.toNat
def k0_dev6 (v32 : BitVec 32) : Nat :=
  let c0_i32_185 : BitVec 32 := 0#32
  let c1_i32_184 : BitVec 32 := 1#32
  let v367 : BitVec 32 := Scalar.muli v32 c1_i32_184
  let v368 : BitVec 32 := Scalar.addi c0_i32_185 v367
  v368.toNat
def k0_off9 (v392 : BitVec 32) : Fin 2 → Nat :=
  let c128_i32_208 : BitVec 32 := 128#32
  let v413 : BitVec 32 := Scalar.muli v392 c128_i32_208
  let v415 : Index := Scalar.indexCast v413
  let c0_210 : Index := 0#32
  ![v415.toNat, 0]

def k0_off10 (v412 : BitVec 32) : Fin 2 → Nat :=
  let c128_i32_209 : BitVec 32 := 128#32
  let v414 : BitVec 32 := Scalar.muli v412 c128_i32_209
  let v417 : Index := Scalar.indexCast v414
  let c0_211 : Index := 0#32
  ![v417.toNat, 0]

def k0_off11 (v392 : BitVec 32) : Fin 2 → Nat :=
  let c128_i32_208 : BitVec 32 := 128#32
  let v413 : BitVec 32 := Scalar.muli v392 c128_i32_208
  let v420 : Index := Scalar.indexCast v413
  let c0_212 : Index := 0#32
  ![v420.toNat, 0]

def k0_chk7 (v392 : BitVec 32) : Prop :=
  (∀ a, (k0_off9 v392) a + S128x512.size a ≤ S2048x512.size a) ∧
  (∀ a, (k0_off11 v392) a + S128x8.size a ≤ S2048x8.size a)
theorem k0_off9_inb : ∀ (v392 : BitVec 32) (k0_hw7 : k0_chk7 v392), ∀ a, (k0_off9 v392) a + S128x512.size a ≤ S2048x512.size a := fun v392 k0_hw7 => k0_hw7.1
theorem k0_off11_inb : ∀ (v392 : BitVec 32) (k0_hw7 : k0_chk7 v392), ∀ a, (k0_off11 v392) a + S128x8.size a ≤ S2048x8.size a := fun v392 k0_hw7 => k0_hw7.2

def k0_off12 (v412 : BitVec 32) : Fin 2 → Nat :=
  let c128_i32_209 : BitVec 32 := 128#32
  let v414 : BitVec 32 := Scalar.muli v412 c128_i32_209
  let v422 : Index := Scalar.indexCast v414
  let c0_213 : Index := 0#32
  ![v422.toNat, 0]

def k0_chk8 (v412 : BitVec 32) : Prop :=
  (∀ a, (k0_off10 v412) a + S128x512.size a ≤ S2048x512.size a) ∧
  (∀ a, (k0_off12 v412) a + S128x8.size a ≤ S2048x8.size a)
theorem k0_off10_inb : ∀ (v412 : BitVec 32) (k0_hw8 : k0_chk8 v412), ∀ a, (k0_off10 v412) a + S128x512.size a ≤ S2048x512.size a := fun v412 k0_hw8 => k0_hw8.1
theorem k0_off12_inb : ∀ (v412 : BitVec 32) (k0_hw8 : k0_chk8 v412), ∀ a, (k0_off12 v412) a + S128x8.size a ≤ S2048x8.size a := fun v412 k0_hw8 => k0_hw8.2

def k0_dev7 (v51 : BitVec 32) : Nat :=
  let c0_i32_252 : BitVec 32 := 0#32
  let c1_i32_251 : BitVec 32 := 1#32
  let v486 : BitVec 32 := Scalar.muli v51 c1_i32_251
  let v487 : BitVec 32 := Scalar.addi c0_i32_252 v486
  v487.toNat
def k0_dev8 (v32 : BitVec 32) : Nat :=
  let c0_i32_258 : BitVec 32 := 0#32
  let c1_i32_257 : BitVec 32 := 1#32
  let v492 : BitVec 32 := Scalar.muli v32 c1_i32_257
  let v493 : BitVec 32 := Scalar.addi c0_i32_258 v492
  v493.toNat
def k0_off13 (v517 : BitVec 32) : Fin 2 → Nat :=
  let c128_i32_281 : BitVec 32 := 128#32
  let v538 : BitVec 32 := Scalar.muli v517 c128_i32_281
  let v540 : Index := Scalar.indexCast v538
  let c0_283 : Index := 0#32
  ![v540.toNat, 0]

def k0_off14 (v537 : BitVec 32) : Fin 2 → Nat :=
  let c128_i32_282 : BitVec 32 := 128#32
  let v539 : BitVec 32 := Scalar.muli v537 c128_i32_282
  let v542 : Index := Scalar.indexCast v539
  let c0_284 : Index := 0#32
  ![v542.toNat, 0]

def k0_off15 (v517 : BitVec 32) : Fin 2 → Nat :=
  let c128_i32_281 : BitVec 32 := 128#32
  let v538 : BitVec 32 := Scalar.muli v517 c128_i32_281
  let v545 : Index := Scalar.indexCast v538
  let c0_285 : Index := 0#32
  ![v545.toNat, 0]

def k0_chk9 (v517 : BitVec 32) : Prop :=
  (∀ a, (k0_off13 v517) a + S128x512.size a ≤ S2048x512.size a) ∧
  (∀ a, (k0_off15 v517) a + S128x8.size a ≤ S2048x8.size a)
theorem k0_off13_inb : ∀ (v517 : BitVec 32) (k0_hw9 : k0_chk9 v517), ∀ a, (k0_off13 v517) a + S128x512.size a ≤ S2048x512.size a := fun v517 k0_hw9 => k0_hw9.1
theorem k0_off15_inb : ∀ (v517 : BitVec 32) (k0_hw9 : k0_chk9 v517), ∀ a, (k0_off15 v517) a + S128x8.size a ≤ S2048x8.size a := fun v517 k0_hw9 => k0_hw9.2

def k0_off16 (v537 : BitVec 32) : Fin 2 → Nat :=
  let c128_i32_282 : BitVec 32 := 128#32
  let v539 : BitVec 32 := Scalar.muli v537 c128_i32_282
  let v547 : Index := Scalar.indexCast v539
  let c0_286 : Index := 0#32
  ![v547.toNat, 0]

def k0_chk10 (v537 : BitVec 32) : Prop :=
  (∀ a, (k0_off14 v537) a + S128x512.size a ≤ S2048x512.size a) ∧
  (∀ a, (k0_off16 v537) a + S128x8.size a ≤ S2048x8.size a)
theorem k0_off14_inb : ∀ (v537 : BitVec 32) (k0_hw10 : k0_chk10 v537), ∀ a, (k0_off14 v537) a + S128x512.size a ≤ S2048x512.size a := fun v537 k0_hw10 => k0_hw10.1
theorem k0_off16_inb : ∀ (v537 : BitVec 32) (k0_hw10 : k0_chk10 v537), ∀ a, (k0_off16 v537) a + S128x8.size a ≤ S2048x8.size a := fun v537 k0_hw10 => k0_hw10.2

def k0_dev9 (v51 : BitVec 32) : Nat :=
  let c0_i32_324 : BitVec 32 := 0#32
  let c1_i32_323 : BitVec 32 := 1#32
  let v611 : BitVec 32 := Scalar.muli v51 c1_i32_323
  let v612 : BitVec 32 := Scalar.addi c0_i32_324 v611
  v612.toNat
def k0_dev10 (v32 : BitVec 32) : Nat :=
  let c0_i32_330 : BitVec 32 := 0#32
  let c1_i32_329 : BitVec 32 := 1#32
  let v617 : BitVec 32 := Scalar.muli v32 c1_i32_329
  let v618 : BitVec 32 := Scalar.addi c0_i32_330 v617
  v618.toNat
def k0_off17 (v642 : BitVec 32) : Fin 2 → Nat :=
  let c128_i32_353 : BitVec 32 := 128#32
  let v663 : BitVec 32 := Scalar.muli v642 c128_i32_353
  let v665 : Index := Scalar.indexCast v663
  let c0_355 : Index := 0#32
  ![v665.toNat, 0]

def k0_off18 (v662 : BitVec 32) : Fin 2 → Nat :=
  let c128_i32_354 : BitVec 32 := 128#32
  let v664 : BitVec 32 := Scalar.muli v662 c128_i32_354
  let v667 : Index := Scalar.indexCast v664
  let c0_356 : Index := 0#32
  ![v667.toNat, 0]

def k0_off19 (v642 : BitVec 32) : Fin 2 → Nat :=
  let c128_i32_353 : BitVec 32 := 128#32
  let v663 : BitVec 32 := Scalar.muli v642 c128_i32_353
  let v670 : Index := Scalar.indexCast v663
  let c0_357 : Index := 0#32
  ![v670.toNat, 0]

def k0_chk11 (v642 : BitVec 32) : Prop :=
  (∀ a, (k0_off17 v642) a + S128x512.size a ≤ S2048x512.size a) ∧
  (∀ a, (k0_off19 v642) a + S128x8.size a ≤ S2048x8.size a)
theorem k0_off17_inb : ∀ (v642 : BitVec 32) (k0_hw11 : k0_chk11 v642), ∀ a, (k0_off17 v642) a + S128x512.size a ≤ S2048x512.size a := fun v642 k0_hw11 => k0_hw11.1
theorem k0_off19_inb : ∀ (v642 : BitVec 32) (k0_hw11 : k0_chk11 v642), ∀ a, (k0_off19 v642) a + S128x8.size a ≤ S2048x8.size a := fun v642 k0_hw11 => k0_hw11.2

def k0_off20 (v662 : BitVec 32) : Fin 2 → Nat :=
  let c128_i32_354 : BitVec 32 := 128#32
  let v664 : BitVec 32 := Scalar.muli v662 c128_i32_354
  let v672 : Index := Scalar.indexCast v664
  let c0_358 : Index := 0#32
  ![v672.toNat, 0]

def k0_chk12 (v662 : BitVec 32) : Prop :=
  (∀ a, (k0_off18 v662) a + S128x512.size a ≤ S2048x512.size a) ∧
  (∀ a, (k0_off20 v662) a + S128x8.size a ≤ S2048x8.size a)
theorem k0_off18_inb : ∀ (v662 : BitVec 32) (k0_hw12 : k0_chk12 v662), ∀ a, (k0_off18 v662) a + S128x512.size a ≤ S2048x512.size a := fun v662 k0_hw12 => k0_hw12.1
theorem k0_off20_inb : ∀ (v662 : BitVec 32) (k0_hw12 : k0_chk12 v662), ∀ a, (k0_off20 v662) a + S128x8.size a ≤ S2048x8.size a := fun v662 k0_hw12 => k0_hw12.2

def k0_dev11 (v51 : BitVec 32) : Nat :=
  let c0_i32_396 : BitVec 32 := 0#32
  let c1_i32_395 : BitVec 32 := 1#32
  let v736 : BitVec 32 := Scalar.muli v51 c1_i32_395
  let v737 : BitVec 32 := Scalar.addi c0_i32_396 v736
  v737.toNat
def k0_dev12 (v32 : BitVec 32) : Nat :=
  let c0_i32_402 : BitVec 32 := 0#32
  let c1_i32_401 : BitVec 32 := 1#32
  let v742 : BitVec 32 := Scalar.muli v32 c1_i32_401
  let v743 : BitVec 32 := Scalar.addi c0_i32_402 v742
  v743.toNat
def k0_off21 (v767 : BitVec 32) : Fin 2 → Nat :=
  let c128_i32_425 : BitVec 32 := 128#32
  let v788 : BitVec 32 := Scalar.muli v767 c128_i32_425
  let v790 : Index := Scalar.indexCast v788
  let c0_427 : Index := 0#32
  ![v790.toNat, 0]

def k0_off22 (v787 : BitVec 32) : Fin 2 → Nat :=
  let c128_i32_426 : BitVec 32 := 128#32
  let v789 : BitVec 32 := Scalar.muli v787 c128_i32_426
  let v792 : Index := Scalar.indexCast v789
  let c0_428 : Index := 0#32
  ![v792.toNat, 0]

def k0_off23 (v767 : BitVec 32) : Fin 2 → Nat :=
  let c128_i32_425 : BitVec 32 := 128#32
  let v788 : BitVec 32 := Scalar.muli v767 c128_i32_425
  let v795 : Index := Scalar.indexCast v788
  let c0_429 : Index := 0#32
  ![v795.toNat, 0]

def k0_chk13 (v767 : BitVec 32) : Prop :=
  (∀ a, (k0_off21 v767) a + S128x512.size a ≤ S2048x512.size a) ∧
  (∀ a, (k0_off23 v767) a + S128x8.size a ≤ S2048x8.size a)
theorem k0_off21_inb : ∀ (v767 : BitVec 32) (k0_hw13 : k0_chk13 v767), ∀ a, (k0_off21 v767) a + S128x512.size a ≤ S2048x512.size a := fun v767 k0_hw13 => k0_hw13.1
theorem k0_off23_inb : ∀ (v767 : BitVec 32) (k0_hw13 : k0_chk13 v767), ∀ a, (k0_off23 v767) a + S128x8.size a ≤ S2048x8.size a := fun v767 k0_hw13 => k0_hw13.2

def k0_off24 (v787 : BitVec 32) : Fin 2 → Nat :=
  let c128_i32_426 : BitVec 32 := 128#32
  let v789 : BitVec 32 := Scalar.muli v787 c128_i32_426
  let v797 : Index := Scalar.indexCast v789
  let c0_430 : Index := 0#32
  ![v797.toNat, 0]

def k0_chk14 (v787 : BitVec 32) : Prop :=
  (∀ a, (k0_off22 v787) a + S128x512.size a ≤ S2048x512.size a) ∧
  (∀ a, (k0_off24 v787) a + S128x8.size a ≤ S2048x8.size a)
theorem k0_off22_inb : ∀ (v787 : BitVec 32) (k0_hw14 : k0_chk14 v787), ∀ a, (k0_off22 v787) a + S128x512.size a ≤ S2048x512.size a := fun v787 k0_hw14 => k0_hw14.1
theorem k0_off24_inb : ∀ (v787 : BitVec 32) (k0_hw14 : k0_chk14 v787), ∀ a, (k0_off24 v787) a + S128x8.size a ≤ S2048x8.size a := fun v787 k0_hw14 => k0_hw14.2

def k0_dev13 (v51 : BitVec 32) : Nat :=
  let c0_i32_468 : BitVec 32 := 0#32
  let c1_i32_467 : BitVec 32 := 1#32
  let v861 : BitVec 32 := Scalar.muli v51 c1_i32_467
  let v862 : BitVec 32 := Scalar.addi c0_i32_468 v861
  v862.toNat
def k0_dev14 (v32 : BitVec 32) : Nat :=
  let c0_i32_474 : BitVec 32 := 0#32
  let c1_i32_473 : BitVec 32 := 1#32
  let v867 : BitVec 32 := Scalar.muli v32 c1_i32_473
  let v868 : BitVec 32 := Scalar.addi c0_i32_474 v867
  v868.toNat
def k0_off25 (v892 : BitVec 32) : Fin 2 → Nat :=
  let c128_i32_497 : BitVec 32 := 128#32
  let v913 : BitVec 32 := Scalar.muli v892 c128_i32_497
  let v915 : Index := Scalar.indexCast v913
  let c0_499 : Index := 0#32
  ![v915.toNat, 0]

def k0_off26 (v912 : BitVec 32) : Fin 2 → Nat :=
  let c128_i32_498 : BitVec 32 := 128#32
  let v914 : BitVec 32 := Scalar.muli v912 c128_i32_498
  let v917 : Index := Scalar.indexCast v914
  let c0_500 : Index := 0#32
  ![v917.toNat, 0]

def k0_off27 (v892 : BitVec 32) : Fin 2 → Nat :=
  let c128_i32_497 : BitVec 32 := 128#32
  let v913 : BitVec 32 := Scalar.muli v892 c128_i32_497
  let v920 : Index := Scalar.indexCast v913
  let c0_501 : Index := 0#32
  ![v920.toNat, 0]

def k0_chk15 (v892 : BitVec 32) : Prop :=
  (∀ a, (k0_off25 v892) a + S128x512.size a ≤ S2048x512.size a) ∧
  (∀ a, (k0_off27 v892) a + S128x8.size a ≤ S2048x8.size a)
theorem k0_off25_inb : ∀ (v892 : BitVec 32) (k0_hw15 : k0_chk15 v892), ∀ a, (k0_off25 v892) a + S128x512.size a ≤ S2048x512.size a := fun v892 k0_hw15 => k0_hw15.1
theorem k0_off27_inb : ∀ (v892 : BitVec 32) (k0_hw15 : k0_chk15 v892), ∀ a, (k0_off27 v892) a + S128x8.size a ≤ S2048x8.size a := fun v892 k0_hw15 => k0_hw15.2

def k0_off28 (v912 : BitVec 32) : Fin 2 → Nat :=
  let c128_i32_498 : BitVec 32 := 128#32
  let v914 : BitVec 32 := Scalar.muli v912 c128_i32_498
  let v922 : Index := Scalar.indexCast v914
  let c0_502 : Index := 0#32
  ![v922.toNat, 0]

def k0_chk16 (v912 : BitVec 32) : Prop :=
  (∀ a, (k0_off26 v912) a + S128x512.size a ≤ S2048x512.size a) ∧
  (∀ a, (k0_off28 v912) a + S128x8.size a ≤ S2048x8.size a)
theorem k0_off26_inb : ∀ (v912 : BitVec 32) (k0_hw16 : k0_chk16 v912), ∀ a, (k0_off26 v912) a + S128x512.size a ≤ S2048x512.size a := fun v912 k0_hw16 => k0_hw16.1
theorem k0_off28_inb : ∀ (v912 : BitVec 32) (k0_hw16 : k0_chk16 v912), ∀ a, (k0_off28 v912) a + S128x8.size a ≤ S2048x8.size a := fun v912 k0_hw16 => k0_hw16.2

def k0_dev15 (v51 : BitVec 32) : Nat :=
  let c0_i32_541 : BitVec 32 := 0#32
  let c1_i32_540 : BitVec 32 := 1#32
  let v986 : BitVec 32 := Scalar.muli v51 c1_i32_540
  let v987 : BitVec 32 := Scalar.addi c0_i32_541 v986
  v987.toNat

def k0_chk2 (v51 : BitVec 32) : Prop :=
  ((k0_dev2 v51) < nD) ∧
  ((k0_dev3 v51) < nD) ∧
  ((k0_dev5 v51) < nD) ∧
  ((k0_dev7 v51) < nD) ∧
  ((k0_dev9 v51) < nD) ∧
  ((k0_dev11 v51) < nD) ∧
  ((k0_dev13 v51) < nD) ∧
  ((k0_dev15 v51) < nD)
theorem k0_dev2_lt : ∀ (v51 : BitVec 32) (k0_hw2 : k0_chk2 v51), (k0_dev2 v51) < nD := fun v51 k0_hw2 => k0_hw2.1
theorem k0_dev3_lt : ∀ (v51 : BitVec 32) (k0_hw2 : k0_chk2 v51), (k0_dev3 v51) < nD := fun v51 k0_hw2 => k0_hw2.2.1
theorem k0_dev5_lt : ∀ (v51 : BitVec 32) (k0_hw2 : k0_chk2 v51), (k0_dev5 v51) < nD := fun v51 k0_hw2 => k0_hw2.2.2.1
theorem k0_dev7_lt : ∀ (v51 : BitVec 32) (k0_hw2 : k0_chk2 v51), (k0_dev7 v51) < nD := fun v51 k0_hw2 => k0_hw2.2.2.2.1
theorem k0_dev9_lt : ∀ (v51 : BitVec 32) (k0_hw2 : k0_chk2 v51), (k0_dev9 v51) < nD := fun v51 k0_hw2 => k0_hw2.2.2.2.2.1
theorem k0_dev11_lt : ∀ (v51 : BitVec 32) (k0_hw2 : k0_chk2 v51), (k0_dev11 v51) < nD := fun v51 k0_hw2 => k0_hw2.2.2.2.2.2.1
theorem k0_dev13_lt : ∀ (v51 : BitVec 32) (k0_hw2 : k0_chk2 v51), (k0_dev13 v51) < nD := fun v51 k0_hw2 => k0_hw2.2.2.2.2.2.2.1
theorem k0_dev15_lt : ∀ (v51 : BitVec 32) (k0_hw2 : k0_chk2 v51), (k0_dev15 v51) < nD := fun v51 k0_hw2 => k0_hw2.2.2.2.2.2.2.2

def k0_dev16 (v32 : BitVec 32) : Nat :=
  let c0_i32_547 : BitVec 32 := 0#32
  let c1_i32_546 : BitVec 32 := 1#32
  let v992 : BitVec 32 := Scalar.muli v32 c1_i32_546
  let v993 : BitVec 32 := Scalar.addi c0_i32_547 v992
  v993.toNat
def k0_off29 (v1016 : BitVec 32) : Fin 2 → Nat :=
  let c128_i32_559 : BitVec 32 := 128#32
  let v1017 : BitVec 32 := Scalar.muli v1016 c128_i32_559
  let v1018 : Index := Scalar.indexCast v1017
  let c0_560 : Index := 0#32
  ![v1018.toNat, 0]

def k0_off30 (v1016 : BitVec 32) : Fin 2 → Nat :=
  let c128_i32_559 : BitVec 32 := 128#32
  let v1017 : BitVec 32 := Scalar.muli v1016 c128_i32_559
  let v1020 : Index := Scalar.indexCast v1017
  let c0_561 : Index := 0#32
  ![v1020.toNat, 0]

def k0_chk17 (v1016 : BitVec 32) : Prop :=
  (∀ a, (k0_off29 v1016) a + S128x512.size a ≤ S2048x512.size a) ∧
  (∀ a, (k0_off30 v1016) a + S128x8.size a ≤ S2048x8.size a)
theorem k0_off29_inb : ∀ (v1016 : BitVec 32) (k0_hw17 : k0_chk17 v1016), ∀ a, (k0_off29 v1016) a + S128x512.size a ≤ S2048x512.size a := fun v1016 k0_hw17 => k0_hw17.1
theorem k0_off30_inb : ∀ (v1016 : BitVec 32) (k0_hw17 : k0_chk17 v1016), ∀ a, (k0_off30 v1016) a + S128x8.size a ≤ S2048x8.size a := fun v1016 k0_hw17 => k0_hw17.2

def k0_dev17 (v32 : BitVec 32) : Nat :=
  let c0_i32_595 : BitVec 32 := 0#32
  let c1_i32_594 : BitVec 32 := 1#32
  let v1073 : BitVec 32 := Scalar.muli v32 c1_i32_594
  let v1074 : BitVec 32 := Scalar.addi c0_i32_595 v1073
  v1074.toNat

def k0_chk1 (v32 : BitVec 32) : Prop :=
  ((k0_dev1 v32) < nD) ∧
  ((k0_dev4 v32) < nD) ∧
  ((k0_dev6 v32) < nD) ∧
  ((k0_dev8 v32) < nD) ∧
  ((k0_dev10 v32) < nD) ∧
  ((k0_dev12 v32) < nD) ∧
  ((k0_dev14 v32) < nD) ∧
  ((k0_dev16 v32) < nD) ∧
  ((k0_dev17 v32) < nD)
theorem k0_dev1_lt : ∀ (v32 : BitVec 32) (k0_hw1 : k0_chk1 v32), (k0_dev1 v32) < nD := fun v32 k0_hw1 => k0_hw1.1
theorem k0_dev4_lt : ∀ (v32 : BitVec 32) (k0_hw1 : k0_chk1 v32), (k0_dev4 v32) < nD := fun v32 k0_hw1 => k0_hw1.2.1
theorem k0_dev6_lt : ∀ (v32 : BitVec 32) (k0_hw1 : k0_chk1 v32), (k0_dev6 v32) < nD := fun v32 k0_hw1 => k0_hw1.2.2.1
theorem k0_dev8_lt : ∀ (v32 : BitVec 32) (k0_hw1 : k0_chk1 v32), (k0_dev8 v32) < nD := fun v32 k0_hw1 => k0_hw1.2.2.2.1
theorem k0_dev10_lt : ∀ (v32 : BitVec 32) (k0_hw1 : k0_chk1 v32), (k0_dev10 v32) < nD := fun v32 k0_hw1 => k0_hw1.2.2.2.2.1
theorem k0_dev12_lt : ∀ (v32 : BitVec 32) (k0_hw1 : k0_chk1 v32), (k0_dev12 v32) < nD := fun v32 k0_hw1 => k0_hw1.2.2.2.2.2.1
theorem k0_dev14_lt : ∀ (v32 : BitVec 32) (k0_hw1 : k0_chk1 v32), (k0_dev14 v32) < nD := fun v32 k0_hw1 => k0_hw1.2.2.2.2.2.2.1
theorem k0_dev16_lt : ∀ (v32 : BitVec 32) (k0_hw1 : k0_chk1 v32), (k0_dev16 v32) < nD := fun v32 k0_hw1 => k0_hw1.2.2.2.2.2.2.2.1
theorem k0_dev17_lt : ∀ (v32 : BitVec 32) (k0_hw1 : k0_chk1 v32), (k0_dev17 v32) < nD := fun v32 k0_hw1 => k0_hw1.2.2.2.2.2.2.2.2

def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_598 : BitVec 32 := 128#32
  let v1079 : BitVec 32 := Scalar.muli v2 c128_i32_598
  let v1080 : Index := Scalar.indexCast v1079
  let c0_599 : Index := 0#32
  ![v1080.toNat, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_598 : BitVec 32 := 128#32
  let v1079 : BitVec 32 := Scalar.muli v2 c128_i32_598
  let v1082 : Index := Scalar.indexCast v1079
  let c0_600 : Index := 0#32
  ![v1082.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S2048x512x1024 : Shape := ⟨3, ![2048, 512, 1024]⟩
abbrev S2048x1024 : Shape := ⟨2, ![2048, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x128, .bf16⟩
  | .hbm, ⟨2, _⟩ => ⟨S2048x2, .i32⟩
  | .hbm, ⟨3, _⟩ => ⟨S128x512x1024, .bf16⟩
  | .hbm, ⟨4, _⟩ => ⟨S2048x512, .f32⟩
  | .hbm, ⟨5, _⟩ => ⟨S512x128, .f32⟩
  | .hbm, ⟨6, _⟩ => ⟨S128x512x1024, .f32⟩
  | .hbm, ⟨7, _⟩ => ⟨S2048x128, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x128, .f32⟩
  | .hbm, ⟨18, _⟩ => ⟨S2048x128, .f32⟩
  | .hbm, ⟨19, _⟩ => ⟨S2048x1, .i32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S2048x1, .i32⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S_, .i32⟩
  | .hbm, ⟨28, _⟩ => ⟨S2048x1, .i32⟩
  | .hbm, ⟨29, _⟩ => ⟨S2048x1, .i32⟩
  | .hbm, ⟨30, _⟩ => ⟨S2048x1, .i32⟩
  | .hbm, ⟨31, _⟩ => ⟨S2048x1x1, .i32⟩
  | .hbm, ⟨32, _⟩ => ⟨S2048x1, .f32⟩
  | .hbm, ⟨33, _⟩ => ⟨S2048x1, .i32⟩
  | .hbm, ⟨34, _⟩ => ⟨S_, .i32⟩
  | .hbm, ⟨35, _⟩ => ⟨S2048x1, .i32⟩
  | .hbm, ⟨36, _⟩ => ⟨S2048x1, .i1⟩
  | .hbm, ⟨37, _⟩ => ⟨S_, .i32⟩
  | .hbm, ⟨38, _⟩ => ⟨S2048x1, .i32⟩
  | .hbm, ⟨39, _⟩ => ⟨S2048x1, .i32⟩
  | .hbm, ⟨40, _⟩ => ⟨S2048x1, .i32⟩
  | .hbm, ⟨41, _⟩ => ⟨S2048x1x1, .i32⟩
  | .hbm, ⟨42, _⟩ => ⟨S2048x1, .f32⟩
  | .hbm, ⟨43, _⟩ => ⟨S2048x1, .f32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x512x1024, .f32⟩
  | .hbm, ⟨53, _⟩ => ⟨S2048x1024, .f32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S2048x512x1024, .f32⟩
  | .hbm, ⟨63, _⟩ => ⟨S2048x1024, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_2 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Proof.Ring.lean ====
/- The ring of the sixteen devices, and the cells, slots and credits of the exchange. Direction `true`
   goes to the next device of the ring, direction `false` to the one before. -/
module

public import proofs.«01_k».proof.Proof.Gen.KernelIdeal.Launch
public import proofs.«01_k».proof.Proof.Gen.KernelIdeal.Skeleton
public import Idealize.ShloMosaic.Lib.Rounds
public import Idealize.ShloMosaic.Lib.StableHlo
public import Idealize.ShloMosaic.Lib.Memref
public import Idealize.ShloMosaic.Lib.Ring

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

/-- The device at place `k` of the ring, places counted round. -/
def perm (k : ℕ) : Dev nD := ([0, 1, 5, 9, 13, 14, 10, 6, 2, 3, 7, 11, 15, 12, 8, 4] : List (Fin 16)).getD (k % 16) 0
/-- A device's place in the ring. -/
def rank (c : Dev nD) : ℕ := ([0, 1, 8, 9, 15, 2, 7, 10, 14, 3, 6, 11, 13, 4, 5, 12] : List ℕ).getD c.val 0
/-- The neighbour in direction `d`. -/
def nbr (d : Bool) (c : Dev nD) : Dev nD := perm (rank c + (if d then 1 else 15))

theorem nbr_nbr (d : Bool) (c : Dev nD) : nbr (!d) (nbr d c) = c := by revert d c; decide
theorem nbr_nbr' (d : Bool) (c : Dev nD) : nbr d (nbr (!d) c) = c := by revert d c; decide
theorem perm_rank (c : Dev nD) : perm (rank c) = c := by revert c; decide
theorem perm_mod (k : ℕ) : perm (k % 16) = perm k := by unfold perm; rw [Nat.mod_mod]

/-- The neighbour relation as a permutation of the devices. -/
def ring (d : Bool) : Dev nD ≃ Dev nD := ⟨nbr d, nbr (!d), nbr_nbr d, nbr_nbr' d⟩

/-! ## The semaphores and the slots -/

/-- How many messages a device sends in a direction. -/
def nS (d : Bool) : ℕ := if d then 7 else 8

abbrev barS : Sem sig := sig.barrier 0 rfl
abbrev sndS (d : Bool) : DmaSem sig := ⟨if d then 7 else 8, by cases d <;> decide⟩
abbrev rcvS (d : Bool) (s : ℕ) : DmaSem sig := ⟨if d then 9 + min s 6 else 16 + min s 7, by
  cases d
  · show 16 + min s 7 < 24; omega
  · show 9 + min s 6 < 24; omega⟩

abbrev barCell (c : Dev nD) : GSem nD τ sig := ((c : Thread nD τ), .reg barS)
abbrev sndCell (d : Bool) (c : Dev nD) : GSem nD τ sig := ((c : Thread nD τ), .dma (sndS d))
abbrev rcvCell (d : Bool) (s : ℕ) (c : Dev nD) : GSem nD τ sig := ((c : Thread nD τ), .dma (rcvS d s))

theorem inbR (s : ℕ) : ∀ a, (![min s 6, 0, 0] : Fin 3 → Nat) a + S1x128x1024.size a ≤ S7x128x1024.size a := by
  intro a; fin_cases a
  · show min s 6 + 1 ≤ 7; omega
  · exact Nat.le_refl _
  · exact Nat.le_refl _
theorem inbL (s : ℕ) : ∀ a, (![min s 7, 0, 0] : Fin 3 → Nat) a + S1x128x1024.size a ≤ S8x128x1024.size a := by
  intro a; fin_cases a
  · show min s 7 + 1 ≤ 8; omega
  · exact Nat.le_refl _
  · exact Nat.le_refl _

abbrev slotR (s : ℕ) : Memref sig .tc .vmem S128x1024 .bf16 :=
  ((Memref.whole cc0_scratch5).slice (Rect.unit (s := S7x128x1024) ![min s 6, 0, 0] S1x128x1024.size (inbR s)) (fun _ => rfl)).squeeze S128x1024 squeezes_S1x128x1024_S128x1024
abbrev slotL (s : ℕ) : Memref sig .tc .vmem S128x1024 .bf16 :=
  ((Memref.whole cc0_scratch6).slice (Rect.unit (s := S8x128x1024) ![min s 7, 0, 0] S1x128x1024.size (inbL s)) (fun _ => rfl)).squeeze S128x1024 squeezes_S1x128x1024_S128x1024
/-- The slot message `s` of a direction lands in. -/
abbrev slotM (d : Bool) (s : ℕ) : Memref sig .tc .vmem S128x1024 .bf16 := match d with | true => slotR s | false => slotL s
/-- The buffer a direction's messages are sent from. -/
abbrev bufM (d : Bool) : Memref sig .tc .vmem S128x1024 .bf16 := match d with | true => Memref.whole cc0_scratch3 | false => Memref.whole cc0_scratch4

/-- A message's credit. -/
abbrev N : ℕ := (bufM true).view.dmaCredit
theorem N_pos : 0 < N := View.dmaCredit_pos _ (by decide)
theorem credit_slot (d : Bool) (s : ℕ) : (slotM d s).view.dmaCredit = N := by cases d <;> rfl
theorem credit_buf (d : Bool) : (bufM d).view.dmaCredit = N := by cases d <;> rfl

/-! ## Which cells are which -/

theorem rcv_ne_snd (d d' : Bool) (s : ℕ) : (SemLoc.dma (rcvS d s) : SemLoc sig) ≠ .dma (sndS d') := by
  intro h
  have h' := congrArg Fin.val (SemLoc.dma.inj h)
  revert h'
  cases d <;> cases d' <;> dsimp only <;> intro h' <;> simp at h' <;> omega

/-- Which message of which direction lands on a semaphore, if any. -/
def rcvOf (sm : SemLoc sig) : Option (Bool × ℕ) := match sm with
  | .dma q => if 16 ≤ q.val then some (false, q.val - 16) else if 9 ≤ q.val then some (true, q.val - 9) else none
  | .reg _ => none
/-- Which direction's messages complete on a semaphore, if any. -/
def sndOf (sm : SemLoc sig) : Option Bool := match sm with
  | .dma q => if q.val = 7 then some true else if q.val = 8 then some false else none
  | .reg _ => none

theorem rcvOf_rcv {d : Bool} {s : ℕ} (h : s < nS d) : rcvOf (.dma (rcvS d s)) = some (d, s) := by
  cases d
  · have h : s < 8 := h
    have e : min s 7 = s := by omega
    simp only [rcvOf, rcvS, e]; simp
  · have h : s < 7 := h
    have e : min s 6 = s := by omega
    simp only [rcvOf, rcvS, e]
    rw [if_neg (by simp; omega), if_pos (by simp)]; simp
theorem rcvOf_snd (d : Bool) : rcvOf (.dma (sndS d)) = none := by cases d <;> rfl
theorem rcvOf_bar : rcvOf (.reg barS : SemLoc sig) = none := rfl
theorem sndOf_snd (d : Bool) : sndOf (.dma (sndS d)) = some d := by cases d <;> rfl
theorem sndOf_rcv (d : Bool) (s : ℕ) : sndOf (.dma (rcvS d s)) = none := by
  cases d
  · simp only [sndOf, rcvS]; rw [if_neg (by simp; omega), if_neg (by simp; omega)]
  · simp only [sndOf, rcvS]; rw [if_neg (by simp; omega), if_neg (by simp; omega)]
theorem sndOf_bar : sndOf (.reg barS : SemLoc sig) = none := rfl

end Cert.KernelIdeal.Moe

end
-- ==== Proof.Proto.lean ====
/- The exchange's protocol: who pays which semaphore what, in which order, and with which contents. Each device
   tells its two neighbours that its landing slots are free, then sends seven messages one way round the ring and
   eight the other; the contents of every message are a parameter here. -/
module

public import proofs.«01_k».proof.Proof.Ring

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

/-- The resources of the program, its pipeline and its exchange. -/
abbrev MM (F : FTy → Type) : Type := MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- What a device sends: by direction, message number and device. -/
abbrev Msgs (F : FTy → Type) : Type := Bool → ℕ → Dev nD → Vec F S128x1024 .bf16

/-- A landing slot at contents not chosen. -/
def slotAny (d : Bool) (s : ℕ) (c : Dev nD) : sProp (MM F) :=
  iprop(∃ f : Buf (Elt F) ((slotM d s).view.loc (c : Thread nD τ)), (slotM d s).view.loc (c : Thread nD τ) ↦[(slotM d s).view.set]{fullShare} f)

/-- Paid to a device's barrier by its neighbour: the neighbour's slots, and that their cells are at their first round. -/
def barPay (d : Bool) (c : Dev nD) : sProp (MM F) :=
  bigSep (Finset.range (nS d)) fun s => iprop(slotAny d s (nbr d c) ∗ reached ER (rcvCell d s (nbr d c)) 0)
/-- Paid to a sender's cell by its own copy: the buffer back. -/
def sndPay (snd : Msgs F) (d : Bool) (s : ℕ) (c : Dev nD) : sProp (MM F) := owns (c : Thread nD τ) (bufM d) fullShare (snd d s c)
/-- Paid to a receiver's cell by the neighbour's copy: the slot at what was sent. -/
def rcvPay (snd : Msgs F) (d : Bool) (s : ℕ) (c : Dev nD) : sProp (MM F) := owns (c : Thread nD τ) (slotM d s) fullShare (snd d s (nbr (!d) c))

instance slotAny_storable (d : Bool) (s : ℕ) (c : Dev nD) : BI.Storable (upEmb : UEmb _ (MM F)) (slotAny (F := F) d s c) := by
  unfold slotAny; infer_instance
instance barPay_storable (d : Bool) (c : Dev nD) : BI.Storable (upEmb : UEmb _ (MM F)) (barPay (F := F) d c) := by
  unfold barPay; infer_instance
instance sndPay_storable (snd : Msgs F) (d : Bool) (s : ℕ) (c : Dev nD) : BI.Storable (upEmb : UEmb _ (MM F)) (sndPay snd d s c) := by
  unfold sndPay; infer_instance
instance rcvPay_storable (snd : Msgs F) (d : Bool) (s : ℕ) (c : Dev nD) : BI.Storable (upEmb : UEmb _ (MM F)) (rcvPay snd d s c) := by
  unfold rcvPay; infer_instance

def dutiesOf (sm : SemLoc sig) (r : ℕ) : Finset Bool :=
  if sm = .reg barS then (if r = 0 then {true, false} else ∅)
  else if (rcvOf sm).isSome then (if r = 0 then {true} else ∅)
  else match sndOf sm with
    | some d => if r < nS d then {true} else ∅
    | none => ∅

def payOf (snd : Msgs F) (sm : SemLoc sig) (c : Dev nD) (r : ℕ) (b : Bool) : sProp (MM F) :=
  if sm = .reg barS then barPay b c
  else match rcvOf sm with
    | some (d, s) => rcvPay snd d s c
    | none => match sndOf sm with
      | some d => sndPay snd d r c
      | none => iprop(emp)

/-- The schedule: two units on a barrier; a message's credit, once on a receiver's cell and round by round on a sender's. -/
def talk (snd : Msgs F) : Rounds.Schedule (GSem nD τ sig) Bool (MM F) where
  duties g r := if g.1.2 = .tc then dutiesOf g.2 r else ∅
  unitless _ := False
  amount g _ _ := if g.2 = .reg barS then 1 else N
  payload g r b := payOf snd g.2 g.1.1 r b
  amount_pos g _ _ _ := by
    by_cases h : g.2 = .reg barS
    · rw [if_pos h]; exact Nat.one_pos
    · rw [if_neg h]; exact N_pos

instance talk_payload_storable (snd : Msgs F) (g : GSem nD τ sig) (r : ℕ) (b : Bool) :
    BI.Storable (upEmb : UEmb _ (MM F)) ((talk snd).payload g r b) := by
  show BI.Storable upEmb (payOf snd g.2 g.1.1 r b)
  unfold payOf
  repeat' (first | infer_instance | split)

section Sched

variable (snd : Msgs F) (c : Dev nD) (d : Bool)

theorem dma_ne_bar (q : DmaSem sig) : (SemLoc.dma q : SemLoc sig) ≠ .reg barS := fun h => by cases h

theorem duties_bar : (talk snd).duties (barCell c) 0 = {true, false} := by
  dsimp only [talk]
  rw [if_pos rfl]; rfl
theorem duties_snd {r : ℕ} (h : r < nS d) : (talk snd).duties (sndCell d c) r = {true} := by
  dsimp only [talk]
  rw [if_pos rfl]; unfold dutiesOf
  rw [if_neg (dma_ne_bar _), rcvOf_snd, sndOf_snd]; exact if_pos h
theorem duties_rcv {s : ℕ} (h : s < nS d) : (talk snd).duties (rcvCell d s c) 0 = {true} := by
  dsimp only [talk]
  rw [if_pos rfl]; unfold dutiesOf
  rw [if_neg (dma_ne_bar _), rcvOf_rcv h]; rfl

theorem later_bar : ∀ r, 1 ≤ r → (talk snd).duties (barCell c) r = ∅ := fun r hr => by
  dsimp only [talk]
  rw [if_pos rfl]; unfold dutiesOf
  rw [if_pos rfl, if_neg (by omega)]
theorem later_snd : ∀ r, nS d ≤ r → (talk snd).duties (sndCell d c) r = ∅ := fun r hr => by
  dsimp only [talk]
  rw [if_pos rfl]; unfold dutiesOf
  rw [if_neg (dma_ne_bar _), rcvOf_snd, sndOf_snd]; exact if_neg (Nat.not_lt.mpr hr)
theorem later_rcv {s : ℕ} (h : s < nS d) : ∀ r, 1 ≤ r → (talk snd).duties (rcvCell d s c) r = ∅ := fun r hr => by
  dsimp only [talk]
  rw [if_pos rfl]; unfold dutiesOf
  rw [if_neg (dma_ne_bar _), rcvOf_rcv h]; exact if_neg (Nat.ne_of_gt hr)

theorem amount_bar (r : ℕ) (b : Bool) : (talk snd).amount (barCell c) r b = 1 := by dsimp only [talk]; exact if_pos rfl
theorem amount_dma (q : DmaSem sig) (r : ℕ) (b : Bool) : (talk snd).amount ((c : Thread nD τ), .dma q) r b = N := by dsimp only [talk]; exact if_neg (dma_ne_bar _)

theorem expect_bar : (talk snd).expect (barCell c) 0 = 2 := by
  unfold Schedule.expect Schedule.amountOf; rw [duties_bar]; rfl
theorem expect_snd {r : ℕ} (h : r < nS d) : (talk snd).expect (sndCell d c) r = N := by
  unfold Schedule.expect Schedule.amountOf; rw [duties_snd snd c d h, Finset.sum_singleton, amount_dma]
theorem expect_rcv {s : ℕ} (h : s < nS d) : (talk snd).expect (rcvCell d s c) 0 = N := by
  unfold Schedule.expect Schedule.amountOf; rw [duties_rcv snd c d h, Finset.sum_singleton, amount_dma]

theorem payload_bar (b : Bool) : (talk snd).payload (barCell c) 0 b = barPay b c := by dsimp only [talk]; exact if_pos rfl
theorem payload_snd (r : ℕ) (b : Bool) : (talk snd).payload (sndCell d c) r b = sndPay snd d r c := by
  dsimp only [talk]
  unfold payOf; rw [if_neg (dma_ne_bar _), rcvOf_snd, sndOf_snd]
theorem payload_rcv {s : ℕ} (h : s < nS d) (r : ℕ) (b : Bool) : (talk snd).payload (rcvCell d s c) r b = rcvPay snd d s c := by
  dsimp only [talk]
  unfold payOf; rw [if_neg (dma_ne_bar _), rcvOf_rcv h]

theorem rest_bar : bigSep ((talk snd).duties (barCell c) 0 \ ∅) (fun u => (talk snd).payload (barCell c) 0 u) = iprop(barPay true c ∗ barPay false c) := by
  rw [Finset.sdiff_empty, duties_bar, bigSep_insert (by decide), bigSep_singleton, payload_bar, payload_bar]; rfl
theorem rest_snd {r : ℕ} (h : r < nS d) : bigSep ((talk snd).duties (sndCell d c) r \ ∅) (fun u => (talk snd).payload (sndCell d c) r u) = sndPay snd d r c := by
  rw [Finset.sdiff_empty, duties_snd snd c d h, bigSep_singleton, payload_snd]
theorem rest_rcv {s : ℕ} (h : s < nS d) : bigSep ((talk snd).duties (rcvCell d s c) 0 \ ∅) (fun u => (talk snd).payload (rcvCell d s c) 0 u) = rcvPay snd d s c := by
  rw [Finset.sdiff_empty, duties_rcv snd c d h, bigSep_singleton, payload_rcv snd c d h]

end Sched

/-! ## What is owed, and the levels -/

/-- The credits a device still owes its neighbour from message `a` on. -/
def oweDir (d : Bool) (c : Dev nD) (a : ℕ) : CellTallies nD τ sig Unit :=
  ∑ s ∈ Finset.Ico a (nS d), tallyAt (rcvCell d s (nbr d c)) () N

theorem oweDir_succ (d : Bool) (c : Dev nD) {a : ℕ} (h : a < nS d) :
    oweDir d c a = oweDir d c (a + 1) + tallyAt (rcvCell d a (nbr d c)) () N := by
  unfold oweDir; rw [show Finset.Ico a (nS d) = insert a (Finset.Ico (a + 1) (nS d)) from by ext x; simp only [Finset.mem_insert, Finset.mem_Ico]; omega, Finset.sum_insert (by simp), add_comm]
theorem oweDir_end (d : Bool) (c : Dev nD) : oweDir d c (nS d) = 0 := by
  unfold oweDir; rw [Finset.Ico_self, Finset.sum_empty]

theorem oweDir_pos (d : Bool) (c : Dev nD) (a : ℕ) {g : GSem nD τ sig} {u : Unit} (h : 0 < oweDir d c a g u) :
    ∃ s, a ≤ s ∧ s < nS d ∧ g = rcvCell d s (nbr d c) := by
  unfold oweDir at h
  rw [Finset.sum_apply, Finsupp.finset_sum_apply] at h
  obtain ⟨s, hs, hp⟩ := Finset.exists_ne_zero_of_sum_ne_zero (Nat.pos_iff_ne_zero.mp h)
  rw [Finset.mem_Ico] at hs
  refine ⟨s, hs.1, hs.2, ?_⟩
  by_contra hne
  exact hp (by rw [tallyAt_apply, if_neg (fun hh => hne hh.1)])

def L (g : GSem nD τ sig) : Finset Unit := if g.1.2 = .tc then {()} else ∅
/-- A barrier's cell is at level one, the cell of message `s` at level `s + 2`, the rest at zero. -/
def lv (g : GSem nD τ sig) (_ : Unit) : ℕ := if g.2 = .reg barS then 1 else match rcvOf g.2 with | some (_, s) => s + 2 | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_snd (d : Bool) (c : Dev nD) (u : Unit) : lv (sndCell d c) u = 0 := by
  unfold lv; rw [if_neg (dma_ne_bar _), rcvOf_snd]
theorem lv_rcv (d : Bool) {s : ℕ} (h : s < nS d) (c : Dev nD) (u : Unit) : lv (rcvCell d s c) u = s + 2 := by
  unfold lv; rw [if_neg (dma_ne_bar _), rcvOf_rcv h]

/-- A device may wait at a cell below the cells of all the messages it has still to send. -/
theorem mayWait (c : Dev nD) (sm : SemLoc sig) (n a b : ℕ) (hn : lv ((c : Thread nD τ), sm) () ≤ n) (ha : n < a + 2 ∨ nS true ≤ a) (hb : n < b + 2 ∨ nS false ≤ b) :
    (levAts L lv : sProp (MM F)) ⊢ MayWait (c : Thread nD τ) sm () (oweDir true c a + oweDir false c b) := by
  have key : ∀ (g : GSem nD τ sig) (u : Unit), 0 < (oweDir true c a + oweDir false c b) g u →
      ∃ d s, (n < s + 2) ∧ s < nS d ∧ g = rcvCell d s (nbr d c) := by
    intro g u hg
    rw [Pi.add_apply, Finsupp.add_apply] at hg
    by_cases h : 0 < oweDir true c a g u
    · obtain ⟨s, h1, h2, h3⟩ := oweDir_pos true c a h
      exact ⟨true, s, by omega, h2, h3⟩
    · obtain ⟨s, h1, h2, h3⟩ := oweDir_pos false c b (g := g) (u := u) (by omega)
      exact ⟨false, s, by omega, h2, h3⟩
  exact MayOwe.of_cut (L := L) (lev := lv) n (fun p hp => by rw [Finset.mem_singleton.mp hp, L_tc]; exact Finset.mem_singleton_self _)
    (fun g u hg => by
      obtain ⟨d, s, _, _, h⟩ := key g u hg
      rw [h, L_tc]; exact Finset.mem_singleton_self _)
    (fun p hp => by rw [Finset.mem_singleton.mp hp]; exact hn)
    (fun g u hg => by
      obtain ⟨d, s, h1, h2, h⟩ := key g u hg
      rw [h, lv_rcv d h2]; exact h1)

end Cert.KernelIdeal.Moe

end
-- ==== Proof.State.lean ====
/- What a device holds between two operations of the kernel's body, and one rule for each kind of operation. -/
module

public import proofs.«01_k».proof.Proof.Proto

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- A program run on device `c` to a postcondition. -/
abbrev run (c : Dev nD) {α : Type} (p : Prog (TpuEff nD τ sig (Elt F) Λ₀ .tc) α) (Φ : α → sProp (MM F)) : sProp (MM F) :=
  wp frame (wpE (defs₀ (F := F)) 𝒱₀ (c : Thread nD τ) none) Set.univ p Φ

/-! ## Memory -/

/-- The contents of the buffers no other device writes. -/
structure Mem (F : FTy → Type) where
  x : Vec F S2048x512 .bf16
  rw : Vec F S512x128 .bf16
  ix : Vec F S2048x2 .i32
  ex : Vec F S8x512x1024 .bf16
  tp : Vec F S1x16 .i32
  tr : Vec F S1x16 .i32
  o : Vec F S128x1024 .f32
  w : Vec F S2048x8 .bf16
  xb : Vec F S2048x512 .bf16
  ew : Vec F S4096x1024 .bf16

abbrev pt (c : Dev nD) (b : Ref sig .tc) (f : b.ty.Contents (Elt F)) : sProp (MM F) := (Memref.whole b).view.loc (c : Thread nD τ) ↦{fullShare} f

def memS (c : Dev nD) (M : Mem F) : sProp (MM F) :=
  iprop(pt c cc0_stg0_0 M.x ∗ pt c cc0_stg1_0 M.rw ∗ pt c cc0_stg2_0 M.ix ∗ pt c cc0_stg3_0 M.ex ∗ pt c cc0_stg4_0 M.tp ∗ pt c cc0_stg5_0 M.tr
    ∗ pt c cc0_stg6_0 M.o ∗ pt c cc0_scratch0 M.w ∗ pt c cc0_scratch1 M.xb ∗ pt c cc0_scratch2 M.ew)

/-! ## Reading and writing -/

section Rules

variable {c : Dev nD} {α : Type} {Φ : α → sProp (MM F)} {P Q : sProp (MM F)}

/-- A load, of a buffer taken out of what is held and put back. -/
theorem load_step {cs : CoreSpace} {s : Shape} {e : EltTy} {m : Memref sig .tc cs s e} {r : LoadRect s} {hl : m.view.LoadsAt r}
    {k : (r.shape.Idx → Elt F e) → Prog (TpuEff nD τ sig (Elt F) Λ₀ .tc) α} {S : Finset (Idx (m.view.loc (c : Thread nD τ)))} {f : Buf (Elt F) (m.view.loc (c : Thread nD τ))}
    (hS : m.view.setOn r.set ⊆ S)
    (hf : P ⊢ iprop((m.view.loc (c : Thread nD τ) ↦[S]{fullShare} f) ∗ ((m.view.loc (c : Thread nD τ) ↦[S]{fullShare} f) -∗ P)))
    (v : r.shape.Idx → Elt F e) (hv : m.view.readAt (Elt F) r f = v)
    (h : P ⊢ run c (k v) Φ) : P ⊢ run c (.op (.load m r hl) k) Φ := by
  subst hv
  refine hf.trans ?_
  iintro ⟨H, Hc⟩
  iapply (wp_load 𝒱₀ (c : Thread nD τ) none Set.univ hS) $$ H
  iintro H
  iapply h
  iapply Hc $$ H

/-- A store, of a buffer taken out of what is held and put back rewritten. -/
theorem store_step {cs : CoreSpace} {s : Shape} {e : EltTy} {m : Memref sig .tc cs s e} {r : Rect s} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {S : Finset (Idx ((m.access r).loc (c : Thread nD τ)))} {f f' : Buf (Elt F) ((m.access r).loc (c : Thread nD τ))}
    (hS : (m.access r).setOn Finset.univ ⊆ S)
    (hf : P ⊢ iprop(((m.access r).loc (c : Thread nD τ) ↦[S]{fullShare} f) ∗ (((m.access r).loc (c : Thread nD τ) ↦[S]{fullShare} f') -∗ Q)))
    (hv : (m.access r).write (Elt F) f w Finset.univ = f')
    (h : Q ⊢ run c (k ⟨⟩) Φ) : P ⊢ run c (.op (.store m r w Finset.univ hx hm) k) Φ := by
  subst hv
  refine hf.trans ?_
  iintro ⟨H, Hc⟩
  iapply (wp_store 𝒱₀ (c : Thread nD τ) none Set.univ hS) $$ H
  iintro H
  iapply h
  iapply Hc $$ H

theorem assume_step {p : Prop} {d : Decidable p} {k : PLift p → Prog (TpuEff nD τ sig (Elt F) Λ₀ .tc) α} (hp : p)
    (h : P ⊢ run c (k ⟨hp⟩) Φ) : P ⊢ run c (.op (.assume p d) k) Φ :=
  h.trans (wp_assume 𝒱₀ (c : Thread nD τ) none Set.univ hp)

theorem device_step {k : Dev nD → Prog (TpuEff nD τ sig (Elt F) Λ₀ .tc) α} (h : P ⊢ run c (k c) Φ) : P ⊢ run c (.op .deviceId k) Φ := by
  refine h.trans ?_
  unfold run; rw [wp_deviceId]

end Rules

/-! ### Taking one buffer out of the memory -/

section Focus

variable {c : Dev nD} {M : Mem F} {X : sProp (MM F)} {α : Type} {Φ : α → sProp (MM F)}

theorem foc_x (f' : (cc0_stg0_0).ty.Contents (Elt F)) : iprop(memS c M ∗ X) ⊢ iprop(pt c cc0_stg0_0 M.x ∗ (pt c cc0_stg0_0 f' -∗ (memS c { M with x := f' } ∗ X))) := by
  unfold memS
  iintro ⟨⟨H0, H1, H2, H3, H4, H5, H6, H7, H8, H9⟩, HX⟩
  isplitl [H0]; · iexact H0
  iintro H0
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_x {r : LoadRect _} {hl : (Memref.whole cc0_stg0_0).view.LoadsAt r} {k : (r.shape.Idx → Elt F _) → Prog (TpuEff nD τ sig (Elt F) Λ₀ .tc) α} (v : r.shape.Idx → Elt F _)
    (hv : (Memref.whole cc0_stg0_0).view.readAt (Elt F) r M.x = v) (h : iprop(memS c M ∗ X) ⊢ run c (k v) Φ) :
    iprop(memS c M ∗ X) ⊢ run c (.op (.load (Memref.whole cc0_stg0_0) r hl) k) Φ :=
  load_step (Finset.subset_univ _) (foc_x M.x) v hv h

theorem foc_rw (f' : (cc0_stg1_0).ty.Contents (Elt F)) : iprop(memS c M ∗ X) ⊢ iprop(pt c cc0_stg1_0 M.rw ∗ (pt c cc0_stg1_0 f' -∗ (memS c { M with rw := f' } ∗ X))) := by
  unfold memS
  iintro ⟨⟨H0, H1, H2, H3, H4, H5, H6, H7, H8, H9⟩, HX⟩
  isplitl [H1]; · iexact H1
  iintro H1
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_rw {r : LoadRect _} {hl : (Memref.whole cc0_stg1_0).view.LoadsAt r} {k : (r.shape.Idx → Elt F _) → Prog (TpuEff nD τ sig (Elt F) Λ₀ .tc) α} (v : r.shape.Idx → Elt F _)
    (hv : (Memref.whole cc0_stg1_0).view.readAt (Elt F) r M.rw = v) (h : iprop(memS c M ∗ X) ⊢ run c (k v) Φ) :
    iprop(memS c M ∗ X) ⊢ run c (.op (.load (Memref.whole cc0_stg1_0) r hl) k) Φ :=
  load_step (Finset.subset_univ _) (foc_rw M.rw) v hv h

theorem foc_ix (f' : (cc0_stg2_0).ty.Contents (Elt F)) : iprop(memS c M ∗ X) ⊢ iprop(pt c cc0_stg2_0 M.ix ∗ (pt c cc0_stg2_0 f' -∗ (memS c { M with ix := f' } ∗ X))) := by
  unfold memS
  iintro ⟨⟨H0, H1, H2, H3, H4, H5, H6, H7, H8, H9⟩, HX⟩
  isplitl [H2]; · iexact H2
  iintro H2
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_ix {r : LoadRect _} {hl : (Memref.whole cc0_stg2_0).view.LoadsAt r} {k : (r.shape.Idx → Elt F _) → Prog (TpuEff nD τ sig (Elt F) Λ₀ .tc) α} (v : r.shape.Idx → Elt F _)
    (hv : (Memref.whole cc0_stg2_0).view.readAt (Elt F) r M.ix = v) (h : iprop(memS c M ∗ X) ⊢ run c (k v) Φ) :
    iprop(memS c M ∗ X) ⊢ run c (.op (.load (Memref.whole cc0_stg2_0) r hl) k) Φ :=
  load_step (Finset.subset_univ _) (foc_ix M.ix) v hv h

theorem foc_ex (f' : (cc0_stg3_0).ty.Contents (Elt F)) : iprop(memS c M ∗ X) ⊢ iprop(pt c cc0_stg3_0 M.ex ∗ (pt c cc0_stg3_0 f' -∗ (memS c { M with ex := f' } ∗ X))) := by
  unfold memS
  iintro ⟨⟨H0, H1, H2, H3, H4, H5, H6, H7, H8, H9⟩, HX⟩
  isplitl [H3]; · iexact H3
  iintro H3
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_ex {r : LoadRect _} {hl : (Memref.whole cc0_stg3_0).view.LoadsAt r} {k : (r.shape.Idx → Elt F _) → Prog (TpuEff nD τ sig (Elt F) Λ₀ .tc) α} (v : r.shape.Idx → Elt F _)
    (hv : (Memref.whole cc0_stg3_0).view.readAt (Elt F) r M.ex = v) (h : iprop(memS c M ∗ X) ⊢ run c (k v) Φ) :
    iprop(memS c M ∗ X) ⊢ run c (.op (.load (Memref.whole cc0_stg3_0) r hl) k) Φ :=
  load_step (Finset.subset_univ _) (foc_ex M.ex) v hv h

theorem foc_tp (f' : (cc0_stg4_0).ty.Contents (Elt F)) : iprop(memS c M ∗ X) ⊢ iprop(pt c cc0_stg4_0 M.tp ∗ (pt c cc0_stg4_0 f' -∗ (memS c { M with tp := f' } ∗ X))) := by
  unfold memS
  iintro ⟨⟨H0, H1, H2, H3, H4, H5, H6, H7, H8, H9⟩, HX⟩
  isplitl [H4]; · iexact H4
  iintro H4
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_tp {r : LoadRect _} {hl : (Memref.whole cc0_stg4_0).view.LoadsAt r} {k : (r.shape.Idx → Elt F _) → Prog (TpuEff nD τ sig (Elt F) Λ₀ .tc) α} (v : r.shape.Idx → Elt F _)
    (hv : (Memref.whole cc0_stg4_0).view.readAt (Elt F) r M.tp = v) (h : iprop(memS c M ∗ X) ⊢ run c (k v) Φ) :
    iprop(memS c M ∗ X) ⊢ run c (.op (.load (Memref.whole cc0_stg4_0) r hl) k) Φ :=
  load_step (Finset.subset_univ _) (foc_tp M.tp) v hv h

theorem foc_tr (f' : (cc0_stg5_0).ty.Contents (Elt F)) : iprop(memS c M ∗ X) ⊢ iprop(pt c cc0_stg5_0 M.tr ∗ (pt c cc0_stg5_0 f' -∗ (memS c { M with tr := f' } ∗ X))) := by
  unfold memS
  iintro ⟨⟨H0, H1, H2, H3, H4, H5, H6, H7, H8, H9⟩, HX⟩
  isplitl [H5]; · iexact H5
  iintro H5
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_tr {r : LoadRect _} {hl : (Memref.whole cc0_stg5_0).view.LoadsAt r} {k : (r.shape.Idx → Elt F _) → Prog (TpuEff nD τ sig (Elt F) Λ₀ .tc) α} (v : r.shape.Idx → Elt F _)
    (hv : (Memref.whole cc0_stg5_0).view.readAt (Elt F) r M.tr = v) (h : iprop(memS c M ∗ X) ⊢ run c (k v) Φ) :
    iprop(memS c M ∗ X) ⊢ run c (.op (.load (Memref.whole cc0_stg5_0) r hl) k) Φ :=
  load_step (Finset.subset_univ _) (foc_tr M.tr) v hv h

theorem foc_o (f' : (cc0_stg6_0).ty.Contents (Elt F)) : iprop(memS c M ∗ X) ⊢ iprop(pt c cc0_stg6_0 M.o ∗ (pt c cc0_stg6_0 f' -∗ (memS c { M with o := f' } ∗ X))) := by
  unfold memS
  iintro ⟨⟨H0, H1, H2, H3, H4, H5, H6, H7, H8, H9⟩, HX⟩
  isplitl [H6]; · iexact H6
  iintro H6
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_o {r : LoadRect _} {hl : (Memref.whole cc0_stg6_0).view.LoadsAt r} {k : (r.shape.Idx → Elt F _) → Prog (TpuEff nD τ sig (Elt F) Λ₀ .tc) α} (v : r.shape.Idx → Elt F _)
    (hv : (Memref.whole cc0_stg6_0).view.readAt (Elt F) r M.o = v) (h : iprop(memS c M ∗ X) ⊢ run c (k v) Φ) :
    iprop(memS c M ∗ X) ⊢ run c (.op (.load (Memref.whole cc0_stg6_0) r hl) k) Φ :=
  load_step (Finset.subset_univ _) (foc_o M.o) v hv h
theorem store_o {r : Rect _} {w : r.shape.Idx → Elt F _} {hx : ((Memref.whole cc0_stg6_0).access r).Stores Finset.univ} {hm : (Finset.univ : Finset r.shape.Idx) = Finset.univ ∨ ∀ a, r.stride a = 1}
    {k : PUnit → Prog (TpuEff nD τ sig (Elt F) Λ₀ .tc) α} (f' : (cc0_stg6_0).ty.Contents (Elt F))
    (hv : ((Memref.whole cc0_stg6_0).access r).write (Elt F) M.o w Finset.univ = f') (h : iprop(memS c { M with o := f' } ∗ X) ⊢ run c (k ⟨⟩) Φ) :
    iprop(memS c M ∗ X) ⊢ run c (.op (.store (Memref.whole cc0_stg6_0) r w Finset.univ hx hm) k) Φ :=
  store_step (Finset.subset_univ _) (foc_o f') hv h

theorem foc_w (f' : (cc0_scratch0).ty.Contents (Elt F)) : iprop(memS c M ∗ X) ⊢ iprop(pt c cc0_scratch0 M.w ∗ (pt c cc0_scratch0 f' -∗ (memS c { M with w := f' } ∗ X))) := by
  unfold memS
  iintro ⟨⟨H0, H1, H2, H3, H4, H5, H6, H7, H8, H9⟩, HX⟩
  isplitl [H7]; · iexact H7
  iintro H7
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_w {r : LoadRect _} {hl : (Memref.whole cc0_scratch0).view.LoadsAt r} {k : (r.shape.Idx → Elt F _) → Prog (TpuEff nD τ sig (Elt F) Λ₀ .tc) α} (v : r.shape.Idx → Elt F _)
    (hv : (Memref.whole cc0_scratch0).view.readAt (Elt F) r M.w = v) (h : iprop(memS c M ∗ X) ⊢ run c (k v) Φ) :
    iprop(memS c M ∗ X) ⊢ run c (.op (.load (Memref.whole cc0_scratch0) r hl) k) Φ :=
  load_step (Finset.subset_univ _) (foc_w M.w) v hv h
theorem store_w {r : Rect _} {w : r.shape.Idx → Elt F _} {hx : ((Memref.whole cc0_scratch0).access r).Stores Finset.univ} {hm : (Finset.univ : Finset r.shape.Idx) = Finset.univ ∨ ∀ a, r.stride a = 1}
    {k : PUnit → Prog (TpuEff nD τ sig (Elt F) Λ₀ .tc) α} (f' : (cc0_scratch0).ty.Contents (Elt F))
    (hv : ((Memref.whole cc0_scratch0).access r).write (Elt F) M.w w Finset.univ = f') (h : iprop(memS c { M with w := f' } ∗ X) ⊢ run c (k ⟨⟩) Φ) :
    iprop(memS c M ∗ X) ⊢ run c (.op (.store (Memref.whole cc0_scratch0) r w Finset.univ hx hm) k) Φ :=
  store_step (Finset.subset_univ _) (foc_w f') hv h

theorem foc_xb (f' : (cc0_scratch1).ty.Contents (Elt F)) : iprop(memS c M ∗ X) ⊢ iprop(pt c cc0_scratch1 M.xb ∗ (pt c cc0_scratch1 f' -∗ (memS c { M with xb := f' } ∗ X))) := by
  unfold memS
  iintro ⟨⟨H0, H1, H2, H3, H4, H5, H6, H7, H8, H9⟩, HX⟩
  isplitl [H8]; · iexact H8
  iintro H8
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_xb {r : LoadRect _} {hl : (Memref.whole cc0_scratch1).view.LoadsAt r} {k : (r.shape.Idx → Elt F _) → Prog (TpuEff nD τ sig (Elt F) Λ₀ .tc) α} (v : r.shape.Idx → Elt F _)
    (hv : (Memref.whole cc0_scratch1).view.readAt (Elt F) r M.xb = v) (h : iprop(memS c M ∗ X) ⊢ run c (k v) Φ) :
    iprop(memS c M ∗ X) ⊢ run c (.op (.load (Memref.whole cc0_scratch1) r hl) k) Φ :=
  load_step (Finset.subset_univ _) (foc_xb M.xb) v hv h
theorem store_xb {r : Rect _} {w : r.shape.Idx → Elt F _} {hx : ((Memref.whole cc0_scratch1).access r).Stores Finset.univ} {hm : (Finset.univ : Finset r.shape.Idx) = Finset.univ ∨ ∀ a, r.stride a = 1}
    {k : PUnit → Prog (TpuEff nD τ sig (Elt F) Λ₀ .tc) α} (f' : (cc0_scratch1).ty.Contents (Elt F))
    (hv : ((Memref.whole cc0_scratch1).access r).write (Elt F) M.xb w Finset.univ = f') (h : iprop(memS c { M with xb := f' } ∗ X) ⊢ run c (k ⟨⟩) Φ) :
    iprop(memS c M ∗ X) ⊢ run c (.op (.store (Memref.whole cc0_scratch1) r w Finset.univ hx hm) k) Φ :=
  store_step (Finset.subset_univ _) (foc_xb f') hv h

theorem foc_ew (f' : (cc0_scratch2).ty.Contents (Elt F)) : iprop(memS c M ∗ X) ⊢ iprop(pt c cc0_scratch2 M.ew ∗ (pt c cc0_scratch2 f' -∗ (memS c { M with ew := f' } ∗ X))) := by
  unfold memS
  iintro ⟨⟨H0, H1, H2, H3, H4, H5, H6, H7, H8, H9⟩, HX⟩
  isplitl [H9]; · iexact H9
  iintro H9
  isplitr [HX]; swap; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem load_ew {r : LoadRect _} {hl : (Memref.whole cc0_scratch2).view.LoadsAt r} {k : (r.shape.Idx → Elt F _) → Prog (TpuEff nD τ sig (Elt F) Λ₀ .tc) α} (v : r.shape.Idx → Elt F _)
    (hv : (Memref.whole cc0_scratch2).view.readAt (Elt F) r M.ew = v) (h : iprop(memS c M ∗ X) ⊢ run c (k v) Φ) :
    iprop(memS c M ∗ X) ⊢ run c (.op (.load (Memref.whole cc0_scratch2) r hl) k) Φ :=
  load_step (Finset.subset_univ _) (foc_ew M.ew) v hv h
theorem store_ew {r : Rect _} {w : r.shape.Idx → Elt F _} {hx : ((Memref.whole cc0_scratch2).access r).Stores Finset.univ} {hm : (Finset.univ : Finset r.shape.Idx) = Finset.univ ∨ ∀ a, r.stride a = 1}
    {k : PUnit → Prog (TpuEff nD τ sig (Elt F) Λ₀ .tc) α} (f' : (cc0_scratch2).ty.Contents (Elt F))
    (hv : ((Memref.whole cc0_scratch2).access r).write (Elt F) M.ew w Finset.univ = f') (h : iprop(memS c { M with ew := f' } ∗ X) ⊢ run c (k ⟨⟩) Φ) :
    iprop(memS c M ∗ X) ⊢ run c (.op (.store (Memref.whole cc0_scratch2) r w Finset.univ hx hm) k) Φ :=
  store_step (Finset.subset_univ _) (foc_ew f') hv h

end Focus

end Cert.KernelIdeal.Moe

end
-- ==== Proof.Steps.lean ====
/- The exchange's state on a device, and the rules of its sends and waits. -/
module

public import proofs.«01_k».proof.Proof.State
public import Idealize.SL.BI.BigOpNat

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The state of one direction -/

section Dir

variable (snd : Msgs F) (d : Bool) (c : Dev nD)

/-- What message `s` needs beside its buffer: its two duties and the neighbour's slot. -/
noncomputable def needs (s : ℕ) : sProp (MM F) :=
  iprop(dutyTok ER (rcvCell d s (nbr d c)) 0 true ∗ dutyTok ER (sndCell d c) s true ∗ slotAny d s (nbr d c) ∗ reached ER (rcvCell d s (nbr d c)) 0)

/-- The buffer, in hand at known contents or away with the last message; `a` messages have been sent. -/
noncomputable def bufSt (a : ℕ) : Option (Vec F S128x1024 .bf16) → sProp (MM F)
  | some x => iprop(atPos ER (sndCell d c) a ∅ 0 ∗ reached ER (sndCell d c) a ∗ owns (c : Thread nD τ) (bufM d) fullShare x)
  | none => iprop(atPos ER (sndCell d c) (a - 1) ∅ 0 ∗ cred (tallyAt (sndCell d c) () N))

/-- A message still to come. -/
noncomputable def toCome (s : ℕ) : sProp (MM F) := iprop(atPos ER (rcvCell d s c) 0 ∅ 0 ∗ cred (tallyAt (rcvCell d s c) () N))
/-- A message that has come. -/
noncomputable def came (s : ℕ) : sProp (MM F) := iprop(atPos ER (rcvCell d s c) 1 ∅ 0 ∗ rcvPay snd d s c)

/-- One direction: `a` sent, `w` received. -/
noncomputable def dirSt (a : ℕ) (x : Option (Vec F S128x1024 .bf16)) (w : ℕ) : sProp (MM F) :=
  iprop(bigSep (Finset.Ico a (nS d)) (needs d c) ∗ bufSt d c a x ∗ bigSep (Finset.Ico w (nS d)) (toCome d c) ∗ bigSep (Finset.range w) (came snd d c))

end Dir

/-- The cells of the exchange. -/
noncomputable def cellSems : Finset (SemLoc sig) := insert (.reg barS) (Finset.univ.image fun k : Fin 17 => SemLoc.dma (⟨7 + k.val, (by omega : 7 + k.val < 24)⟩ : DmaSem sig))
noncomputable def talkCells : Finset (GSem nD τ sig) := Finset.univ.biUnion fun c : Dev nD => cellSems.image fun sm => ((c : Thread nD τ), sm)

theorem mem_talk (c : Dev nD) {sm : SemLoc sig} (h : sm ∈ cellSems) : ((c : Thread nD τ), sm) ∈ talkCells :=
  Finset.mem_biUnion.mpr ⟨c, Finset.mem_univ _, Finset.mem_image.mpr ⟨sm, h, rfl⟩⟩
theorem bar_mem (c : Dev nD) : barCell c ∈ talkCells := mem_talk c (Finset.mem_insert_self _ _)
theorem snd_mem (d : Bool) (c : Dev nD) : sndCell d c ∈ talkCells := mem_talk c (Finset.mem_insert_of_mem
  (Finset.mem_image.mpr (by cases d; exacts [⟨1, Finset.mem_univ _, rfl⟩, ⟨0, Finset.mem_univ _, rfl⟩])))
theorem rcv_mem (d : Bool) (s : ℕ) (c : Dev nD) : rcvCell d s c ∈ talkCells := mem_talk c (Finset.mem_insert_of_mem
  (Finset.mem_image.mpr (by
    cases d
    · refine ⟨⟨9 + min s 7, by omega⟩, Finset.mem_univ _, congrArg SemLoc.dma (Fin.ext ?_)⟩
      show 7 + (9 + min s 7) = 16 + min s 7; omega
    · refine ⟨⟨2 + min s 6, by omega⟩, Finset.mem_univ _, congrArg SemLoc.dma (Fin.ext ?_)⟩
      show 7 + (2 + min s 6) = 9 + min s 6; omega)))

/-- What every device may consult: the invariants of all the cells, and the levels. -/
noncomputable def ctx (snd : Msgs F) (K : GSem nD τ sig → ℕ) : sProp (MM F) :=
  iprop((bigSep talkCells fun g => cellInv ER (talk snd) (K g) g) ∗ levAts L lv)
instance ctx_persistent (snd : Msgs F) (K : GSem nD τ sig → ℕ) : BI.Persistent (ctx snd K) := by unfold ctx; infer_instance

theorem inv_at (snd : Msgs F) (K : GSem nD τ sig → ℕ) {g : GSem nD τ sig} (hg : g ∈ talkCells) :
    (bigSep talkCells fun g => (cellInv ER (talk snd) (K g) g : sProp (MM F))) ⊢ cellInv ER (talk snd) (K g) g := bigSep_elim hg
theorem ctx_inv (snd : Msgs F) (K : GSem nD τ sig → ℕ) {g : GSem nD τ sig} (hg : g ∈ talkCells) : ctx snd K ⊢ cellInv ER (talk snd) (K g) g := by
  unfold ctx; iintro ⟨#H, -⟩; iapply (inv_at snd K hg); iexact H
theorem ctx_wait (snd : Msgs F) (K : GSem nD τ sig → ℕ) (c : Dev nD) (sm : SemLoc sig) (n a b : ℕ) (hn : lv ((c : Thread nD τ), sm) () ≤ n) (ha : n < a + 2 ∨ nS true ≤ a) (hb : n < b + 2 ∨ nS false ≤ b) :
    ctx snd K ⊢ MayWait (c : Thread nD τ) sm () (oweDir true c a + oweDir false c b) := by
  unfold ctx; iintro ⟨-, #H⟩; iapply (mayWait c sm n a b hn ha hb); iexact H

/-- What a device owes, whatever it has waited for. -/
noncomputable def owing (c : Dev nD) (O : CellTallies nD τ sig Unit) : sProp (MM F) := iprop(∃ W, owes (c : Thread nD τ) O W)

/-- The whole state of the exchange. -/
noncomputable def st (snd : Msgs F) (K : GSem nD τ sig → ℕ) (c : Dev nD) (a : ℕ) (x : Option (Vec F S128x1024 .bf16)) (w : ℕ)
    (b : ℕ) (y : Option (Vec F S128x1024 .bf16)) (v : ℕ) : sProp (MM F) :=
  iprop(ctx snd K ∗ dirSt snd true c a x w ∗ dirSt snd false c b y v ∗ owing c (oweDir true c a + oweDir false c b))

/-! ## The rules, for either direction -/

section Rules

variable {snd : Msgs F} {K : GSem nD τ sig → ℕ} {c : Dev nD} {α : Type} {Φ : α → sProp (MM F)} {X : sProp (MM F)}

theorem send_core (d : Bool) {s w : ℕ} (hs : s < nS d) (O : CellTallies nD τ sig Unit)
    {hsc} {hsrc : (bufM d).view.WordExact} {hdst : (slotM d s).view.WordExact} {hsem}
    {k : PUnit → Prog (TpuEff nD τ sig (Elt F) Λ₀ .tc) α} :
    iprop(ctx snd K ∗ dirSt snd d c s (some (snd d s c)) w ∗ owing c (O + oweDir d c s))
      ⊢ iprop(((dirSt snd d c (s + 1) none w ∗ owing c (O + oweDir d c (s + 1))) -∗ run c (k ⟨⟩) Φ)
        -∗ run c (.op (.enqueueDma (bufM d) (.remote (Dev.tc (nbr d c)) (slotM d s) (.dma (sndS d)) hsc) (.dma (rcvS d s)) hsrc hdst hsem) k) Φ) := by
  unfold dirSt
  rw [bigSep_Ico_succ_bot hs]
  unfold bufSt needs slotAny owns owing
  iintro ⟨#HC, ⟨⟨⟨Ht1, Ht2, ⟨%fd, Hs⟩, #Hr1⟩, HN⟩, ⟨HaS, #Hr2, ⟨%fs, %hfs, Hb⟩⟩, HR⟩, ⟨%W, HO⟩⟩ Hk
  iapply (Rounds.wp_send_pointsTo 𝒱₀ ER (talk snd) (c : Thread nD τ) none (c' := (nbr d c : Thread nD τ)) (src := bufM d) (dst := slotM d s)
      (sS := .dma (sndS d)) (sem := .dma (rcvS d s)) (q := fullShare) (fs := fs) (κ₁ := K (sndCell d c)) (κ₂ := K (rcvCell d s (nbr d c)))
      (r₁ := s) (r₂ := 0) (d₁ := true) (d₂ := true) (fd := fd)
      (by rw [duties_snd snd c d hs]; exact Finset.mem_singleton_self _) (by rw [duties_rcv snd (nbr d c) d hs]; exact Finset.mem_singleton_self _)
      () () N (credit_slot d s) (amount_dma snd c (sndS d) s true) (amount_dma snd (nbr d c) (rcvS d s) 0 true) (O + oweDir d c (s + 1)) (O₀ := O + oweDir d c s)
      (by rw [oweDir_succ d c hs, add_assoc]) (W := W)
      (by rw [payload_snd]; unfold sndPay; rw [← hfs]; exact owns_intro _ _ _ _)
      (by rw [payload_rcv snd (nbr d c) d hs]; unfold rcvPay; rw [nbr_nbr, hfs]
          refine (owns_intro _ _ _ _).trans ?_; rw [View.read_write_univ])) $$ [Hb Hs HO Ht1 Ht2]
  · isplitr; · iapply (ctx_inv snd K (snd_mem d c)); iexact HC
    isplitr; · iapply (ctx_inv snd K (rcv_mem d s (nbr d c))); iexact HC
    isplitl [Hb]; · iexact Hb
    isplitl [Hs]; · iexact Hs
    isplitl [HO]; · iexact HO
    isplitl [Ht2]; · iexact Ht2
    isplitr; · iexact Hr2
    isplitl [Ht1]; · iexact Ht1
    iexact Hr1
  iintro ⟨Hcr, HO⟩
  iapply Hk
  isplitr [HO]; swap; · iexists W; iexact HO
  isplitl [HN]; · iexact HN
  isplitl [HaS Hcr]
  · isplitl [HaS]; · iexact HaS
    iexact Hcr
  iexact HR

theorem wait_snd_core (d : Bool) {s w a b : ℕ} (hs : s < nS d)
    {sp : Space} {sh : Shape} {e : EltTy} {src : Memref sig .tc sp sh e} {dst : Memref sig .tc .vmem S128x1024 .bf16} {hsrc hdst}
    (hcr : dst.view.dmaCredit = N)
    {k : PUnit → Prog (TpuEff nD τ sig (Elt F) Λ₀ .tc) α} :
    iprop(ctx snd K ∗ dirSt snd d c (s + 1) none w ∗ owing c (oweDir true c a + oweDir false c b))
      ⊢ iprop(((dirSt snd d c (s + 1) (some (snd d s c)) w ∗ owing c (oweDir true c a + oweDir false c b)) -∗ run c (k ⟨⟩) Φ)
        -∗ run c (.op (.waitDma2 (sndS d) src dst hsrc hdst) k) Φ) := by
  have hm : ctx snd K ⊢ MayWait (c : Thread nD τ) (.dma (sndS d)) () (oweDir true c a + oweDir false c b) :=
    ctx_wait snd K c _ 0 a b (le_of_eq (lv_snd d c ())) (Or.inl (Nat.succ_pos _)) (Or.inl (Nat.succ_pos _))
  unfold dirSt bufSt owing
  rw [Nat.add_sub_cancel]
  iintro ⟨#HC, ⟨HN, ⟨HaS, Hcr⟩, HR⟩, ⟨%W, HO⟩⟩ Hk
  iapply (Rounds.wp_wait_rest_token 𝒱₀ ER (talk snd) (c : Thread nD τ) none (κ := K (sndCell d c))
      (wpE_waitDma2_eq 𝒱₀ (c : Thread nD τ) none Set.univ) (Set.mem_univ _) () (O := oweDir true c a + oweDir false c b) (W := W) (R := s) (m := 0) (T := ∅) (k' := dst.view.dmaCredit)
      (by rw [Nat.zero_add, expect_snd snd c d hs])) $$ [Hcr HO HaS]
  · isplitr; · iapply (ctx_inv snd K (snd_mem d c)); iexact HC
    rw [hcr]
    isplitl [Hcr]; · iexact Hcr
    isplitl [HO]; · iexact HO
    isplitr
    · iapply hm; iexact HC
    iexact HaS
  iintro ⟨HO, HaS, #Hr, Hpay⟩
  ihave Hb := (Entails.of_eq (rest_snd snd c d hs)) $$ Hpay
  iapply Hk
  isplitr [HO]; swap; · iexists _; iexact HO
  isplitl [HN]; · iexact HN
  isplitr [HR]; swap; · iexact HR
  isplitl [HaS]; · iexact HaS
  isplitr; · iexact Hr
  unfold sndPay; iexact Hb

theorem wait_rcv_core (d : Bool) {s a b a' : ℕ} {x : Option (Vec F S128x1024 .bf16)} (hs : s < nS d) (ha : s < a ∨ nS true ≤ a) (hb : s < b ∨ nS false ≤ b)
    {sp : Space} {sh : Shape} {e : EltTy} {src : Memref sig .tc sp sh e} {dst : Memref sig .tc .vmem S128x1024 .bf16} {hsrc hdst}
    (hcr : dst.view.dmaCredit = N)
    {k : PUnit → Prog (TpuEff nD τ sig (Elt F) Λ₀ .tc) α} :
    iprop(ctx snd K ∗ dirSt snd d c a' x s ∗ owing c (oweDir true c a + oweDir false c b))
      ⊢ iprop(((dirSt snd d c a' x (s + 1) ∗ owing c (oweDir true c a + oweDir false c b)) -∗ run c (k ⟨⟩) Φ)
        -∗ run c (.op (.waitDma2 (rcvS d s) src dst hsrc hdst) k) Φ) := by
  have hm : ctx snd K ⊢ MayWait (c : Thread nD τ) (.dma (rcvS d s)) () (oweDir true c a + oweDir false c b) :=
    ctx_wait snd K c _ (s + 2) a b (le_of_eq (lv_rcv d hs c ())) (ha.imp_left fun h => by omega) (hb.imp_left fun h => by omega)
  unfold dirSt owing
  rw [bigSep_Ico_succ_bot hs, bigSep_range_succ]
  unfold toCome
  iintro ⟨#HC, ⟨HN, HB, ⟨⟨HaR, Hcr⟩, HR⟩, HG⟩, ⟨%W, HO⟩⟩ Hk
  iapply (Rounds.wp_wait_rest_token 𝒱₀ ER (talk snd) (c : Thread nD τ) none (κ := K (rcvCell d s c))
      (wpE_waitDma2_eq 𝒱₀ (c : Thread nD τ) none Set.univ) (Set.mem_univ _) () (O := oweDir true c a + oweDir false c b) (W := W) (R := 0) (m := 0) (T := ∅) (k' := dst.view.dmaCredit)
      (by rw [Nat.zero_add, expect_rcv snd c d hs])) $$ [Hcr HO HaR]
  · isplitr; · iapply (ctx_inv snd K (rcv_mem d s c)); iexact HC
    rw [hcr]
    isplitl [Hcr]; · iexact Hcr
    isplitl [HO]; · iexact HO
    isplitr
    · iapply hm; iexact HC
    iexact HaR
  iintro ⟨HO, HaR, -, Hpay⟩
  ihave Hb := (Entails.of_eq (rest_rcv snd c d hs)) $$ Hpay
  iapply Hk
  isplitr [HO]; swap; · iexists _; iexact HO
  isplitl [HN]; · iexact HN
  isplitl [HB]; · iexact HB
  isplitl [HR]; · iexact HR
  isplitr [HG]; swap; · iexact HG
  unfold came
  isplitl [HaR]; · iexact HaR
  iexact Hb

end Rules

end Cert.KernelIdeal.Moe

end
-- ==== Proof.Steps2.lean ====
/- One rule for each operation of the exchange in the kernel's body, on the memory and the exchange's state together. -/
module

public import proofs.«01_k».proof.Proof.Steps
public import Idealize.ShloMosaic.Lib.Pipeline.Value
public import Idealize.ShloMosaic.Lib.Exec.Geometry

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A message as a slot's slab. -/
noncomputable def unsq (X : Vec F S128x1024 .bf16) : Vec F S1x128x1024 .bf16 := shapeCast S1x128x1024 X (Eq.symm shapeCasts_S1x128x1024_S128x1024)

section Ops

variable {snd : Msgs F} {K : GSem nD τ sig → ℕ} {c : Dev nD} {α : Type} {Φ : α → sProp (MM F)} {M : Mem F}

theorem send_r {s w b v : ℕ} {x : Vec F S128x1024 .bf16} {y : Option (Vec F S128x1024 .bf16)} {dv : Dev nD} (hs : s < nS true) (hdv : dv = nbr true c) (hx : x = snd true s c)
    {hsc} {hsrc : (bufM true).view.WordExact} {hdst : (slotM true s).view.WordExact} {hsem}
    {k : PUnit → Prog (TpuEff nD τ sig (Elt F) Λ₀ .tc) α}
    (h : iprop(memS c M ∗ st snd K c (s + 1) none w b y v) ⊢ run c (k ⟨⟩) Φ) :
    iprop(memS c M ∗ st snd K c s (some x) w b y v) ⊢ run c (.op (.enqueueDma (bufM true) (.remote (Dev.tc dv) (slotM true s) (.dma (sndS true)) hsc) (.dma (rcvS true s)) hsrc hdst hsem) k) Φ := by
  subst hdv hx
  unfold st
  unfold st at h
  iintro ⟨HM, #HC, HD, HD', HO⟩
  ihave HO := (Entails.of_eq (congrArg (owing c) (add_comm _ _))) $$ HO
  iapply (send_core true hs (oweDir false c b)) $$ [HD HO]
  · isplitr; · iexact HC
    isplitl [HD]; · iexact HD
    iexact HO
  iintro ⟨HD, HO⟩
  ihave HO := (Entails.of_eq (congrArg (owing c) (add_comm _ _))) $$ HO
  iapply h
  isplitl [HM]; · iexact HM
  isplitr; · iexact HC
  isplitl [HD]; · iexact HD
  isplitl [HD']; · iexact HD'
  iexact HO

theorem wait_snd_r {s a w b v : ℕ} {y : Option (Vec F S128x1024 .bf16)} (hs : s < nS true) (ha : a = s + 1) {sem : DmaSem sig} (hsem : sem = sndS true)
    {sp : Space} {sh : Shape} {e : EltTy} {src : Memref sig .tc sp sh e} {dst : Memref sig .tc .vmem S128x1024 .bf16} {hsrc hdst}
    (hcr : dst.view.dmaCredit = N) {k : PUnit → Prog (TpuEff nD τ sig (Elt F) Λ₀ .tc) α}
    (h : iprop(memS c M ∗ st snd K c a (some (snd true s c)) w b y v) ⊢ run c (k ⟨⟩) Φ) :
    iprop(memS c M ∗ st snd K c a none w b y v) ⊢ run c (.op (.waitDma2 sem src dst hsrc hdst) k) Φ := by
  subst ha hsem
  unfold st
  unfold st at h
  iintro ⟨HM, #HC, HD, HD', HO⟩
  iapply (wait_snd_core true hs hcr) $$ [HD HO]
  · isplitr; · iexact HC
    isplitl [HD]; · iexact HD
    iexact HO
  iintro ⟨HD, HO⟩
  iapply h
  isplitl [HM]; · iexact HM
  isplitr; · iexact HC
  isplitl [HD]; · iexact HD
  isplitl [HD']; · iexact HD'
  iexact HO

theorem wait_rcv_r {s a b v : ℕ} {x y : Option (Vec F S128x1024 .bf16)} (hs : s < nS true) (ha : s < a ∨ nS true ≤ a) (hb : s < b ∨ nS false ≤ b) {sem : DmaSem sig} (hsem : sem = rcvS true s)
    {sp : Space} {sh : Shape} {e : EltTy} {src : Memref sig .tc sp sh e} {dst : Memref sig .tc .vmem S128x1024 .bf16} {hsrc hdst}
    (hcr : dst.view.dmaCredit = N) {k : PUnit → Prog (TpuEff nD τ sig (Elt F) Λ₀ .tc) α}
    (h : iprop(memS c M ∗ st snd K c a x (s + 1) b y v) ⊢ run c (k ⟨⟩) Φ) :
    iprop(memS c M ∗ st snd K c a x s b y v) ⊢ run c (.op (.waitDma2 sem src dst hsrc hdst) k) Φ := by
  subst hsem
  unfold st
  unfold st at h
  iintro ⟨HM, #HC, HD, HD', HO⟩
  iapply (wait_rcv_core true hs ha hb hcr) $$ [HD HO]
  · isplitr; · iexact HC
    isplitl [HD]; · iexact HD
    iexact HO
  iintro ⟨HD, HO⟩
  iapply h
  isplitl [HM]; · iexact HM
  isplitr; · iexact HC
  isplitl [HD]; · iexact HD
  isplitl [HD']; · iexact HD'
  iexact HO

theorem foc_buf_r {a w b v : ℕ} {x : Vec F S128x1024 .bf16} {y : Option (Vec F S128x1024 .bf16)} (x' : Vec F S128x1024 .bf16) :
    iprop(memS c M ∗ st snd K c a (some x) w b y v) ⊢ iprop(pt c cc0_scratch3 x ∗ (pt c cc0_scratch3 x' -∗ (memS c M ∗ st snd K c a (some x') w b y v))) := by
  unfold st dirSt
  iintro ⟨HM, #HC, ⟨HN, HB, HT, HG⟩, HD', HO⟩
  ihave HB := (Entails.of_eq (show bufSt true c a (some x) = iprop(atPos ER (sndCell true c) a ∅ 0 ∗ reached ER (sndCell true c) a ∗ owns (c : Thread nD τ) (bufM true) fullShare x) from rfl)) $$ HB
  icases HB with ⟨Ha, #Hr, Hb⟩
  ihave Hb := (Entails.of_eq (owns_whole (c : Thread nD τ) cc0_scratch3 fullShare x)) $$ Hb
  isplitl [Hb]; · iexact Hb
  iintro Hb
  ihave Hb := (Entails.of_eq (owns_whole (c : Thread nD τ) cc0_scratch3 fullShare x').symm) $$ Hb
  ihave HB : bufSt true c a (some x') $$ [Ha Hb]
  · unfold bufSt
    isplitl [Ha]; · iexact Ha
    isplitr; · iexact Hr
    iexact Hb
  isplitl [HM]; · iexact HM
  isplitr; · iexact HC
  · isplitl [HN HB HT HG]
    · isplitl [HN]; · iexact HN
      isplitl [HB]; · iexact HB
      isplitl [HT]; · iexact HT
      iexact HG
    isplitl [HD']; · iexact HD'
    iexact HO
theorem load_buf_r {a w b v : ℕ} {x : Vec F S128x1024 .bf16} {y : Option (Vec F S128x1024 .bf16)}
    {r : LoadRect _} {hl : (Memref.whole cc0_scratch3).view.LoadsAt r} {k : (r.shape.Idx → Elt F _) → Prog (TpuEff nD τ sig (Elt F) Λ₀ .tc) α}
    (h : iprop(memS c M ∗ st snd K c a (some x) w b y v) ⊢ run c (k ((Memref.whole cc0_scratch3).view.readAt (Elt F) r x)) Φ) :
    iprop(memS c M ∗ st snd K c a (some x) w b y v) ⊢ run c (.op (.load (Memref.whole cc0_scratch3) r hl) k) Φ :=
  load_step (Finset.subset_univ _) (foc_buf_r x) _ rfl h
theorem store_buf_r {a w b v : ℕ} {x : Vec F S128x1024 .bf16} {y : Option (Vec F S128x1024 .bf16)} {w' x' : Vec F S128x1024 .bf16} (hw : w' = x') {inb : ∀ a, (![0, 0] : Fin 2 → Nat) a + S128x1024.size a ≤ S128x1024.size a}
    {hx : ((Memref.whole cc0_scratch3).access (Rect.unit (s := S128x1024) ![0, 0] S128x1024.size inb)).Stores Finset.univ} {hm : (Finset.univ : Finset (Rect.unit (s := S128x1024) ![0, 0] S128x1024.size inb).shape.Idx) = Finset.univ ∨ ∀ a, (Rect.unit (s := S128x1024) ![0, 0] S128x1024.size inb).stride a = 1}
    {k : PUnit → Prog (TpuEff nD τ sig (Elt F) Λ₀ .tc) α}
    (h : iprop(memS c M ∗ st snd K c a (some x') w b y v) ⊢ run c (k ⟨⟩) Φ) :
    iprop(memS c M ∗ st snd K c a (some x) w b y v) ⊢ run c (.op (.store (Memref.whole cc0_scratch3) (Rect.unit (s := S128x1024) ![0, 0] S128x1024.size inb) w' Finset.univ hx hm) k) Φ :=
  store_step (Finset.subset_univ _) (foc_buf_r x') ((Memref.write_access_unit_zero_univ (Elt F) cc0_scratch3 (funext fun a => by fin_cases a <;> rfl) inb x w').trans hw) h

theorem load_slot_r {s a b v : ℕ} {x y : Option (Vec F S128x1024 .bf16)} (hs : s < nS true) {off : Fin 3 → Nat} (ho : off = ![min s 6, 0, 0])
    {inb : ∀ a, off a + S1x128x1024.size a ≤ S7x128x1024.size a}
    {hl : (Memref.whole cc0_scratch5).view.LoadsAt (Rect.unit (s := S7x128x1024) off S1x128x1024.size inb).toLoadRect}
    {k : Vec F S1x128x1024 .bf16 → Prog (TpuEff nD τ sig (Elt F) Λ₀ .tc) α}
    (h : iprop(memS c M ∗ st snd K c a x (s + 1) b y v) ⊢ run c (k (unsq (snd true s (nbr (!true) c)))) Φ) :
    iprop(memS c M ∗ st snd K c a x (s + 1) b y v) ⊢ run c (.op (.load (Memref.whole cc0_scratch5) (Rect.unit (s := S7x128x1024) off S1x128x1024.size inb).toLoadRect hl) k) Φ := by
  subst ho
  have key : ∀ f : (slotM true s).view.ty.Contents (Elt F), (slotM true s).view.read (Elt F) f = snd true s (nbr (!true) c) →
      (Memref.whole cc0_scratch5).view.readAt (Elt F) (Rect.unit (s := S7x128x1024) ![min s 6, 0, 0] S1x128x1024.size inb).toLoadRect f = unsq (snd true s (nbr (!true) c)) := by
    intro f hf
    rw [← hf]; unfold unsq
    exact (shapeCast_shapeCast _ _ _).symm
  have hset : (Memref.whole cc0_scratch5).view.setOn (Rect.unit (s := S7x128x1024) ![min s 6, 0, 0] S1x128x1024.size inb).toLoadRect.set ⊆ (slotM true s).view.set := by
    exact ((show (Memref.whole cc0_scratch5).view.setOn (Rect.unit (s := S7x128x1024) ![min s 6, 0, 0] S1x128x1024.size inb).toLoadRect.set = ((Memref.whole cc0_scratch5).view.slice (Rect.unit (s := S7x128x1024) ![min s 6, 0, 0] S1x128x1024.size inb)).set from (View.set_slice _ _).symm).trans (Memref.set_view_squeeze ((Memref.whole cc0_scratch5).slice (Rect.unit (s := S7x128x1024) ![min s 6, 0, 0] S1x128x1024.size inb) (fun _ => rfl)) squeezes_S1x128x1024_S128x1024).symm).le
  unfold st dirSt
  unfold st dirSt at h
  rw [bigSep_range_succ] at h ⊢
  iintro ⟨HM, #HC, ⟨HN, HB, HT, ⟨HG1, HG⟩⟩, HD', HO⟩
  unfold came rcvPay owns
  icases HG1 with ⟨Ha, ⟨%f, %hf, Hf⟩⟩
  iapply (wp_load 𝒱₀ (c : Thread nD τ) none Set.univ hset) $$ Hf
  iintro Hf
  rw [key f hf]
  iapply h
  isplitl [HM]; · iexact HM
  isplitr; · iexact HC
  · isplitl [HN HB HT HG Ha Hf]
    · isplitl [HN]; · iexact HN
      isplitl [HB]; · iexact HB
      isplitl [HT]; · iexact HT
      isplitr [HG]; swap; · iexact HG
      unfold came rcvPay owns
      isplitl [Ha]; · iexact Ha
      iexists f; isplitr; · ipureintro; exact hf
      iexact Hf
    isplitl [HD']; · iexact HD'
    iexact HO

theorem send_l {s w b v : ℕ} {x : Vec F S128x1024 .bf16} {y : Option (Vec F S128x1024 .bf16)} {dv : Dev nD} (hs : s < nS false) (hdv : dv = nbr false c) (hx : x = snd false s c)
    {hsc} {hsrc : (bufM false).view.WordExact} {hdst : (slotM false s).view.WordExact} {hsem}
    {k : PUnit → Prog (TpuEff nD τ sig (Elt F) Λ₀ .tc) α}
    (h : iprop(memS c M ∗ st snd K c b y v (s + 1) none w) ⊢ run c (k ⟨⟩) Φ) :
    iprop(memS c M ∗ st snd K c b y v s (some x) w) ⊢ run c (.op (.enqueueDma (bufM false) (.remote (Dev.tc dv) (slotM false s) (.dma (sndS false)) hsc) (.dma (rcvS false s)) hsrc hdst hsem) k) Φ := by
  subst hdv hx
  unfold st
  unfold st at h
  iintro ⟨HM, #HC, HD', HD, HO⟩
  iapply (send_core false hs (oweDir true c b)) $$ [HD HO]
  · isplitr; · iexact HC
    isplitl [HD]; · iexact HD
    iexact HO
  iintro ⟨HD, HO⟩
  iapply h
  isplitl [HM]; · iexact HM
  isplitr; · iexact HC
  isplitl [HD']; · iexact HD'
  isplitl [HD]; · iexact HD
  iexact HO

theorem wait_snd_l {s a w b v : ℕ} {y : Option (Vec F S128x1024 .bf16)} (hs : s < nS false) (ha : a = s + 1) {sem : DmaSem sig} (hsem : sem = sndS false)
    {sp : Space} {sh : Shape} {e : EltTy} {src : Memref sig .tc sp sh e} {dst : Memref sig .tc .vmem S128x1024 .bf16} {hsrc hdst}
    (hcr : dst.view.dmaCredit = N) {k : PUnit → Prog (TpuEff nD τ sig (Elt F) Λ₀ .tc) α}
    (h : iprop(memS c M ∗ st snd K c b y v a (some (snd false s c)) w) ⊢ run c (k ⟨⟩) Φ) :
    iprop(memS c M ∗ st snd K c b y v a none w) ⊢ run c (.op (.waitDma2 sem src dst hsrc hdst) k) Φ := by
  subst ha hsem
  unfold st
  unfold st at h
  iintro ⟨HM, #HC, HD', HD, HO⟩
  iapply (wait_snd_core false hs hcr) $$ [HD HO]
  · isplitr; · iexact HC
    isplitl [HD]; · iexact HD
    iexact HO
  iintro ⟨HD, HO⟩
  iapply h
  isplitl [HM]; · iexact HM
  isplitr; · iexact HC
  isplitl [HD']; · iexact HD'
  isplitl [HD]; · iexact HD
  iexact HO

theorem wait_rcv_l {s a b v : ℕ} {x y : Option (Vec F S128x1024 .bf16)} (hs : s < nS false) (ha : s < b ∨ nS true ≤ b) (hb : s < a ∨ nS false ≤ a) {sem : DmaSem sig} (hsem : sem = rcvS false s)
    {sp : Space} {sh : Shape} {e : EltTy} {src : Memref sig .tc sp sh e} {dst : Memref sig .tc .vmem S128x1024 .bf16} {hsrc hdst}
    (hcr : dst.view.dmaCredit = N) {k : PUnit → Prog (TpuEff nD τ sig (Elt F) Λ₀ .tc) α}
    (h : iprop(memS c M ∗ st snd K c b y v a x (s + 1)) ⊢ run c (k ⟨⟩) Φ) :
    iprop(memS c M ∗ st snd K c b y v a x s) ⊢ run c (.op (.waitDma2 sem src dst hsrc hdst) k) Φ := by
  subst hsem
  unfold st
  unfold st at h
  iintro ⟨HM, #HC, HD', HD, HO⟩
  iapply (wait_rcv_core false hs ha hb hcr) $$ [HD HO]
  · isplitr; · iexact HC
    isplitl [HD]; · iexact HD
    iexact HO
  iintro ⟨HD, HO⟩
  iapply h
  isplitl [HM]; · iexact HM
  isplitr; · iexact HC
  isplitl [HD']; · iexact HD'
  isplitl [HD]; · iexact HD
  iexact HO

theorem foc_buf_l {a w b v : ℕ} {x : Vec F S128x1024 .bf16} {y : Option (Vec F S128x1024 .bf16)} (x' : Vec F S128x1024 .bf16) :
    iprop(memS c M ∗ st snd K c b y v a (some x) w) ⊢ iprop(pt c cc0_scratch4 x ∗ (pt c cc0_scratch4 x' -∗ (memS c M ∗ st snd K c b y v a (some x') w))) := by
  unfold st dirSt
  iintro ⟨HM, #HC, HD', ⟨HN, HB, HT, HG⟩, HO⟩
  ihave HB := (Entails.of_eq (show bufSt false c a (some x) = iprop(atPos ER (sndCell false c) a ∅ 0 ∗ reached ER (sndCell false c) a ∗ owns (c : Thread nD τ) (bufM false) fullShare x) from rfl)) $$ HB
  icases HB with ⟨Ha, #Hr, Hb⟩
  ihave Hb := (Entails.of_eq (owns_whole (c : Thread nD τ) cc0_scratch4 fullShare x)) $$ Hb
  isplitl [Hb]; · iexact Hb
  iintro Hb
  ihave Hb := (Entails.of_eq (owns_whole (c : Thread nD τ) cc0_scratch4 fullShare x').symm) $$ Hb
  ihave HB : bufSt false c a (some x') $$ [Ha Hb]
  · unfold bufSt
    isplitl [Ha]; · iexact Ha
    isplitr; · iexact Hr
    iexact Hb
  isplitl [HM]; · iexact HM
  isplitr; · iexact HC
  · isplitl [HD']; · iexact HD'
    isplitl [HN HB HT HG]
    · isplitl [HN]; · iexact HN
      isplitl [HB]; · iexact HB
      isplitl [HT]; · iexact HT
      iexact HG
    iexact HO
theorem load_buf_l {a w b v : ℕ} {x : Vec F S128x1024 .bf16} {y : Option (Vec F S128x1024 .bf16)}
    {r : LoadRect _} {hl : (Memref.whole cc0_scratch4).view.LoadsAt r} {k : (r.shape.Idx → Elt F _) → Prog (TpuEff nD τ sig (Elt F) Λ₀ .tc) α}
    (h : iprop(memS c M ∗ st snd K c b y v a (some x) w) ⊢ run c (k ((Memref.whole cc0_scratch4).view.readAt (Elt F) r x)) Φ) :
    iprop(memS c M ∗ st snd K c b y v a (some x) w) ⊢ run c (.op (.load (Memref.whole cc0_scratch4) r hl) k) Φ :=
  load_step (Finset.subset_univ _) (foc_buf_l x) _ rfl h
theorem store_buf_l {a w b v : ℕ} {x : Vec F S128x1024 .bf16} {y : Option (Vec F S128x1024 .bf16)} {w' x' : Vec F S128x1024 .bf16} (hw : w' = x') {inb : ∀ a, (![0, 0] : Fin 2 → Nat) a + S128x1024.size a ≤ S128x1024.size a}
    {hx : ((Memref.whole cc0_scratch4).access (Rect.unit (s := S128x1024) ![0, 0] S128x1024.size inb)).Stores Finset.univ} {hm : (Finset.univ : Finset (Rect.unit (s := S128x1024) ![0, 0] S128x1024.size inb).shape.Idx) = Finset.univ ∨ ∀ a, (Rect.unit (s := S128x1024) ![0, 0] S128x1024.size inb).stride a = 1}
    {k : PUnit → Prog (TpuEff nD τ sig (Elt F) Λ₀ .tc) α}
    (h : iprop(memS c M ∗ st snd K c b y v a (some x') w) ⊢ run c (k ⟨⟩) Φ) :
    iprop(memS c M ∗ st snd K c b y v a (some x) w) ⊢ run c (.op (.store (Memref.whole cc0_scratch4) (Rect.unit (s := S128x1024) ![0, 0] S128x1024.size inb) w' Finset.univ hx hm) k) Φ :=
  store_step (Finset.subset_univ _) (foc_buf_l x') ((Memref.write_access_unit_zero_univ (Elt F) cc0_scratch4 (funext fun a => by fin_cases a <;> rfl) inb x w').trans hw) h

theorem load_slot_l {s a b v : ℕ} {x y : Option (Vec F S128x1024 .bf16)} (hs : s < nS false) {off : Fin 3 → Nat} (ho : off = ![min s 7, 0, 0])
    {inb : ∀ a, off a + S1x128x1024.size a ≤ S8x128x1024.size a}
    {hl : (Memref.whole cc0_scratch6).view.LoadsAt (Rect.unit (s := S8x128x1024) off S1x128x1024.size inb).toLoadRect}
    {k : Vec F S1x128x1024 .bf16 → Prog (TpuEff nD τ sig (Elt F) Λ₀ .tc) α}
    (h : iprop(memS c M ∗ st snd K c b y v a x (s + 1)) ⊢ run c (k (unsq (snd false s (nbr (!false) c)))) Φ) :
    iprop(memS c M ∗ st snd K c b y v a x (s + 1)) ⊢ run c (.op (.load (Memref.whole cc0_scratch6) (Rect.unit (s := S8x128x1024) off S1x128x1024.size inb).toLoadRect hl) k) Φ := by
  subst ho
  have key : ∀ f : (slotM false s).view.ty.Contents (Elt F), (slotM false s).view.read (Elt F) f = snd false s (nbr (!false) c) →
      (Memref.whole cc0_scratch6).view.readAt (Elt F) (Rect.unit (s := S8x128x1024) ![min s 7, 0, 0] S1x128x1024.size inb).toLoadRect f = unsq (snd false s (nbr (!false) c)) := by
    intro f hf
    rw [← hf]; unfold unsq
    exact (shapeCast_shapeCast _ _ _).symm
  have hset : (Memref.whole cc0_scratch6).view.setOn (Rect.unit (s := S8x128x1024) ![min s 7, 0, 0] S1x128x1024.size inb).toLoadRect.set ⊆ (slotM false s).view.set := by
    exact ((show (Memref.whole cc0_scratch6).view.setOn (Rect.unit (s := S8x128x1024) ![min s 7, 0, 0] S1x128x1024.size inb).toLoadRect.set = ((Memref.whole cc0_scratch6).view.slice (Rect.unit (s := S8x128x1024) ![min s 7, 0, 0] S1x128x1024.size inb)).set from (View.set_slice _ _).symm).trans (Memref.set_view_squeeze ((Memref.whole cc0_scratch6).slice (Rect.unit (s := S8x128x1024) ![min s 7, 0, 0] S1x128x1024.size inb) (fun _ => rfl)) squeezes_S1x128x1024_S128x1024).symm).le
  unfold st dirSt
  unfold st dirSt at h
  rw [bigSep_range_succ] at h ⊢
  iintro ⟨HM, #HC, HD', ⟨HN, HB, HT, ⟨HG1, HG⟩⟩, HO⟩
  unfold came rcvPay owns
  icases HG1 with ⟨Ha, ⟨%f, %hf, Hf⟩⟩
  iapply (wp_load 𝒱₀ (c : Thread nD τ) none Set.univ hset) $$ Hf
  iintro Hf
  rw [key f hf]
  iapply h
  isplitl [HM]; · iexact HM
  isplitr; · iexact HC
  · isplitl [HD']; · iexact HD'
    isplitl [HN HB HT HG Ha Hf]
    · isplitl [HN]; · iexact HN
      isplitl [HB]; · iexact HB
      isplitl [HT]; · iexact HT
      isplitr [HG]; swap; · iexact HG
      unfold came rcvPay owns
      isplitl [Ha]; · iexact Ha
      iexists f; isplitr; · ipureintro; exact hf
      iexact Hf
    iexact HO

end Ops

end Cert.KernelIdeal.Moe

end
-- ==== Proof.Barrier.lean ====
/- The barrier the kernel opens with: a device tells its neighbours its slots are free and waits for both. -/
module

public import proofs.«01_k».proof.Proof.Steps2

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A device's own slots of a direction, and that their cells are at their first round. -/
noncomputable def ownSlots (d : Bool) (c : Dev nD) : sProp (MM F) :=
  bigSep (Finset.range (nS d)) fun s => iprop(slotAny d s c ∗ reached ER (rcvCell d s c) 0)
/-- The duties of a direction's messages. -/
noncomputable def sendToks (d : Bool) (c : Dev nD) : sProp (MM F) :=
  bigSep (Finset.range (nS d)) fun s => iprop(dutyTok ER (rcvCell d s (nbr d c)) 0 true ∗ dutyTok ER (sndCell d c) s true)
/-- A direction's buffer and messages before the barrier. -/
noncomputable def dir0 (d : Bool) (c : Dev nD) (x : Vec F S128x1024 .bf16) : sProp (MM F) :=
  iprop(sendToks d c ∗ bufSt d c 0 (some x) ∗ bigSep (Finset.range (nS d)) (toCome d c))

/-- A device's share of the barrier: what it tells its neighbours with, and what it is told with. -/
noncomputable def bar0 (c : Dev nD) : sProp (MM F) :=
  iprop(dutyTok ER (barCell (nbr false c)) 0 true ∗ dutyTok ER (barCell (nbr true c)) 0 false ∗ reached ER (barCell (nbr false c)) 0 ∗ reached ER (barCell (nbr true c)) 0
    ∗ atPos ER (barCell c) 0 ∅ 0 ∗ cred (tallyAt (barCell c) () 2))

/-- What a device owes at the start. -/
noncomputable def owe0 (c : Dev nD) : CellTallies nD τ sig Unit :=
  ((oweDir true c 0 + oweDir false c 0) + tallyAt (barCell (nbr true c)) () 1) + tallyAt (barCell (nbr false c)) () 1

/-- The exchange's state at the start. -/
noncomputable def st0 (snd : Msgs F) (K : GSem nD τ sig → ℕ) (c : Dev nD) (x y : Vec F S128x1024 .bf16) : sProp (MM F) :=
  iprop(ctx snd K ∗ ownSlots true c ∗ ownSlots false c ∗ bar0 c ∗ dir0 true c x ∗ dir0 false c y ∗ owing c (owe0 c))

theorem pay_of_slots (d : Bool) (c : Dev nD) : (ownSlots (F := F) d c) ⊢ barPay d (nbr (!d) c) := by
  unfold ownSlots barPay; rw [nbr_nbr']

theorem dir_ready (snd : Msgs F) (d : Bool) (c : Dev nD) (x : Vec F S128x1024 .bf16) :
    iprop(dir0 d c x ∗ barPay d c) ⊢ dirSt snd d c 0 (some x) 0 := by
  unfold dir0 dirSt sendToks barPay
  iintro ⟨⟨Ht, Hb, Hm⟩, Hp⟩
  rw [← Finset.range_eq_Ico]
  isplitl [Ht Hp]
  · iapply (show iprop((bigSep (Finset.range (nS d)) fun s => iprop(dutyTok ER (rcvCell d s (nbr d c)) 0 true ∗ dutyTok ER (sndCell d c) s true))
        ∗ (bigSep (Finset.range (nS d)) fun s => iprop(slotAny d s (nbr d c) ∗ reached ER (rcvCell d s (nbr d c)) 0))) ⊢ bigSep (Finset.range (nS d)) (needs (F := F) d c) from
      (Entails.of_eq (bigSep_sep _ _ _).symm).trans (bigSep_mono fun s _ => by
        unfold needs
        show iprop((dutyTok ER (rcvCell d s (nbr d c)) 0 true ∗ dutyTok ER (sndCell d c) s true) ∗ (slotAny d s (nbr d c) ∗ reached ER (rcvCell d s (nbr d c)) 0)) ⊢ _
        iintro ⟨⟨H1, H2⟩, H3, H4⟩
        isplitl [H1]; · iexact H1
        isplitl [H2]; · iexact H2
        isplitl [H3]; · iexact H3
        iexact H4)) $$ [Ht Hp]
    isplitl [Ht]; · iexact Ht
    iexact Hp
  isplitl [Hb]; · iexact Hb
  isplitl [Hm]; · iexact Hm
  rw [Finset.range_zero, bigSep_empty]
  iempintro

theorem barrier_step {snd : Msgs F} {K : GSem nD τ sig → ℕ} {c : Dev nD} {α : Type} {Φ : α → sProp (MM F)} {M : Mem F} {x y : Vec F S128x1024 .bf16}
    {dl dr : Dev nD} (hl : dl = nbr false c) (hr : dr = nbr true c) {k : PUnit → Prog (TpuEff nD τ sig (Elt F) Λ₀ .tc) α}
    (h : iprop(memS c M ∗ st snd K c 0 (some x) 0 0 (some y) 0) ⊢ run c (k ⟨⟩) Φ) :
    iprop(memS c M ∗ st0 snd K c x y) ⊢ run c (.op (.semSignal (dl, .tc) barS ((1 : ℕ) : ℤ)) fun _ => .op (.semSignal (dr, .tc) barS ((1 : ℕ) : ℤ)) fun _ => .op (.semWait barS ((2 : ℕ) : ℤ)) k) (fun a => iprop(Φ a ∗ atPos ER (barCell c) 1 ∅ 0)) := by
  subst hl hr
  unfold st0 bar0 owing owe0
  iintro ⟨HM, #HC, HSr, HSl, ⟨Ht1, Ht2, #Hr1, #Hr2, Hat, Hcr⟩, HDr, HDl, ⟨%W, HO⟩⟩
  iapply (Rounds.wp_signal 𝒱₀ ER (talk snd) (c : Thread nD τ) none (dst := (nbr false c : Thread nD τ)) (sem := barS) (r := 0) (d := true) (κ := K (barCell (nbr false c)))
      (by rw [duties_bar]; exact Finset.mem_insert_self _ _) (amount_bar snd _ 0 true) () ((oweDir true c 0 + oweDir false c 0) + tallyAt (barCell (nbr true c)) () 1) rfl) $$ [HO Ht1 HSr]
  · isplitr; · iapply (ctx_inv snd K (bar_mem (nbr false c))); iexact HC
    isplitl [HO]; · iexact HO
    isplitl [Ht1]; · iexact Ht1
    isplitl [HSr]
    · rw [payload_bar]; iapply (pay_of_slots true c); iexact HSr
    iexact Hr1
  iintro HO
  iapply (Rounds.wp_signal 𝒱₀ ER (talk snd) (c : Thread nD τ) none (dst := (nbr true c : Thread nD τ)) (sem := barS) (r := 0) (d := false) (κ := K (barCell (nbr true c)))
      (by rw [duties_bar]; decide) (amount_bar snd _ 0 false) () (oweDir true c 0 + oweDir false c 0) rfl) $$ [HO Ht2 HSl]
  · isplitr; · iapply (ctx_inv snd K (bar_mem (nbr true c))); iexact HC
    isplitl [HO]; · iexact HO
    isplitl [Ht2]; · iexact Ht2
    isplitl [HSl]
    · rw [payload_bar]; iapply (pay_of_slots false c); iexact HSl
    iexact Hr2
  iintro HO
  have hm : ctx snd K ⊢ MayWait (c : Thread nD τ) (.reg barS) () (oweDir true c 0 + oweDir false c 0) :=
    ctx_wait snd K c _ 1 0 0 (le_of_eq (lv_bar c ())) (Or.inl (by omega)) (Or.inl (by omega))
  iapply (Rounds.wp_wait_rest_token 𝒱₀ ER (talk snd) (c : Thread nD τ) none (κ := K (barCell c))
      (wpE_semWait_eq 𝒱₀ (c : Thread nD τ) none Set.univ) (Set.mem_univ _) () (O := oweDir true c 0 + oweDir false c 0) (W := W) (R := 0) (m := 0) (T := ∅) (k' := 2)
      (by rw [Nat.zero_add, expect_bar])) $$ [Hcr HO Hat]
  · isplitr; · iapply (ctx_inv snd K (bar_mem c)); iexact HC
    isplitl [Hcr]; · iexact Hcr
    isplitl [HO]; · iexact HO
    isplitr
    · iapply hm; iexact HC
    iexact Hat
  iintro ⟨HO, Hat, -, Hpay⟩
  ihave Hb := (Entails.of_eq (rest_bar snd c)) $$ Hpay
  icases Hb with ⟨Hpr, Hpl⟩
  iapply (wp_frame_r frame (wpE (defs₀ (F := F)) 𝒱₀ (c : Thread nD τ) none))
  isplitr [Hat]; swap; · iexact Hat
  iapply h
  unfold st owing
  isplitl [HM]; · iexact HM
  isplitr; · iexact HC
  isplitl [HDr Hpr]
  · iapply (dir_ready snd true c x); isplitl [HDr]; · iexact HDr
    iexact Hpr
  isplitl [HDl Hpl]
  · iapply (dir_ready snd false c y); isplitl [HDl]; · iexact HDl
    iexact Hpl
  iexists _; iexact HO

end Cert.KernelIdeal.Moe

end
-- ==== Proof.Chunks.lean ====
/- Reading the memory in chunks of 128 rows, and what the kernel's words of a device say. -/
module

public import proofs.«01_k».proof.Proof.Barrier

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

/-- A device's number as a word. -/
noncomputable def wd (q : Dev nD) : BitVec 32 := BitVec.ofNat 32 q.val

theorem at_word {P : BitVec 32 → Prop} {v : BitVec 32} {q : Dev nD} (h : v = wd q) (hp : P (wd q)) : P v := h ▸ hp

/-! ## What the words say -/

theorem off1 : ∀ q : Dev nD, k0_off1 (wd q) = ![128 * q.val, 0] := by decide +kernel
theorem off2 : ∀ q : Dev nD, k0_off2 (wd q) = ![128 * q.val, 0] := by decide +kernel
theorem off3 : ∀ q : Dev nD, k0_off3 (wd q) = ![128 * q.val, 0] := by decide +kernel
theorem off4 : ∀ q : Dev nD, k0_off4 (wd q) = ![128 * q.val, 0] := by decide +kernel
theorem off5 : ∀ q : Dev nD, k0_off5 (wd q) = ![128 * q.val, 0] := by decide +kernel
theorem off6 : ∀ q : Dev nD, k0_off6 (wd q) = ![128 * q.val, 0] := by decide +kernel
theorem off7 : ∀ q : Dev nD, k0_off7 (wd q) = ![128 * q.val, 0] := by decide +kernel
theorem off8 : ∀ q : Dev nD, k0_off8 (wd q) = ![128 * q.val, 0] := by decide +kernel
theorem off9 : ∀ q : Dev nD, k0_off9 (wd q) = ![128 * q.val, 0] := by decide +kernel
theorem off10 : ∀ q : Dev nD, k0_off10 (wd q) = ![128 * q.val, 0] := by decide +kernel
theorem off11 : ∀ q : Dev nD, k0_off11 (wd q) = ![128 * q.val, 0] := by decide +kernel
theorem off12 : ∀ q : Dev nD, k0_off12 (wd q) = ![128 * q.val, 0] := by decide +kernel
theorem off13 : ∀ q : Dev nD, k0_off13 (wd q) = ![128 * q.val, 0] := by decide +kernel
theorem off14 : ∀ q : Dev nD, k0_off14 (wd q) = ![128 * q.val, 0] := by decide +kernel
theorem off15 : ∀ q : Dev nD, k0_off15 (wd q) = ![128 * q.val, 0] := by decide +kernel
theorem off16 : ∀ q : Dev nD, k0_off16 (wd q) = ![128 * q.val, 0] := by decide +kernel
theorem off17 : ∀ q : Dev nD, k0_off17 (wd q) = ![128 * q.val, 0] := by decide +kernel
theorem off18 : ∀ q : Dev nD, k0_off18 (wd q) = ![128 * q.val, 0] := by decide +kernel
theorem off19 : ∀ q : Dev nD, k0_off19 (wd q) = ![128 * q.val, 0] := by decide +kernel
theorem off20 : ∀ q : Dev nD, k0_off20 (wd q) = ![128 * q.val, 0] := by decide +kernel
theorem off21 : ∀ q : Dev nD, k0_off21 (wd q) = ![128 * q.val, 0] := by decide +kernel
theorem off22 : ∀ q : Dev nD, k0_off22 (wd q) = ![128 * q.val, 0] := by decide +kernel
theorem off23 : ∀ q : Dev nD, k0_off23 (wd q) = ![128 * q.val, 0] := by decide +kernel
theorem off24 : ∀ q : Dev nD, k0_off24 (wd q) = ![128 * q.val, 0] := by decide +kernel
theorem off25 : ∀ q : Dev nD, k0_off25 (wd q) = ![128 * q.val, 0] := by decide +kernel
theorem off26 : ∀ q : Dev nD, k0_off26 (wd q) = ![128 * q.val, 0] := by decide +kernel
theorem off27 : ∀ q : Dev nD, k0_off27 (wd q) = ![128 * q.val, 0] := by decide +kernel
theorem off28 : ∀ q : Dev nD, k0_off28 (wd q) = ![128 * q.val, 0] := by decide +kernel
theorem off29 : ∀ q : Dev nD, k0_off29 (wd q) = ![128 * q.val, 0] := by decide +kernel
theorem off30 : ∀ q : Dev nD, k0_off30 (wd q) = ![128 * q.val, 0] := by decide +kernel
theorem dev1 : ∀ q : Dev nD, k0_dev1 (wd q) = q.val := by decide +kernel
theorem dev2 : ∀ q : Dev nD, k0_dev2 (wd q) = q.val := by decide +kernel
theorem dev3 : ∀ q : Dev nD, k0_dev3 (wd q) = q.val := by decide +kernel
theorem dev4 : ∀ q : Dev nD, k0_dev4 (wd q) = q.val := by decide +kernel
theorem dev5 : ∀ q : Dev nD, k0_dev5 (wd q) = q.val := by decide +kernel
theorem dev6 : ∀ q : Dev nD, k0_dev6 (wd q) = q.val := by decide +kernel
theorem dev7 : ∀ q : Dev nD, k0_dev7 (wd q) = q.val := by decide +kernel
theorem dev8 : ∀ q : Dev nD, k0_dev8 (wd q) = q.val := by decide +kernel
theorem dev9 : ∀ q : Dev nD, k0_dev9 (wd q) = q.val := by decide +kernel
theorem dev10 : ∀ q : Dev nD, k0_dev10 (wd q) = q.val := by decide +kernel
theorem dev11 : ∀ q : Dev nD, k0_dev11 (wd q) = q.val := by decide +kernel
theorem dev12 : ∀ q : Dev nD, k0_dev12 (wd q) = q.val := by decide +kernel
theorem dev13 : ∀ q : Dev nD, k0_dev13 (wd q) = q.val := by decide +kernel
theorem dev14 : ∀ q : Dev nD, k0_dev14 (wd q) = q.val := by decide +kernel
theorem dev15 : ∀ q : Dev nD, k0_dev15 (wd q) = q.val := by decide +kernel
theorem dev16 : ∀ q : Dev nD, k0_dev16 (wd q) = q.val := by decide +kernel
theorem dev17 : ∀ q : Dev nD, k0_dev17 (wd q) = q.val := by decide +kernel
theorem chk1 : ∀ q : Dev nD, k0_chk1 (wd q) := by unfold k0_chk1; decide +kernel
theorem chk2 : ∀ q : Dev nD, k0_chk2 (wd q) := by unfold k0_chk2; decide +kernel
theorem chk3 : ∀ q : Dev nD, k0_chk3 (wd q) := by unfold k0_chk3; decide +kernel
theorem chk4 : ∀ q : Dev nD, k0_chk4 (wd q) := by unfold k0_chk4; decide +kernel
theorem chk5 : ∀ q : Dev nD, k0_chk5 (wd q) := by unfold k0_chk5; decide +kernel
theorem chk6 : ∀ q : Dev nD, k0_chk6 (wd q) := by unfold k0_chk6; decide +kernel
theorem chk7 : ∀ q : Dev nD, k0_chk7 (wd q) := by unfold k0_chk7; decide +kernel
theorem chk8 : ∀ q : Dev nD, k0_chk8 (wd q) := by unfold k0_chk8; decide +kernel
theorem chk9 : ∀ q : Dev nD, k0_chk9 (wd q) := by unfold k0_chk9; decide +kernel
theorem chk10 : ∀ q : Dev nD, k0_chk10 (wd q) := by unfold k0_chk10; decide +kernel
theorem chk11 : ∀ q : Dev nD, k0_chk11 (wd q) := by unfold k0_chk11; decide +kernel
theorem chk12 : ∀ q : Dev nD, k0_chk12 (wd q) := by unfold k0_chk12; decide +kernel
theorem chk13 : ∀ q : Dev nD, k0_chk13 (wd q) := by unfold k0_chk13; decide +kernel
theorem chk14 : ∀ q : Dev nD, k0_chk14 (wd q) := by unfold k0_chk14; decide +kernel
theorem chk15 : ∀ q : Dev nD, k0_chk15 (wd q) := by unfold k0_chk15; decide +kernel
theorem chk16 : ∀ q : Dev nD, k0_chk16 (wd q) := by unfold k0_chk16; decide +kernel
theorem chk17 : ∀ q : Dev nD, k0_chk17 (wd q) := by unfold k0_chk17; decide +kernel
theorem chk1' {v : BitVec 32} {q : Dev nD} (h : v = wd q) : k0_chk1 v := h ▸ chk1 q
theorem chk2' {v : BitVec 32} {q : Dev nD} (h : v = wd q) : k0_chk2 v := h ▸ chk2 q
theorem chk3' {v : BitVec 32} {q : Dev nD} (h : v = wd q) : k0_chk3 v := h ▸ chk3 q
theorem chk4' {v : BitVec 32} {q : Dev nD} (h : v = wd q) : k0_chk4 v := h ▸ chk4 q
theorem chk5' {v : BitVec 32} {q : Dev nD} (h : v = wd q) : k0_chk5 v := h ▸ chk5 q
theorem chk6' {v : BitVec 32} {q : Dev nD} (h : v = wd q) : k0_chk6 v := h ▸ chk6 q
theorem chk7' {v : BitVec 32} {q : Dev nD} (h : v = wd q) : k0_chk7 v := h ▸ chk7 q
theorem chk8' {v : BitVec 32} {q : Dev nD} (h : v = wd q) : k0_chk8 v := h ▸ chk8 q
theorem chk9' {v : BitVec 32} {q : Dev nD} (h : v = wd q) : k0_chk9 v := h ▸ chk9 q
theorem chk10' {v : BitVec 32} {q : Dev nD} (h : v = wd q) : k0_chk10 v := h ▸ chk10 q
theorem chk11' {v : BitVec 32} {q : Dev nD} (h : v = wd q) : k0_chk11 v := h ▸ chk11 q
theorem chk12' {v : BitVec 32} {q : Dev nD} (h : v = wd q) : k0_chk12 v := h ▸ chk12 q
theorem chk13' {v : BitVec 32} {q : Dev nD} (h : v = wd q) : k0_chk13 v := h ▸ chk13 q
theorem chk14' {v : BitVec 32} {q : Dev nD} (h : v = wd q) : k0_chk14 v := h ▸ chk14 q
theorem chk15' {v : BitVec 32} {q : Dev nD} (h : v = wd q) : k0_chk15 v := h ▸ chk15 q
theorem chk16' {v : BitVec 32} {q : Dev nD} (h : v = wd q) : k0_chk16 v := h ▸ chk16 q
theorem chk17' {v : BitVec 32} {q : Dev nD} (h : v = wd q) : k0_chk17 v := h ▸ chk17 q

/-! ## The semaphores and the credits, as the kernel writes them -/

theorem semR0 : ((cc0_scratch9.slice (Rect.unit (s := S7) ![0] S1.size inb_S7_S1_0)).squeeze S_ squeezes_S1_S_).sem = rcvS true 0 := rfl
theorem credR0 : (((Memref.whole cc0_scratch5).slice (Rect.unit (s := S7x128x1024) ![0, 0, 0] S1x128x1024.size inb_S7x128x1024_S1x128x1024_0_0_0) (fun _ => rfl)).squeeze S128x1024 squeezes_S1x128x1024_S128x1024).view.dmaCredit = N := credit_slot true 0
theorem semR1 : ((cc0_scratch9.slice (Rect.unit (s := S7) ![1] S1.size inb_S7_S1_1)).squeeze S_ squeezes_S1_S_).sem = rcvS true 1 := rfl
theorem credR1 : (((Memref.whole cc0_scratch5).slice (Rect.unit (s := S7x128x1024) ![1, 0, 0] S1x128x1024.size inb_S7x128x1024_S1x128x1024_1_0_0) (fun _ => rfl)).squeeze S128x1024 squeezes_S1x128x1024_S128x1024).view.dmaCredit = N := credit_slot true 1
theorem semR2 : ((cc0_scratch9.slice (Rect.unit (s := S7) ![2] S1.size inb_S7_S1_2)).squeeze S_ squeezes_S1_S_).sem = rcvS true 2 := rfl
theorem credR2 : (((Memref.whole cc0_scratch5).slice (Rect.unit (s := S7x128x1024) ![2, 0, 0] S1x128x1024.size inb_S7x128x1024_S1x128x1024_2_0_0) (fun _ => rfl)).squeeze S128x1024 squeezes_S1x128x1024_S128x1024).view.dmaCredit = N := credit_slot true 2
theorem semR3 : ((cc0_scratch9.slice (Rect.unit (s := S7) ![3] S1.size inb_S7_S1_3)).squeeze S_ squeezes_S1_S_).sem = rcvS true 3 := rfl
theorem credR3 : (((Memref.whole cc0_scratch5).slice (Rect.unit (s := S7x128x1024) ![3, 0, 0] S1x128x1024.size inb_S7x128x1024_S1x128x1024_3_0_0) (fun _ => rfl)).squeeze S128x1024 squeezes_S1x128x1024_S128x1024).view.dmaCredit = N := credit_slot true 3
theorem semR4 : ((cc0_scratch9.slice (Rect.unit (s := S7) ![4] S1.size inb_S7_S1_4)).squeeze S_ squeezes_S1_S_).sem = rcvS true 4 := rfl
theorem credR4 : (((Memref.whole cc0_scratch5).slice (Rect.unit (s := S7x128x1024) ![4, 0, 0] S1x128x1024.size inb_S7x128x1024_S1x128x1024_4_0_0) (fun _ => rfl)).squeeze S128x1024 squeezes_S1x128x1024_S128x1024).view.dmaCredit = N := credit_slot true 4
theorem semR5 : ((cc0_scratch9.slice (Rect.unit (s := S7) ![5] S1.size inb_S7_S1_5)).squeeze S_ squeezes_S1_S_).sem = rcvS true 5 := rfl
theorem credR5 : (((Memref.whole cc0_scratch5).slice (Rect.unit (s := S7x128x1024) ![5, 0, 0] S1x128x1024.size inb_S7x128x1024_S1x128x1024_5_0_0) (fun _ => rfl)).squeeze S128x1024 squeezes_S1x128x1024_S128x1024).view.dmaCredit = N := credit_slot true 5
theorem semR6 : ((cc0_scratch9.slice (Rect.unit (s := S7) ![6] S1.size inb_S7_S1_6)).squeeze S_ squeezes_S1_S_).sem = rcvS true 6 := rfl
theorem credR6 : (((Memref.whole cc0_scratch5).slice (Rect.unit (s := S7x128x1024) ![6, 0, 0] S1x128x1024.size inb_S7x128x1024_S1x128x1024_6_0_0) (fun _ => rfl)).squeeze S128x1024 squeezes_S1x128x1024_S128x1024).view.dmaCredit = N := credit_slot true 6
theorem semL0 : ((cc0_scratch10.slice (Rect.unit (s := S8) ![0] S1.size inb_S8_S1_0)).squeeze S_ squeezes_S1_S_).sem = rcvS false 0 := rfl
theorem credL0 : (((Memref.whole cc0_scratch6).slice (Rect.unit (s := S8x128x1024) ![0, 0, 0] S1x128x1024.size inb_S8x128x1024_S1x128x1024_0_0_0) (fun _ => rfl)).squeeze S128x1024 squeezes_S1x128x1024_S128x1024).view.dmaCredit = N := credit_slot false 0
theorem semL1 : ((cc0_scratch10.slice (Rect.unit (s := S8) ![1] S1.size inb_S8_S1_1)).squeeze S_ squeezes_S1_S_).sem = rcvS false 1 := rfl
theorem credL1 : (((Memref.whole cc0_scratch6).slice (Rect.unit (s := S8x128x1024) ![1, 0, 0] S1x128x1024.size inb_S8x128x1024_S1x128x1024_1_0_0) (fun _ => rfl)).squeeze S128x1024 squeezes_S1x128x1024_S128x1024).view.dmaCredit = N := credit_slot false 1
theorem semL2 : ((cc0_scratch10.slice (Rect.unit (s := S8) ![2] S1.size inb_S8_S1_2)).squeeze S_ squeezes_S1_S_).sem = rcvS false 2 := rfl
theorem credL2 : (((Memref.whole cc0_scratch6).slice (Rect.unit (s := S8x128x1024) ![2, 0, 0] S1x128x1024.size inb_S8x128x1024_S1x128x1024_2_0_0) (fun _ => rfl)).squeeze S128x1024 squeezes_S1x128x1024_S128x1024).view.dmaCredit = N := credit_slot false 2
theorem semL3 : ((cc0_scratch10.slice (Rect.unit (s := S8) ![3] S1.size inb_S8_S1_3)).squeeze S_ squeezes_S1_S_).sem = rcvS false 3 := rfl
theorem credL3 : (((Memref.whole cc0_scratch6).slice (Rect.unit (s := S8x128x1024) ![3, 0, 0] S1x128x1024.size inb_S8x128x1024_S1x128x1024_3_0_0) (fun _ => rfl)).squeeze S128x1024 squeezes_S1x128x1024_S128x1024).view.dmaCredit = N := credit_slot false 3
theorem semL4 : ((cc0_scratch10.slice (Rect.unit (s := S8) ![4] S1.size inb_S8_S1_4)).squeeze S_ squeezes_S1_S_).sem = rcvS false 4 := rfl
theorem credL4 : (((Memref.whole cc0_scratch6).slice (Rect.unit (s := S8x128x1024) ![4, 0, 0] S1x128x1024.size inb_S8x128x1024_S1x128x1024_4_0_0) (fun _ => rfl)).squeeze S128x1024 squeezes_S1x128x1024_S128x1024).view.dmaCredit = N := credit_slot false 4
theorem semL5 : ((cc0_scratch10.slice (Rect.unit (s := S8) ![5] S1.size inb_S8_S1_5)).squeeze S_ squeezes_S1_S_).sem = rcvS false 5 := rfl
theorem credL5 : (((Memref.whole cc0_scratch6).slice (Rect.unit (s := S8x128x1024) ![5, 0, 0] S1x128x1024.size inb_S8x128x1024_S1x128x1024_5_0_0) (fun _ => rfl)).squeeze S128x1024 squeezes_S1x128x1024_S128x1024).view.dmaCredit = N := credit_slot false 5
theorem semL6 : ((cc0_scratch10.slice (Rect.unit (s := S8) ![6] S1.size inb_S8_S1_6)).squeeze S_ squeezes_S1_S_).sem = rcvS false 6 := rfl
theorem credL6 : (((Memref.whole cc0_scratch6).slice (Rect.unit (s := S8x128x1024) ![6, 0, 0] S1x128x1024.size inb_S8x128x1024_S1x128x1024_6_0_0) (fun _ => rfl)).squeeze S128x1024 squeezes_S1x128x1024_S128x1024).view.dmaCredit = N := credit_slot false 6
theorem semL7 : ((cc0_scratch10.slice (Rect.unit (s := S8) ![7] S1.size inb_S8_S1_7)).squeeze S_ squeezes_S1_S_).sem = rcvS false 7 := rfl
theorem credL7 : (((Memref.whole cc0_scratch6).slice (Rect.unit (s := S8x128x1024) ![7, 0, 0] S1x128x1024.size inb_S8x128x1024_S1x128x1024_7_0_0) (fun _ => rfl)).squeeze S128x1024 squeezes_S1x128x1024_S128x1024).view.dmaCredit = N := credit_slot false 7
theorem semSr : cc0_scratch7.sem = sndS true := rfl
theorem semSl : cc0_scratch8.sem = sndS false := rfl
theorem credBr : (Memref.whole cc0_scratch3).view.dmaCredit = N := credit_buf true
theorem credBl : (Memref.whole cc0_scratch4).view.dmaCredit = N := credit_buf false

/-! ## The chunks -/

variable {F : FTy → Type} [FloatOps F]

theorem inb_x (q : Dev nD) : ∀ a, (![128 * q.val, 0] : Fin 2 → ℕ) a + S128x512.size a ≤ S2048x512.size a := by revert q; decide +kernel
theorem inb_w (q : Dev nD) : ∀ a, (![128 * q.val, 0] : Fin 2 → ℕ) a + S128x8.size a ≤ S2048x8.size a := by revert q; decide +kernel

/-- Chunk `q` of the tokens. -/
noncomputable def xch (f : Vec F S2048x512 .bf16) (q : Dev nD) : Vec F S128x512 .bf16 :=
  (Memref.whole cc0_scratch1).view.readAt (Elt F) (Rect.unit (s := S2048x512) ![128 * q.val, 0] S128x512.size (inb_x q)).toLoadRect f
/-- Chunk `q` of the weights. -/
noncomputable def wch (f : Vec F S2048x8 .bf16) (q : Dev nD) : Vec F S128x8 .bf16 :=
  (Memref.whole cc0_scratch0).view.readAt (Elt F) (Rect.unit (s := S2048x8) ![128 * q.val, 0] S128x8.size (inb_w q)).toLoadRect f
/-- Column `j` of the expert numbers. -/
noncomputable def icol (f : Vec F S2048x2 .i32) (j : ℕ) (h : ∀ a, (![0, j] : Fin 2 → ℕ) a + S2048x1.size a ≤ S2048x2.size a) : Vec F S2048x1 .i32 :=
  (Memref.whole cc0_stg2_0).view.readAt (Elt F) (Rect.unit (s := S2048x2) ![0, j] S2048x1.size h).toLoadRect f
/-- Expert `j`'s matrix. -/
noncomputable def slab (f : Vec F S8x512x1024 .bf16) (j : ℕ) (h : ∀ a, (![j, 0, 0] : Fin 3 → ℕ) a + S1x512x1024.size a ≤ S8x512x1024.size a) : Vec F S1x512x1024 .bf16 :=
  (Memref.whole cc0_stg3_0).view.readAt (Elt F) (Rect.unit (s := S8x512x1024) ![j, 0, 0] S1x512x1024.size h).toLoadRect f
/-- A matrix written into the rows from `o` on. -/
noncomputable def putS (o : ℕ) (h : ∀ a, (![o, 0] : Fin 2 → ℕ) a + S512x1024.size a ≤ S4096x1024.size a) (f : Vec F S4096x1024 .bf16) (v : Vec F S512x1024 .bf16) : Vec F S4096x1024 .bf16 :=
  ((Memref.whole cc0_scratch2).access (Rect.unit (s := S4096x1024) ![o, 0] S512x1024.size h)).write (Elt F) f v Finset.univ

section Loads

variable {c : Dev nD} {M : Mem F} {X : sProp (MM F)} {α : Type} {Φ : α → sProp (MM F)}

theorem zero2 : (![0, 0] : Fin 2 → ℕ) = fun _ => 0 := funext fun a => by fin_cases a <;> rfl

theorem load_xch {off : Fin 2 → ℕ} {q : Dev nD} (ho : off = ![128 * q.val, 0]) {inb : ∀ a, off a + S128x512.size a ≤ S2048x512.size a}
    {hl : (Memref.whole cc0_scratch1).view.LoadsAt (Rect.unit (s := S2048x512) off S128x512.size inb).toLoadRect} {k : Vec F S128x512 .bf16 → Prog (TpuEff nD τ sig (Elt F) Λ₀ .tc) α}
    (h : iprop(memS c M ∗ X) ⊢ run c (k (xch M.xb q)) Φ) :
    iprop(memS c M ∗ X) ⊢ run c (.op (.load (Memref.whole cc0_scratch1) (Rect.unit (s := S2048x512) off S128x512.size inb).toLoadRect hl) k) Φ := by
  subst ho; exact load_xb _ rfl h
theorem load_wch {off : Fin 2 → ℕ} {q : Dev nD} (ho : off = ![128 * q.val, 0]) {inb : ∀ a, off a + S128x8.size a ≤ S2048x8.size a}
    {hl : (Memref.whole cc0_scratch0).view.LoadsAt (Rect.unit (s := S2048x8) off S128x8.size inb).toLoadRect} {k : Vec F S128x8 .bf16 → Prog (TpuEff nD τ sig (Elt F) Λ₀ .tc) α}
    (h : iprop(memS c M ∗ X) ⊢ run c (k (wch M.w q)) Φ) :
    iprop(memS c M ∗ X) ⊢ run c (.op (.load (Memref.whole cc0_scratch0) (Rect.unit (s := S2048x8) off S128x8.size inb).toLoadRect hl) k) Φ := by
  subst ho; exact load_w _ rfl h
theorem load_ew_all {inb : ∀ a, (![0, 0] : Fin 2 → ℕ) a + S4096x1024.size a ≤ S4096x1024.size a} {hl : (Memref.whole cc0_scratch2).view.LoadsAt (Rect.unit (s := S4096x1024) ![0, 0] S4096x1024.size inb).toLoadRect}
    {k : Vec F S4096x1024 .bf16 → Prog (TpuEff nD τ sig (Elt F) Λ₀ .tc) α} (h : iprop(memS c M ∗ X) ⊢ run c (k M.ew) Φ) :
    iprop(memS c M ∗ X) ⊢ run c (.op (.load (Memref.whole cc0_scratch2) (Rect.unit (s := S4096x1024) ![0, 0] S4096x1024.size inb).toLoadRect hl) k) Φ :=
  load_ew _ (Memref.readAt_unit_zero (Elt F) cc0_scratch2 zero2 inb M.ew) h
theorem load_x_all {inb : ∀ a, (![0, 0] : Fin 2 → ℕ) a + S2048x512.size a ≤ S2048x512.size a} {hl : (Memref.whole cc0_stg0_0).view.LoadsAt (Rect.unit (s := S2048x512) ![0, 0] S2048x512.size inb).toLoadRect}
    {k : Vec F S2048x512 .bf16 → Prog (TpuEff nD τ sig (Elt F) Λ₀ .tc) α} (h : iprop(memS c M ∗ X) ⊢ run c (k M.x) Φ) :
    iprop(memS c M ∗ X) ⊢ run c (.op (.load (Memref.whole cc0_stg0_0) (Rect.unit (s := S2048x512) ![0, 0] S2048x512.size inb).toLoadRect hl) k) Φ :=
  load_x _ (Memref.readAt_unit_zero (Elt F) cc0_stg0_0 zero2 inb M.x) h
theorem load_rw_all {inb : ∀ a, (![0, 0] : Fin 2 → ℕ) a + S512x128.size a ≤ S512x128.size a} {hl : (Memref.whole cc0_stg1_0).view.LoadsAt (Rect.unit (s := S512x128) ![0, 0] S512x128.size inb).toLoadRect}
    {k : Vec F S512x128 .bf16 → Prog (TpuEff nD τ sig (Elt F) Λ₀ .tc) α} (h : iprop(memS c M ∗ X) ⊢ run c (k M.rw) Φ) :
    iprop(memS c M ∗ X) ⊢ run c (.op (.load (Memref.whole cc0_stg1_0) (Rect.unit (s := S512x128) ![0, 0] S512x128.size inb).toLoadRect hl) k) Φ :=
  load_rw _ (Memref.readAt_unit_zero (Elt F) cc0_stg1_0 zero2 inb M.rw) h
theorem load_tp_all {inb : ∀ a, (![0, 0] : Fin 2 → ℕ) a + S1x16.size a ≤ S1x16.size a} {hl : (Memref.whole cc0_stg4_0).view.LoadsAt (Rect.unit (s := S1x16) ![0, 0] S1x16.size inb).toLoadRect}
    {k : Vec F S1x16 .i32 → Prog (TpuEff nD τ sig (Elt F) Λ₀ .tc) α} (h : iprop(memS c M ∗ X) ⊢ run c (k M.tp) Φ) :
    iprop(memS c M ∗ X) ⊢ run c (.op (.load (Memref.whole cc0_stg4_0) (Rect.unit (s := S1x16) ![0, 0] S1x16.size inb).toLoadRect hl) k) Φ :=
  load_tp _ (Memref.readAt_unit_zero (Elt F) cc0_stg4_0 zero2 inb M.tp) h
theorem load_tr_all {inb : ∀ a, (![0, 0] : Fin 2 → ℕ) a + S1x16.size a ≤ S1x16.size a} {hl : (Memref.whole cc0_stg5_0).view.LoadsAt (Rect.unit (s := S1x16) ![0, 0] S1x16.size inb).toLoadRect}
    {k : Vec F S1x16 .i32 → Prog (TpuEff nD τ sig (Elt F) Λ₀ .tc) α} (h : iprop(memS c M ∗ X) ⊢ run c (k M.tr) Φ) :
    iprop(memS c M ∗ X) ⊢ run c (.op (.load (Memref.whole cc0_stg5_0) (Rect.unit (s := S1x16) ![0, 0] S1x16.size inb).toLoadRect hl) k) Φ :=
  load_tr _ (Memref.readAt_unit_zero (Elt F) cc0_stg5_0 zero2 inb M.tr) h
theorem store_w_all {inb : ∀ a, (![0, 0] : Fin 2 → ℕ) a + S2048x8.size a ≤ S2048x8.size a} {v : Vec F S2048x8 .bf16}
    {hx : ((Memref.whole cc0_scratch0).access (Rect.unit (s := S2048x8) ![0, 0] S2048x8.size inb)).Stores Finset.univ} {hm : (Finset.univ : Finset (Rect.unit (s := S2048x8) ![0, 0] S2048x8.size inb).shape.Idx) = Finset.univ ∨ ∀ a, (Rect.unit (s := S2048x8) ![0, 0] S2048x8.size inb).stride a = 1}
    {k : PUnit → Prog (TpuEff nD τ sig (Elt F) Λ₀ .tc) α} (h : iprop(memS c { M with w := v } ∗ X) ⊢ run c (k ⟨⟩) Φ) :
    iprop(memS c M ∗ X) ⊢ run c (.op (.store (Memref.whole cc0_scratch0) (Rect.unit (s := S2048x8) ![0, 0] S2048x8.size inb) v Finset.univ hx hm) k) Φ :=
  store_w v (Memref.write_access_unit_zero_univ (Elt F) cc0_scratch0 zero2 inb M.w v) h
theorem store_xb_all {inb : ∀ a, (![0, 0] : Fin 2 → ℕ) a + S2048x512.size a ≤ S2048x512.size a} {v : Vec F S2048x512 .bf16}
    {hx : ((Memref.whole cc0_scratch1).access (Rect.unit (s := S2048x512) ![0, 0] S2048x512.size inb)).Stores Finset.univ} {hm : (Finset.univ : Finset (Rect.unit (s := S2048x512) ![0, 0] S2048x512.size inb).shape.Idx) = Finset.univ ∨ ∀ a, (Rect.unit (s := S2048x512) ![0, 0] S2048x512.size inb).stride a = 1}
    {k : PUnit → Prog (TpuEff nD τ sig (Elt F) Λ₀ .tc) α} (h : iprop(memS c { M with xb := v } ∗ X) ⊢ run c (k ⟨⟩) Φ) :
    iprop(memS c M ∗ X) ⊢ run c (.op (.store (Memref.whole cc0_scratch1) (Rect.unit (s := S2048x512) ![0, 0] S2048x512.size inb) v Finset.univ hx hm) k) Φ :=
  store_xb v (Memref.write_access_unit_zero_univ (Elt F) cc0_scratch1 zero2 inb M.xb v) h
theorem store_o_all {inb : ∀ a, (![0, 0] : Fin 2 → ℕ) a + S128x1024.size a ≤ S128x1024.size a} {v : Vec F S128x1024 .f32}
    {hx : ((Memref.whole cc0_stg6_0).access (Rect.unit (s := S128x1024) ![0, 0] S128x1024.size inb)).Stores Finset.univ} {hm : (Finset.univ : Finset (Rect.unit (s := S128x1024) ![0, 0] S128x1024.size inb).shape.Idx) = Finset.univ ∨ ∀ a, (Rect.unit (s := S128x1024) ![0, 0] S128x1024.size inb).stride a = 1}
    {k : PUnit → Prog (TpuEff nD τ sig (Elt F) Λ₀ .tc) α} (h : iprop(memS c { M with o := v } ∗ X) ⊢ run c (k ⟨⟩) Φ) :
    iprop(memS c M ∗ X) ⊢ run c (.op (.store (Memref.whole cc0_stg6_0) (Rect.unit (s := S128x1024) ![0, 0] S128x1024.size inb) v Finset.univ hx hm) k) Φ :=
  store_o v (Memref.write_access_unit_zero_univ (Elt F) cc0_stg6_0 zero2 inb M.o v) h

end Loads

end Cert.KernelIdeal.Moe

end
-- ==== Proof.PartsA.lean ====
/- The kernel body, parts 1 to 8: the barrier, the weights and the first messages. -/
module

public import proofs.«01_k».proof.Proof.Chunks

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Parts

variable {snd : Msgs F} {K : GSem nD τ sig → ℕ} {c : Dev nD} {α : Type} {Φ : α → sProp (MM F)} {M : Mem F} {x y : Vec F S128x1024 .bf16}

theorem part1_step {X : sProp (MM F)} {k : (Σ' (d0 : Dev nD) (v2 : BitVec 32) (v3 : IVec S1x16 32) (v4 : Vec F S1x16 .i32) (v13 : BitVec 32) (v32 : BitVec 32) (k0_hw1 : k0_chk1 v32) (v35 : BitVec 32), BitVec 32) → Prog (TpuEff nD τ sig (Elt F) Λ₀ .tc) α}  (hv32 : extractAt ![0, 0, 0] (k0_pay3 (F := F) c M.tp M.tr) inpos_S1x1x1_p0_0_0 = wd (nbr false c)) (hk1 : k0_chk1 (extractAt ![0, 0, 0] (k0_pay3 (F := F) c M.tp M.tr) inpos_S1x1x1_p0_0_0))
    (h : iprop(memS c (M) ∗ X) ⊢ run c (k ⟨c, (Scalar.remsi (Scalar.divsi (Dev.word c) 1#32) 16#32), (iota .tc S1x16 32 [1] iota_S1x16_d1_w32), M.tp, (extractAt ![0, 0, 0] (k0_pay2 (F := F) c M.tr) inpos_S1x1x1_p0_0_0), (extractAt ![0, 0, 0] (k0_pay3 (F := F) c M.tp M.tr) inpos_S1x1x1_p0_0_0), (by exact hk1), (Scalar.select (Scalar.cmpi .eq 16#32 0#32) 1#32 16#32), (Scalar.remsi (Scalar.addi (extractAt ![0, 0, 0] (k0_pay2 (F := F) c M.tr) inpos_S1x1x1_p0_0_0) 1#32) (Scalar.select (Scalar.cmpi .eq 16#32 0#32) 1#32 16#32))⟩) Φ) :
    iprop(memS c M ∗ X) ⊢ run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10  >>= k) Φ := by
  rw [k0_part1_eq_skeleton]
  unfold k0_part1_skel
  refine device_step ?_
  refine load_tp_all ?_
  refine load_tr_all ?_
  refine assume_step hk1 ?_
  exact h

theorem part2_step {k : (Σ' (v51 : BitVec 32) (k0_hw2 : k0_chk2 v51) (v61 : FVec F S2048x128 .f32) (v63 : IVec S2048x1 32) (v65 : IVec S2048x1 32) (v66 : IVec S2048x128 32) (v68 : IVec S2048x128 1), FVec F S2048x128 .f32) → Prog (TpuEff nD τ sig (Elt F) Λ₀ .tc) α} (v3 : IVec S1x16 32) (v4 : Vec F S1x16 .i32) (v32 : BitVec 32) (k0_hw1 : k0_chk1 v32) (v35 : BitVec 32) (v36 : BitVec 32) (hv32 : v32 = wd (nbr false c)) (hv51 : extractAt ![0, 0, 0] (k0_pay4 (F := F) v3 v4 v35 v36) inpos_S1x1x1_p0_0_0 = wd (nbr true c)) (hk2 : k0_chk2 (extractAt ![0, 0, 0] (k0_pay4 (F := F) v3 v4 v35 v36) inpos_S1x1x1_p0_0_0))
    (h : iprop(memS c (M) ∗ st snd K c 0 (some x) 0 0 (some y) 0) ⊢ run c (k ⟨(extractAt ![0, 0, 0] (k0_pay4 (F := F) v3 v4 v35 v36) inpos_S1x1x1_p0_0_0), (by exact hk2), k0_pay5 (F := F) M.x M.rw, k0_pay6 (F := F) (icol M.ix 0 inb_S2048x2_S2048x1_0_0), k0_pay7 (F := F) (icol M.ix 1 inb_S2048x2_S2048x1_0_1), (iota .tc S2048x128 32 [1] iota_S2048x128_d1_w32), k0_pay8 (F := F) (icol M.ix 0 inb_S2048x2_S2048x1_0_0), k0_pay9 (F := F)⟩) Φ) :
    iprop(memS c M ∗ st0 snd K c x y) ⊢ run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v32 k0_hw1 v35 v36 >>= k) (fun a => iprop(Φ a ∗ atPos ER (barCell c) 1 ∅ 0)) := by
  rw [k0_part2_eq_skeleton]
  unfold k0_part2_skel
  refine assume_step hk2 ?_
  refine barrier_step (Fin.ext ((congrArg k0_dev1 hv32).trans (dev1 _))) (Fin.ext ((congrArg k0_dev2 hv51).trans (dev2 _))) ?_
  refine load_x_all ?_
  refine load_rw_all ?_
  refine load_ix (icol M.ix 0 inb_S2048x2_S2048x1_0_0) rfl ?_
  refine load_ix (icol M.ix 1 inb_S2048x2_S2048x1_0_1) rfl ?_
  exact h

theorem part3_step {k : (FVec F S512x1024 .bf16) → Prog (TpuEff nD τ sig (Elt F) Λ₀ .tc) α} (v2 : BitVec 32) (v61 : FVec F S2048x128 .f32) (v63 : IVec S2048x1 32) (v65 : IVec S2048x1 32) (v66 : IVec S2048x128 32) (v68 : IVec S2048x128 1) (v69 : FVec F S2048x128 .f32)
    (h : iprop(memS c ({ M with w := (k0_pay10 (F := F) v2 v61 v63 v65 v66 v68 v69), xb := (k0_pay11 (F := F) M.x) }) ∗ st snd K c 0 (some x) 0 0 (some y) 0) ⊢ run c (k (k0_pay12 (F := F) (slab M.ex 0 inb_S8x512x1024_S1x512x1024_0_0_0))) Φ) :
    iprop(memS c M ∗ st snd K c 0 (some x) 0 0 (some y) 0) ⊢ run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v61 v63 v65 v66 v68 v69 >>= k) Φ := by
  rw [k0_part3_eq_skeleton]
  unfold k0_part3_skel
  refine load_w _ rfl ?_
  refine store_w_all ?_
  refine load_x_all ?_
  refine load_xb _ rfl ?_
  refine store_xb_all ?_
  refine load_ex (slab M.ex 0 inb_S8x512x1024_S1x512x1024_0_0_0) rfl ?_
  exact h

theorem part4_step {k : (PUnit) → Prog (TpuEff nD τ sig (Elt F) Λ₀ .tc) α} (v110 : FVec F S512x1024 .bf16)
    (h : iprop(memS c ({ M with ew := (putS 2560 inb_S4096x1024_S512x1024_2560_0 (putS 2048 inb_S4096x1024_S512x1024_2048_0 (putS 1536 inb_S4096x1024_S512x1024_1536_0 (putS 1024 inb_S4096x1024_S512x1024_1024_0 (putS 512 inb_S4096x1024_S512x1024_512_0 (putS 0 inb_S4096x1024_S512x1024_0_0 M.ew (k0_pay13 (F := F) v110)) (k0_pay14 (F := F) (slab M.ex 1 inb_S8x512x1024_S1x512x1024_1_0_0))) (k0_pay15 (F := F) (slab M.ex 2 inb_S8x512x1024_S1x512x1024_2_0_0))) (k0_pay16 (F := F) (slab M.ex 3 inb_S8x512x1024_S1x512x1024_3_0_0))) (k0_pay17 (F := F) (slab M.ex 4 inb_S8x512x1024_S1x512x1024_4_0_0))) (k0_pay18 (F := F) (slab M.ex 5 inb_S8x512x1024_S1x512x1024_5_0_0))) }) ∗ st snd K c 0 (some x) 0 0 (some y) 0) ⊢ run c (k ⟨⟩) Φ) :
    iprop(memS c M ∗ st snd K c 0 (some x) 0 0 (some y) 0) ⊢ run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v110 >>= k) Φ := by
  rw [k0_part4_eq_skeleton]
  unfold k0_part4_skel
  refine load_ew _ rfl ?_
  refine store_ew _ rfl ?_
  refine load_ex (slab M.ex 1 inb_S8x512x1024_S1x512x1024_1_0_0) rfl ?_
  refine load_ew _ rfl ?_
  refine store_ew _ rfl ?_
  refine load_ex (slab M.ex 2 inb_S8x512x1024_S1x512x1024_2_0_0) rfl ?_
  refine load_ew _ rfl ?_
  refine store_ew _ rfl ?_
  refine load_ex (slab M.ex 3 inb_S8x512x1024_S1x512x1024_3_0_0) rfl ?_
  refine load_ew _ rfl ?_
  refine store_ew _ rfl ?_
  refine load_ex (slab M.ex 4 inb_S8x512x1024_S1x512x1024_4_0_0) rfl ?_
  refine load_ew _ rfl ?_
  refine store_ew _ rfl ?_
  refine load_ex (slab M.ex 5 inb_S8x512x1024_S1x512x1024_5_0_0) rfl ?_
  refine load_ew _ rfl ?_
  refine store_ew _ rfl ?_
  exact h

theorem part5_step {q167 : Dev nD} {k : (Σ' (v167 : BitVec 32) (k0_hw3 : k0_chk3 v167) (v170 : BitVec 32) (v171 : BitVec 32), BitVec 32) → Prog (TpuEff nD τ sig (Elt F) Λ₀ .tc) α} (v3 : IVec S1x16 32) (v4 : Vec F S1x16 .i32) (v13 : BitVec 32) (hv167 : extractAt ![0, 0, 0] (k0_pay21 (F := F) v3 v4 v13) inpos_S1x1x1_p0_0_0 = wd q167) (hk3 : k0_chk3 (extractAt ![0, 0, 0] (k0_pay21 (F := F) v3 v4 v13) inpos_S1x1x1_p0_0_0))
    (h : iprop(memS c ({ M with ew := (putS 3584 inb_S4096x1024_S512x1024_3584_0 (putS 3072 inb_S4096x1024_S512x1024_3072_0 M.ew (k0_pay19 (F := F) (slab M.ex 6 inb_S8x512x1024_S1x512x1024_6_0_0))) (k0_pay20 (F := F) (slab M.ex 7 inb_S8x512x1024_S1x512x1024_7_0_0))) }) ∗ st snd K c 0 (some x) 0 0 (some y) 0) ⊢ run c (k ⟨(extractAt ![0, 0, 0] (k0_pay21 (F := F) v3 v4 v13) inpos_S1x1x1_p0_0_0), (by exact hk3), (Scalar.select (Scalar.cmpi .eq 16#32 0#32) 1#32 16#32), (Scalar.remsi (Scalar.addi v13 8#32) (Scalar.select (Scalar.cmpi .eq 16#32 0#32) 1#32 16#32)), 0#32⟩) Φ) :
    iprop(memS c M ∗ st snd K c 0 (some x) 0 0 (some y) 0) ⊢ run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v13 >>= k) Φ := by
  rw [k0_part5_eq_skeleton]
  unfold k0_part5_skel
  refine load_ex (slab M.ex 6 inb_S8x512x1024_S1x512x1024_6_0_0) rfl ?_
  refine load_ew _ rfl ?_
  refine store_ew _ rfl ?_
  refine load_ex (slab M.ex 7 inb_S8x512x1024_S1x512x1024_7_0_0) rfl ?_
  refine load_ew _ rfl ?_
  refine store_ew _ rfl ?_
  refine assume_step hk3 ?_
  exact h

theorem part6_step {q167 q186 : Dev nD} {k : (Σ' (v193 : FVec F S256x512 .bf16) (v201 : FVec F S256x512 .bf16) (v204 : FVec F S256x512 .bf16) (v207 : FVec F S256x512 .bf16) (v210 : FVec F S256x512 .bf16) (v213 : FVec F S256x512 .bf16) (v216 : FVec F S256x512 .bf16) (v219 : FVec F S256x512 .bf16), FVec F S256x1 .bf16) → Prog (TpuEff nD τ sig (Elt F) Λ₀ .tc) α} (v3 : IVec S1x16 32) (v4 : Vec F S1x16 .i32) (v167 : BitVec 32) (k0_hw3 : k0_chk3 v167) (v170 : BitVec 32) (v171 : BitVec 32) (c0_i32_87 : BitVec 32) (hv167 : v167 = wd q167) (hv186 : extractAt ![0, 0, 0] (k0_pay22 (F := F) v3 v4 v170 v171 c0_i32_87) inpos_S1x1x1_p0_0_0 = wd q186) (hk4 : k0_chk4 (extractAt ![0, 0, 0] (k0_pay22 (F := F) v3 v4 v170 v171 c0_i32_87) inpos_S1x1x1_p0_0_0))
    (h : iprop(memS c (M) ∗ st snd K c 0 (some x) 0 0 (some y) 0) ⊢ run c (k ⟨k0_pay23 (F := F) (xch M.xb q167) (xch M.xb q186), k0_pay25 (F := F) (xch M.xb q167) (xch M.xb q186) (wch M.w q167) (wch M.w q186), k0_pay26 (F := F) (xch M.xb q167) (xch M.xb q186) (wch M.w q167) (wch M.w q186), k0_pay27 (F := F) (xch M.xb q167) (xch M.xb q186) (wch M.w q167) (wch M.w q186), k0_pay28 (F := F) (xch M.xb q167) (xch M.xb q186) (wch M.w q167) (wch M.w q186), k0_pay29 (F := F) (xch M.xb q167) (xch M.xb q186) (wch M.w q167) (wch M.w q186), k0_pay30 (F := F) (xch M.xb q167) (xch M.xb q186) (wch M.w q167) (wch M.w q186), k0_pay31 (F := F) (xch M.xb q167) (xch M.xb q186) (wch M.w q167) (wch M.w q186), k0_pay32 (F := F) (wch M.w q167) (wch M.w q186)⟩) Φ) :
    iprop(memS c M ∗ st snd K c 0 (some x) 0 0 (some y) 0) ⊢ run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v167 k0_hw3 v170 v171 c0_i32_87 >>= k) Φ := by
  rw [k0_part6_eq_skeleton]
  unfold k0_part6_skel
  refine assume_step hk4 ?_
  refine load_xch ((congrArg k0_off1 hv167).trans (off1 _)) ?_
  refine load_xch ((congrArg k0_off2 hv186).trans (off2 _)) ?_
  refine load_wch ((congrArg k0_off3 hv167).trans (off3 _)) ?_
  refine load_wch ((congrArg k0_off4 hv186).trans (off4 _)) ?_
  exact h

theorem part7_step {k : (Σ' (v251 : BitVec 32), BitVec 32) → Prog (TpuEff nD τ sig (Elt F) Λ₀ .tc) α} (v13 : BitVec 32) (v32 : BitVec 32) (k0_hw1 : k0_chk1 v32) (v51 : BitVec 32) (k0_hw2 : k0_chk2 v51) (v193 : FVec F S256x512 .bf16) (v201 : FVec F S256x512 .bf16) (v204 : FVec F S256x512 .bf16) (v207 : FVec F S256x512 .bf16) (v210 : FVec F S256x512 .bf16) (v213 : FVec F S256x512 .bf16) (v216 : FVec F S256x512 .bf16) (v219 : FVec F S256x512 .bf16) (v220 : FVec F S256x1 .bf16) (hv32 : v32 = wd (nbr false c)) (hv51 : v51 = wd (nbr true c)) (hsr0 : (k0_pay34 (F := F) v193 v201 v204 v207 v210 v213 v216 v219 v220 M.ew) = snd true 0 c) (hsl0 : (k0_pay35 (F := F) v193 v201 v204 v207 v210 v213 v216 v219 v220 M.ew) = snd false 0 c)
    (h : iprop(memS c (M) ∗ st snd K c 1 none 0 1 none 0) ⊢ run c (k ⟨(Scalar.select (Scalar.cmpi .eq 16#32 0#32) 1#32 16#32), (Scalar.remsi (Scalar.subi (Scalar.addi v13 6#32) 0#32) (Scalar.select (Scalar.cmpi .eq 16#32 0#32) 1#32 16#32))⟩) Φ) :
    iprop(memS c M ∗ st snd K c 0 (some x) 0 0 (some y) 0) ⊢ run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v13 v32 k0_hw1 v51 k0_hw2 v193 v201 v204 v207 v210 v213 v216 v219 v220 >>= k) Φ := by
  rw [k0_part7_eq_skeleton]
  unfold k0_part7_skel
  refine load_ew_all ?_
  refine load_buf_r ?_
  refine store_buf_r hsr0 ?_
  refine load_buf_l ?_
  refine store_buf_l hsl0 ?_
  refine send_r (s := 0) (by decide) (Fin.ext ((congrArg k0_dev3 hv51).trans (dev3 _))) rfl ?_
  refine send_l (s := 0) (by decide) (Fin.ext ((congrArg k0_dev4 hv32).trans (dev4 _))) rfl ?_
  exact h

theorem part8_step {q267 q287 : Dev nD} {k : (Σ' (v267 : BitVec 32) (k0_hw5 : k0_chk5 v267) (v287 : BitVec 32) (k0_hw6 : k0_chk6 v287) (v288 : BitVec 32) (v289 : BitVec 32), Vec F S128x512 .bf16) → Prog (TpuEff nD τ sig (Elt F) Λ₀ .tc) α} (v3 : IVec S1x16 32) (v4 : Vec F S1x16 .i32) (v13 : BitVec 32) (v251 : BitVec 32) (v252 : BitVec 32) (hv267 : extractAt ![0, 0, 0] (k0_pay36 (F := F) v3 v4 v251 v252) inpos_S1x1x1_p0_0_0 = wd q267) (hk5 : k0_chk5 (extractAt ![0, 0, 0] (k0_pay36 (F := F) v3 v4 v251 v252) inpos_S1x1x1_p0_0_0)) (hv287 : extractAt ![0, 0, 0] (k0_pay37 (F := F) v3 v4 v13) inpos_S1x1x1_p0_0_0 = wd q287) (hk6 : k0_chk6 (extractAt ![0, 0, 0] (k0_pay37 (F := F) v3 v4 v13) inpos_S1x1x1_p0_0_0))
    (h : iprop(memS c (M) ∗ st snd K c 1 none 0 1 none 0) ⊢ run c (k ⟨(extractAt ![0, 0, 0] (k0_pay36 (F := F) v3 v4 v251 v252) inpos_S1x1x1_p0_0_0), (by exact hk5), (extractAt ![0, 0, 0] (k0_pay37 (F := F) v3 v4 v13) inpos_S1x1x1_p0_0_0), (by exact hk6), (Scalar.muli (extractAt ![0, 0, 0] (k0_pay36 (F := F) v3 v4 v251 v252) inpos_S1x1x1_p0_0_0) 128#32), (Scalar.muli (extractAt ![0, 0, 0] (k0_pay37 (F := F) v3 v4 v13) inpos_S1x1x1_p0_0_0) 128#32), (xch M.xb q267)⟩) Φ) :
    iprop(memS c M ∗ st snd K c 1 none 0 1 none 0) ⊢ run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v13 v251 v252 >>= k) Φ := by
  rw [k0_part8_eq_skeleton]
  unfold k0_part8_skel
  refine assume_step hk5 ?_
  refine assume_step hk6 ?_
  refine load_xch ((congrArg k0_off5 hv267).trans (off5 _)) ?_
  exact h

end Parts

end Cert.KernelIdeal.Moe

end
-- ==== Proof.PartsB.lean ====
/- The kernel body, parts 9 to 17. -/
module

public import proofs.«01_k».proof.Proof.Chunks

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Parts

variable {snd : Msgs F} {K : GSem nD τ sig → ℕ} {c : Dev nD} {α : Type} {Φ : α → sProp (MM F)} {M : Mem F} {x y : Vec F S128x1024 .bf16}

theorem part9_step {q267 q287 : Dev nD} {k : (Σ' (v327 : FVec F S128x1024 .f32), FVec F S128x1024 .f32) → Prog (TpuEff nD τ sig (Elt F) Λ₀ .tc) α} (v51 : BitVec 32) (v267 : BitVec 32) (k0_hw5 : k0_chk5 v267) (v287 : BitVec 32) (k0_hw6 : k0_chk6 v287) (v288 : BitVec 32) (v289 : BitVec 32) (v291 : Vec F S128x512 .bf16) (hv51 : v51 = wd (nbr true c)) (hv267 : v267 = wd q267) (hv287 : v287 = wd q287)
    (h : iprop(memS c (M) ∗ st snd K c 1 (some (snd true 0 c)) 0 1 none 0) ⊢ run c (k ⟨k0_pay39 (F := F) v291 (xch M.xb q287) (wch M.w q267) (wch M.w q287) M.ew, k0_pay40 (F := F) v291 (xch M.xb q287) (wch M.w q267) (wch M.w q287) M.ew⟩) Φ) :
    iprop(memS c M ∗ st snd K c 1 none 0 1 none 0) ⊢ run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v51 v267 k0_hw5 v287 k0_hw6 v288 v289 v291 >>= k) Φ := by
  rw [k0_part9_eq_skeleton]
  unfold k0_part9_skel
  refine load_xch ((congrArg k0_off6 hv287).trans (off6 _)) ?_
  refine load_wch ((congrArg k0_off7 hv267).trans (off7 _)) ?_
  refine load_wch ((congrArg k0_off8 hv287).trans (off8 _)) ?_
  refine load_ew_all ?_
  refine wait_snd_r (s := 0) (by decide) rfl semSr credBr ?_
  exact h

theorem part10_step {k : (PUnit) → Prog (TpuEff nD τ sig (Elt F) Λ₀ .tc) α} (v32 : BitVec 32) (v51 : BitVec 32) (v327 : FVec F S128x1024 .f32) (v328 : FVec F S128x1024 .f32) (hv32 : v32 = wd (nbr false c)) (hv51 : v51 = wd (nbr true c)) (hsr1 : (k0_pay41 (F := F) v327 (unsq (snd true 0 (nbr (!true) c)))) = snd true 1 c) (hsl1 : (k0_pay42 (F := F) v328 (unsq (snd false 0 (nbr (!false) c)))) = snd false 1 c)
    (h : iprop(memS c (M) ∗ st snd K c 1 (some (snd true 1 c)) 1 1 (some (snd false 1 c)) 1) ⊢ run c (k ⟨⟩) Φ) :
    iprop(memS c M ∗ st snd K c 1 (some (snd true 0 c)) 0 1 none 0) ⊢ run c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v32 v51 v327 v328 >>= k) Φ := by
  rw [k0_part10_eq_skeleton]
  unfold k0_part10_skel
  refine wait_rcv_r (s := 0) (by decide) (Or.inl (by decide)) (Or.inl (by decide)) semR0 credR0 ?_
  refine load_slot_r (s := 0) (by decide) rfl ?_
  refine load_buf_r ?_
  refine store_buf_r hsr1 ?_
  refine wait_snd_l (s := 0) (by decide) rfl semSl credBl ?_
  refine wait_rcv_l (s := 0) (by decide) (Or.inl (by decide)) (Or.inl (by decide)) semL0 credL0 ?_
  refine load_slot_l (s := 0) (by decide) rfl ?_
  refine load_buf_l ?_
  refine store_buf_l hsl1 ?_
  exact h

theorem part11_step {q392 : Dev nD} {k : (Σ' (v392 : BitVec 32) (k0_hw7 : k0_chk7 v392) (v396 : BitVec 32) (v397 : BitVec 32), BitVec 32) → Prog (TpuEff nD τ sig (Elt F) Λ₀ .tc) α} (v3 : IVec S1x16 32) (v4 : Vec F S1x16 .i32) (v13 : BitVec 32) (v32 : BitVec 32) (k0_hw1 : k0_chk1 v32) (v51 : BitVec 32) (k0_hw2 : k0_chk2 v51) (hv32 : v32 = wd (nbr false c)) (hv51 : v51 = wd (nbr true c)) (hv392 : extractAt ![0, 0, 0] (k0_pay43 (F := F) v3 v4 v13) inpos_S1x1x1_p0_0_0 = wd q392) (hk7 : k0_chk7 (extractAt ![0, 0, 0] (k0_pay43 (F := F) v3 v4 v13) inpos_S1x1x1_p0_0_0))
    (h : iprop(memS c (M) ∗ st snd K c 2 none 1 2 none 1) ⊢ run c (k ⟨(extractAt ![0, 0, 0] (k0_pay43 (F := F) v3 v4 v13) inpos_S1x1x1_p0_0_0), (by exact hk7), (Scalar.select (Scalar.cmpi .eq 16#32 0#32) 1#32 16#32), (Scalar.remsi (Scalar.addi (Scalar.subi v13 7#32) 1#32) (Scalar.select (Scalar.cmpi .eq 16#32 0#32) 1#32 16#32)), 0#32⟩) Φ) :
    iprop(memS c M ∗ st snd K c 1 (some (snd true 1 c)) 1 1 (some (snd false 1 c)) 1) ⊢ run c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v13 v32 k0_hw1 v51 k0_hw2 >>= k) Φ := by
  rw [k0_part11_eq_skeleton]
  unfold k0_part11_skel
  refine send_r (s := 1) (by decide) (Fin.ext ((congrArg k0_dev5 hv51).trans (dev5 _))) rfl ?_
  refine send_l (s := 1) (by decide) (Fin.ext ((congrArg k0_dev6 hv32).trans (dev6 _))) rfl ?_
  refine assume_step hk7 ?_
  exact h

theorem part12_step {q392 q412 : Dev nD} {k : (Σ' (v419 : FVec F S256x512 .bf16) (v427 : FVec F S256x512 .bf16) (v430 : FVec F S256x512 .bf16) (v433 : FVec F S256x512 .bf16) (v436 : FVec F S256x512 .bf16) (v439 : FVec F S256x512 .bf16) (v442 : FVec F S256x512 .bf16) (v445 : FVec F S256x512 .bf16), FVec F S256x1 .bf16) → Prog (TpuEff nD τ sig (Elt F) Λ₀ .tc) α} (v3 : IVec S1x16 32) (v4 : Vec F S1x16 .i32) (v392 : BitVec 32) (k0_hw7 : k0_chk7 v392) (v396 : BitVec 32) (v397 : BitVec 32) (c0_i32_203 : BitVec 32) (hv392 : v392 = wd q392) (hv412 : extractAt ![0, 0, 0] (k0_pay44 (F := F) v3 v4 v396 v397 c0_i32_203) inpos_S1x1x1_p0_0_0 = wd q412) (hk8 : k0_chk8 (extractAt ![0, 0, 0] (k0_pay44 (F := F) v3 v4 v396 v397 c0_i32_203) inpos_S1x1x1_p0_0_0))
    (h : iprop(memS c (M) ∗ st snd K c 2 none 1 2 none 1) ⊢ run c (k ⟨k0_pay45 (F := F) (xch M.xb q392) (xch M.xb q412), k0_pay47 (F := F) (xch M.xb q392) (xch M.xb q412) (wch M.w q392) (wch M.w q412), k0_pay48 (F := F) (xch M.xb q392) (xch M.xb q412) (wch M.w q392) (wch M.w q412), k0_pay49 (F := F) (xch M.xb q392) (xch M.xb q412) (wch M.w q392) (wch M.w q412), k0_pay50 (F := F) (xch M.xb q392) (xch M.xb q412) (wch M.w q392) (wch M.w q412), k0_pay51 (F := F) (xch M.xb q392) (xch M.xb q412) (wch M.w q392) (wch M.w q412), k0_pay52 (F := F) (xch M.xb q392) (xch M.xb q412) (wch M.w q392) (wch M.w q412), k0_pay53 (F := F) (xch M.xb q392) (xch M.xb q412) (wch M.w q392) (wch M.w q412), k0_pay54 (F := F) (wch M.w q392) (wch M.w q412)⟩) Φ) :
    iprop(memS c M ∗ st snd K c 2 none 1 2 none 1) ⊢ run c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v392 k0_hw7 v396 v397 c0_i32_203 >>= k) Φ := by
  rw [k0_part12_eq_skeleton]
  unfold k0_part12_skel
  refine assume_step hk8 ?_
  refine load_xch ((congrArg k0_off9 hv392).trans (off9 _)) ?_
  refine load_xch ((congrArg k0_off10 hv412).trans (off10 _)) ?_
  refine load_wch ((congrArg k0_off11 hv392).trans (off11 _)) ?_
  refine load_wch ((congrArg k0_off12 hv412).trans (off12 _)) ?_
  exact h

theorem part13_step {k : (FVec F S128x1024 .f32) → Prog (TpuEff nD τ sig (Elt F) Λ₀ .tc) α} (v32 : BitVec 32) (v51 : BitVec 32) (v419 : FVec F S256x512 .bf16) (v427 : FVec F S256x512 .bf16) (v430 : FVec F S256x512 .bf16) (v433 : FVec F S256x512 .bf16) (v436 : FVec F S256x512 .bf16) (v439 : FVec F S256x512 .bf16) (v442 : FVec F S256x512 .bf16) (v445 : FVec F S256x512 .bf16) (v446 : FVec F S256x1 .bf16) (hv32 : v32 = wd (nbr false c)) (hv51 : v51 = wd (nbr true c)) (hsr2 : (k0_pay57 (F := F) v419 v427 v430 v433 v436 v439 v442 v445 v446 M.ew (unsq (snd true 1 (nbr (!true) c)))) = snd true 2 c)
    (h : iprop(memS c (M) ∗ st snd K c 2 (some (snd true 2 c)) 2 2 (some (snd false 1 c)) 1) ⊢ run c (k (k0_pay56 (F := F) v419 v427 v430 v433 v436 v439 v442 v445 v446 M.ew)) Φ) :
    iprop(memS c M ∗ st snd K c 2 none 1 2 none 1) ⊢ run c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v32 v51 v419 v427 v430 v433 v436 v439 v442 v445 v446 >>= k) Φ := by
  rw [k0_part13_eq_skeleton]
  unfold k0_part13_skel
  refine load_ew_all ?_
  refine wait_snd_r (s := 1) (by decide) rfl semSr credBr ?_
  refine wait_rcv_r (s := 1) (by decide) (Or.inl (by decide)) (Or.inl (by decide)) semR1 credR1 ?_
  refine load_slot_r (s := 1) (by decide) rfl ?_
  refine load_buf_r ?_
  refine store_buf_r hsr2 ?_
  refine wait_snd_l (s := 1) (by decide) rfl semSl credBl ?_
  exact h

theorem part14_step {k : (Σ' (v501 : BitVec 32) (v502 : BitVec 32) (v503 : BitVec 1), BitVec 1) → Prog (TpuEff nD τ sig (Elt F) Λ₀ .tc) α} (v13 : BitVec 32) (v32 : BitVec 32) (k0_hw1 : k0_chk1 v32) (v51 : BitVec 32) (k0_hw2 : k0_chk2 v51) (v453 : FVec F S128x1024 .f32) (hv32 : v32 = wd (nbr false c)) (hv51 : v51 = wd (nbr true c)) (hsl2 : (k0_pay58 (F := F) v453 (unsq (snd false 1 (nbr (!false) c)))) = snd false 2 c)
    (h : iprop(memS c (M) ∗ st snd K c 3 none 2 3 none 2) ⊢ run c (k ⟨(Scalar.select (Scalar.cmpi .eq 16#32 0#32) 1#32 16#32), (Scalar.remsi (Scalar.subi (Scalar.addi v13 6#32) 2#32) (Scalar.select (Scalar.cmpi .eq 16#32 0#32) 1#32 16#32)), (Scalar.cmpi .ne (Scalar.remsi (Scalar.subi (Scalar.addi v13 6#32) 2#32) (Scalar.select (Scalar.cmpi .eq 16#32 0#32) 1#32 16#32)) 0#32), (Scalar.cmpi .slt (Scalar.remsi (Scalar.subi (Scalar.addi v13 6#32) 2#32) (Scalar.select (Scalar.cmpi .eq 16#32 0#32) 1#32 16#32)) 0#32)⟩) Φ) :
    iprop(memS c M ∗ st snd K c 2 (some (snd true 2 c)) 2 2 (some (snd false 1 c)) 1) ⊢ run c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v13 v32 k0_hw1 v51 k0_hw2 v453 >>= k) Φ := by
  rw [k0_part14_eq_skeleton]
  unfold k0_part14_skel
  refine wait_rcv_l (s := 1) (by decide) (Or.inl (by decide)) (Or.inl (by decide)) semL1 credL1 ?_
  refine load_slot_l (s := 1) (by decide) rfl ?_
  refine load_buf_l ?_
  refine store_buf_l hsl2 ?_
  refine send_r (s := 2) (by decide) (Fin.ext ((congrArg k0_dev7 hv51).trans (dev7 _))) rfl ?_
  refine send_l (s := 2) (by decide) (Fin.ext ((congrArg k0_dev8 hv32).trans (dev8 _))) rfl ?_
  exact h

theorem part15_step {q517 q537 : Dev nD} {k : (Σ' (v517 : BitVec 32) (k0_hw9 : k0_chk9 v517) (v537 : BitVec 32) (k0_hw10 : k0_chk10 v537) (v539 : BitVec 32), FVec F S256x512 .bf16) → Prog (TpuEff nD τ sig (Elt F) Λ₀ .tc) α} (v3 : IVec S1x16 32) (v4 : Vec F S1x16 .i32) (v13 : BitVec 32) (v501 : BitVec 32) (v502 : BitVec 32) (v503 : BitVec 1) (v504 : BitVec 1) (hv517 : extractAt ![0, 0, 0] (k0_pay59 (F := F) v3 v4 v501 v502 v503 v504) inpos_S1x1x1_p0_0_0 = wd q517) (hk9 : k0_chk9 (extractAt ![0, 0, 0] (k0_pay59 (F := F) v3 v4 v501 v502 v503 v504) inpos_S1x1x1_p0_0_0)) (hv537 : extractAt ![0, 0, 0] (k0_pay60 (F := F) v3 v4 v13) inpos_S1x1x1_p0_0_0 = wd q537) (hk10 : k0_chk10 (extractAt ![0, 0, 0] (k0_pay60 (F := F) v3 v4 v13) inpos_S1x1x1_p0_0_0))
    (h : iprop(memS c (M) ∗ st snd K c 3 none 2 3 none 2) ⊢ run c (k ⟨(extractAt ![0, 0, 0] (k0_pay59 (F := F) v3 v4 v501 v502 v503 v504) inpos_S1x1x1_p0_0_0), (by exact hk9), (extractAt ![0, 0, 0] (k0_pay60 (F := F) v3 v4 v13) inpos_S1x1x1_p0_0_0), (by exact hk10), (Scalar.muli (extractAt ![0, 0, 0] (k0_pay60 (F := F) v3 v4 v13) inpos_S1x1x1_p0_0_0) 128#32), k0_pay61 (F := F) (xch M.xb q517) (xch M.xb q537)⟩) Φ) :
    iprop(memS c M ∗ st snd K c 3 none 2 3 none 2) ⊢ run c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v13 v501 v502 v503 v504 >>= k) Φ := by
  rw [k0_part15_eq_skeleton]
  unfold k0_part15_skel
  refine assume_step hk9 ?_
  refine assume_step hk10 ?_
  refine load_xch ((congrArg k0_off13 hv517).trans (off13 _)) ?_
  refine load_xch ((congrArg k0_off14 hv537).trans (off14 _)) ?_
  exact h

theorem part16_step {q517 q537 : Dev nD} {k : (Σ' (v577 : FVec F S128x1024 .f32), FVec F S128x1024 .f32) → Prog (TpuEff nD τ sig (Elt F) Λ₀ .tc) α} (v51 : BitVec 32) (v517 : BitVec 32) (k0_hw9 : k0_chk9 v517) (v537 : BitVec 32) (k0_hw10 : k0_chk10 v537) (v539 : BitVec 32) (v544 : FVec F S256x512 .bf16) (hv51 : v51 = wd (nbr true c)) (hv517 : v517 = wd q517) (hv537 : v537 = wd q537)
    (h : iprop(memS c (M) ∗ st snd K c 3 (some (snd true 2 c)) 3 3 none 2) ⊢ run c (k ⟨k0_pay63 (F := F) v544 (wch M.w q517) (wch M.w q537) M.ew, k0_pay64 (F := F) v544 (wch M.w q517) (wch M.w q537) M.ew⟩) Φ) :
    iprop(memS c M ∗ st snd K c 3 none 2 3 none 2) ⊢ run c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v51 v517 k0_hw9 v537 k0_hw10 v539 v544 >>= k) Φ := by
  rw [k0_part16_eq_skeleton]
  unfold k0_part16_skel
  refine load_wch ((congrArg k0_off15 hv517).trans (off15 _)) ?_
  refine load_wch ((congrArg k0_off16 hv537).trans (off16 _)) ?_
  refine load_ew_all ?_
  refine wait_snd_r (s := 2) (by decide) rfl semSr credBr ?_
  refine wait_rcv_r (s := 2) (by decide) (Or.inl (by decide)) (Or.inl (by decide)) semR2 credR2 ?_
  exact h

theorem part17_step {k : (PUnit) → Prog (TpuEff nD τ sig (Elt F) Λ₀ .tc) α} (v32 : BitVec 32) (v51 : BitVec 32) (v577 : FVec F S128x1024 .f32) (v578 : FVec F S128x1024 .f32) (hv32 : v32 = wd (nbr false c)) (hv51 : v51 = wd (nbr true c)) (hsr3 : (k0_pay65 (F := F) v577 (unsq (snd true 2 (nbr (!true) c)))) = snd true 3 c) (hsl3 : (k0_pay66 (F := F) v578 (unsq (snd false 2 (nbr (!false) c)))) = snd false 3 c)
    (h : iprop(memS c (M) ∗ st snd K c 3 (some (snd true 3 c)) 3 3 (some (snd false 3 c)) 3) ⊢ run c (k ⟨⟩) Φ) :
    iprop(memS c M ∗ st snd K c 3 (some (snd true 2 c)) 3 3 none 2) ⊢ run c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v32 v51 v577 v578 >>= k) Φ := by
  rw [k0_part17_eq_skeleton]
  unfold k0_part17_skel
  refine load_slot_r (s := 2) (by decide) rfl ?_
  refine load_buf_r ?_
  refine store_buf_r hsr3 ?_
  refine wait_snd_l (s := 2) (by decide) rfl semSl credBl ?_
  refine wait_rcv_l (s := 2) (by decide) (Or.inl (by decide)) (Or.inl (by decide)) semL2 credL2 ?_
  refine load_slot_l (s := 2) (by decide) rfl ?_
  refine load_buf_l ?_
  refine store_buf_l hsl3 ?_
  exact h

end Parts

end Cert.KernelIdeal.Moe

end
-- ==== Proof.PartsC.lean ====
/- The kernel body, parts 18 to 25. -/
module

public import proofs.«01_k».proof.Proof.Chunks

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Parts

variable {snd : Msgs F} {K : GSem nD τ sig → ℕ} {c : Dev nD} {α : Type} {Φ : α → sProp (MM F)} {M : Mem F} {x y : Vec F S128x1024 .bf16}

theorem part18_step {q642 : Dev nD} {k : (Σ' (v642 : BitVec 32) (k0_hw11 : k0_chk11 v642) (v646 : BitVec 32) (v647 : BitVec 32) (v648 : BitVec 1) (v649 : BitVec 1), BitVec 32) → Prog (TpuEff nD τ sig (Elt F) Λ₀ .tc) α} (v3 : IVec S1x16 32) (v4 : Vec F S1x16 .i32) (v13 : BitVec 32) (v32 : BitVec 32) (k0_hw1 : k0_chk1 v32) (v51 : BitVec 32) (k0_hw2 : k0_chk2 v51) (hv32 : v32 = wd (nbr false c)) (hv51 : v51 = wd (nbr true c)) (hv642 : extractAt ![0, 0, 0] (k0_pay67 (F := F) v3 v4 v13) inpos_S1x1x1_p0_0_0 = wd q642) (hk11 : k0_chk11 (extractAt ![0, 0, 0] (k0_pay67 (F := F) v3 v4 v13) inpos_S1x1x1_p0_0_0))
    (h : iprop(memS c (M) ∗ st snd K c 4 none 3 4 none 3) ⊢ run c (k ⟨(extractAt ![0, 0, 0] (k0_pay67 (F := F) v3 v4 v13) inpos_S1x1x1_p0_0_0), (by exact hk11), (Scalar.select (Scalar.cmpi .eq 16#32 0#32) 1#32 16#32), (Scalar.remsi (Scalar.addi (Scalar.subi v13 7#32) 3#32) (Scalar.select (Scalar.cmpi .eq 16#32 0#32) 1#32 16#32)), (Scalar.cmpi .ne (Scalar.remsi (Scalar.addi (Scalar.subi v13 7#32) 3#32) (Scalar.select (Scalar.cmpi .eq 16#32 0#32) 1#32 16#32)) 0#32), (Scalar.cmpi .slt (Scalar.remsi (Scalar.addi (Scalar.subi v13 7#32) 3#32) (Scalar.select (Scalar.cmpi .eq 16#32 0#32) 1#32 16#32)) 0#32), 0#32⟩) Φ) :
    iprop(memS c M ∗ st snd K c 3 (some (snd true 3 c)) 3 3 (some (snd false 3 c)) 3) ⊢ run c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v13 v32 k0_hw1 v51 k0_hw2 >>= k) Φ := by
  rw [k0_part18_eq_skeleton]
  unfold k0_part18_skel
  refine send_r (s := 3) (by decide) (Fin.ext ((congrArg k0_dev9 hv51).trans (dev9 _))) rfl ?_
  refine send_l (s := 3) (by decide) (Fin.ext ((congrArg k0_dev10 hv32).trans (dev10 _))) rfl ?_
  refine assume_step hk11 ?_
  exact h

theorem part19_step {q642 q662 : Dev nD} {k : (FVec F S256x4096 .bf16) → Prog (TpuEff nD τ sig (Elt F) Λ₀ .tc) α} (v3 : IVec S1x16 32) (v4 : Vec F S1x16 .i32) (v642 : BitVec 32) (k0_hw11 : k0_chk11 v642) (v646 : BitVec 32) (v647 : BitVec 32) (v648 : BitVec 1) (v649 : BitVec 1) (c0_i32_350 : BitVec 32) (hv642 : v642 = wd q642) (hv662 : extractAt ![0, 0, 0] (k0_pay68 (F := F) v3 v4 v646 v647 v648 v649 c0_i32_350) inpos_S1x1x1_p0_0_0 = wd q662) (hk12 : k0_chk12 (extractAt ![0, 0, 0] (k0_pay68 (F := F) v3 v4 v646 v647 v648 v649 c0_i32_350) inpos_S1x1x1_p0_0_0))
    (h : iprop(memS c (M) ∗ st snd K c 4 none 3 4 none 3) ⊢ run c (k (k0_pay69 (F := F) (xch M.xb q642) (xch M.xb q662) (wch M.w q642) (wch M.w q662))) Φ) :
    iprop(memS c M ∗ st snd K c 4 none 3 4 none 3) ⊢ run c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v642 k0_hw11 v646 v647 v648 v649 c0_i32_350 >>= k) Φ := by
  rw [k0_part19_eq_skeleton]
  unfold k0_part19_skel
  refine assume_step hk12 ?_
  refine load_xch ((congrArg k0_off17 hv642).trans (off17 _)) ?_
  refine load_xch ((congrArg k0_off18 hv662).trans (off18 _)) ?_
  refine load_wch ((congrArg k0_off19 hv642).trans (off19 _)) ?_
  refine load_wch ((congrArg k0_off20 hv662).trans (off20 _)) ?_
  exact h

theorem part20_step {k : (FVec F S128x1024 .f32) → Prog (TpuEff nD τ sig (Elt F) Λ₀ .tc) α} (v32 : BitVec 32) (v51 : BitVec 32) (v699 : FVec F S256x4096 .bf16) (hv32 : v32 = wd (nbr false c)) (hv51 : v51 = wd (nbr true c)) (hsr4 : (k0_pay72 (F := F) v699 M.ew (unsq (snd true 3 (nbr (!true) c)))) = snd true 4 c)
    (h : iprop(memS c (M) ∗ st snd K c 4 (some (snd true 4 c)) 4 4 (some (snd false 3 c)) 3) ⊢ run c (k (k0_pay71 (F := F) v699 M.ew)) Φ) :
    iprop(memS c M ∗ st snd K c 4 none 3 4 none 3) ⊢ run c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v32 v51 v699 >>= k) Φ := by
  rw [k0_part20_eq_skeleton]
  unfold k0_part20_skel
  refine load_ew_all ?_
  refine wait_snd_r (s := 3) (by decide) rfl semSr credBr ?_
  refine wait_rcv_r (s := 3) (by decide) (Or.inl (by decide)) (Or.inl (by decide)) semR3 credR3 ?_
  refine load_slot_r (s := 3) (by decide) rfl ?_
  refine load_buf_r ?_
  refine store_buf_r hsr4 ?_
  refine wait_snd_l (s := 3) (by decide) rfl semSl credBl ?_
  exact h

theorem part21_step {k : (Σ' (v751 : BitVec 32) (v752 : BitVec 32), BitVec 1) → Prog (TpuEff nD τ sig (Elt F) Λ₀ .tc) α} (v13 : BitVec 32) (v32 : BitVec 32) (k0_hw1 : k0_chk1 v32) (v51 : BitVec 32) (k0_hw2 : k0_chk2 v51) (v703 : FVec F S128x1024 .f32) (hv32 : v32 = wd (nbr false c)) (hv51 : v51 = wd (nbr true c)) (hsl4 : (k0_pay73 (F := F) v703 (unsq (snd false 3 (nbr (!false) c)))) = snd false 4 c)
    (h : iprop(memS c (M) ∗ st snd K c 5 none 4 5 none 4) ⊢ run c (k ⟨(Scalar.select (Scalar.cmpi .eq 16#32 0#32) 1#32 16#32), (Scalar.remsi (Scalar.subi (Scalar.addi v13 6#32) 4#32) (Scalar.select (Scalar.cmpi .eq 16#32 0#32) 1#32 16#32)), (Scalar.andi (Scalar.xori (Scalar.cmpi .slt (Scalar.remsi (Scalar.subi (Scalar.addi v13 6#32) 4#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.subi (Scalar.addi v13 6#32) 4#32) (Scalar.select (Scalar.cmpi .eq 16#32 0#32) 1#32 16#32)) 0#32))⟩) Φ) :
    iprop(memS c M ∗ st snd K c 4 (some (snd true 4 c)) 4 4 (some (snd false 3 c)) 3) ⊢ run c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v13 v32 k0_hw1 v51 k0_hw2 v703 >>= k) Φ := by
  rw [k0_part21_eq_skeleton]
  unfold k0_part21_skel
  refine wait_rcv_l (s := 3) (by decide) (Or.inl (by decide)) (Or.inl (by decide)) semL3 credL3 ?_
  refine load_slot_l (s := 3) (by decide) rfl ?_
  refine load_buf_l ?_
  refine store_buf_l hsl4 ?_
  refine send_r (s := 4) (by decide) (Fin.ext ((congrArg k0_dev11 hv51).trans (dev11 _))) rfl ?_
  refine send_l (s := 4) (by decide) (Fin.ext ((congrArg k0_dev12 hv32).trans (dev12 _))) rfl ?_
  exact h

theorem part22_step {q767 q787 : Dev nD} {k : (Σ' (v787 : BitVec 32) (k0_hw14 : k0_chk14 v787) (v794 : FVec F S256x512 .bf16), Vec F S128x8 .bf16) → Prog (TpuEff nD τ sig (Elt F) Λ₀ .tc) α} (v3 : IVec S1x16 32) (v4 : Vec F S1x16 .i32) (v13 : BitVec 32) (v751 : BitVec 32) (v752 : BitVec 32) (v757 : BitVec 1) (hv767 : extractAt ![0, 0, 0] (k0_pay74 (F := F) v3 v4 v751 v752 v757) inpos_S1x1x1_p0_0_0 = wd q767) (hk13 : k0_chk13 (extractAt ![0, 0, 0] (k0_pay74 (F := F) v3 v4 v751 v752 v757) inpos_S1x1x1_p0_0_0)) (hv787 : extractAt ![0, 0, 0] (k0_pay75 (F := F) v3 v4 v13) inpos_S1x1x1_p0_0_0 = wd q787) (hk14 : k0_chk14 (extractAt ![0, 0, 0] (k0_pay75 (F := F) v3 v4 v13) inpos_S1x1x1_p0_0_0))
    (h : iprop(memS c (M) ∗ st snd K c 5 none 4 5 none 4) ⊢ run c (k ⟨(extractAt ![0, 0, 0] (k0_pay75 (F := F) v3 v4 v13) inpos_S1x1x1_p0_0_0), (by exact hk14), k0_pay76 (F := F) (xch M.xb q767) (xch M.xb q787), (wch M.w q767)⟩) Φ) :
    iprop(memS c M ∗ st snd K c 5 none 4 5 none 4) ⊢ run c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v13 v751 v752 v757 >>= k) Φ := by
  rw [k0_part22_eq_skeleton]
  unfold k0_part22_skel
  refine assume_step hk13 ?_
  refine assume_step hk14 ?_
  refine load_xch ((congrArg k0_off21 hv767).trans (off21 _)) ?_
  refine load_xch ((congrArg k0_off22 hv787).trans (off22 _)) ?_
  refine load_wch ((congrArg k0_off23 hv767).trans (off23 _)) ?_
  exact h

theorem part23_step {q787 : Dev nD} {k : (Σ' (v827 : FVec F S128x1024 .f32) (v828 : FVec F S128x1024 .f32), FVec F S128x1024 .bf16) → Prog (TpuEff nD τ sig (Elt F) Λ₀ .tc) α} (v51 : BitVec 32) (v787 : BitVec 32) (k0_hw14 : k0_chk14 v787) (v794 : FVec F S256x512 .bf16) (v796 : Vec F S128x8 .bf16) (hv51 : v51 = wd (nbr true c)) (hv787 : v787 = wd q787)
    (h : iprop(memS c (M) ∗ st snd K c 5 (some (snd true 4 c)) 5 5 none 4) ⊢ run c (k ⟨k0_pay78 (F := F) v794 v796 (wch M.w q787) M.ew, k0_pay79 (F := F) v794 v796 (wch M.w q787) M.ew, k0_pay80 (F := F) (unsq (snd true 4 (nbr (!true) c)))⟩) Φ) :
    iprop(memS c M ∗ st snd K c 5 none 4 5 none 4) ⊢ run c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v51 v787 k0_hw14 v794 v796 >>= k) Φ := by
  rw [k0_part23_eq_skeleton]
  unfold k0_part23_skel
  refine load_wch ((congrArg k0_off24 hv787).trans (off24 _)) ?_
  refine load_ew_all ?_
  refine wait_snd_r (s := 4) (by decide) rfl semSr credBr ?_
  refine wait_rcv_r (s := 4) (by decide) (Or.inl (by decide)) (Or.inl (by decide)) semR4 credR4 ?_
  refine load_slot_r (s := 4) (by decide) rfl ?_
  exact h

theorem part24_step {k : (BitVec 32) → Prog (TpuEff nD τ sig (Elt F) Λ₀ .tc) α} (v32 : BitVec 32) (v51 : BitVec 32) (k0_hw2 : k0_chk2 v51) (v827 : FVec F S128x1024 .f32) (v828 : FVec F S128x1024 .f32) (v838 : FVec F S128x1024 .bf16) (hv32 : v32 = wd (nbr false c)) (hv51 : v51 = wd (nbr true c)) (hsr5 : (k0_pay81 (F := F) v827 v838) = snd true 5 c) (hsl5 : (k0_pay82 (F := F) v828 (unsq (snd false 4 (nbr (!false) c)))) = snd false 5 c)
    (h : iprop(memS c (M) ∗ st snd K c 6 none 5 5 (some (snd false 5 c)) 5) ⊢ run c (k (1#32)) Φ) :
    iprop(memS c M ∗ st snd K c 5 (some (snd true 4 c)) 5 5 none 4) ⊢ run c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v32 v51 k0_hw2 v827 v828 v838 >>= k) Φ := by
  rw [k0_part24_eq_skeleton]
  unfold k0_part24_skel
  refine load_buf_r ?_
  refine store_buf_r hsr5 ?_
  refine wait_snd_l (s := 4) (by decide) rfl semSl credBl ?_
  refine wait_rcv_l (s := 4) (by decide) (Or.inl (by decide)) (Or.inl (by decide)) semL4 credL4 ?_
  refine load_slot_l (s := 4) (by decide) rfl ?_
  refine load_buf_l ?_
  refine store_buf_l hsl5 ?_
  refine send_r (s := 5) (by decide) (Fin.ext ((congrArg k0_dev13 hv51).trans (dev13 _))) rfl ?_
  exact h

theorem part25_step {q892 : Dev nD} {k : (Σ' (v892 : BitVec 32) (k0_hw15 : k0_chk15 v892) (v897 : BitVec 32) (v902 : BitVec 1), BitVec 32) → Prog (TpuEff nD τ sig (Elt F) Λ₀ .tc) α} (v3 : IVec S1x16 32) (v4 : Vec F S1x16 .i32) (v13 : BitVec 32) (v32 : BitVec 32) (k0_hw1 : k0_chk1 v32) (c1_i32_473 : BitVec 32) (hv32 : v32 = wd (nbr false c)) (hv892 : extractAt ![0, 0, 0] (k0_pay83 (F := F) v3 v4 v13) inpos_S1x1x1_p0_0_0 = wd q892) (hk15 : k0_chk15 (extractAt ![0, 0, 0] (k0_pay83 (F := F) v3 v4 v13) inpos_S1x1x1_p0_0_0))
    (h : iprop(memS c (M) ∗ st snd K c 6 none 5 6 none 5) ⊢ run c (k ⟨(extractAt ![0, 0, 0] (k0_pay83 (F := F) v3 v4 v13) inpos_S1x1x1_p0_0_0), (by exact hk15), (Scalar.remsi (Scalar.addi (Scalar.subi v13 7#32) 5#32) (Scalar.select (Scalar.cmpi .eq 16#32 0#32) 1#32 16#32)), (Scalar.andi (Scalar.xori (Scalar.cmpi .slt (Scalar.remsi (Scalar.addi (Scalar.subi v13 7#32) 5#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.addi (Scalar.subi v13 7#32) 5#32) (Scalar.select (Scalar.cmpi .eq 16#32 0#32) 1#32 16#32)) 0#32)), (Scalar.addi (Scalar.remsi (Scalar.addi (Scalar.subi v13 7#32) 5#32) (Scalar.select (Scalar.cmpi .eq 16#32 0#32) 1#32 16#32)) (Scalar.select (Scalar.cmpi .eq 16#32 0#32) 1#32 16#32))⟩) Φ) :
    iprop(memS c M ∗ st snd K c 6 none 5 5 (some (snd false 5 c)) 5) ⊢ run c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v13 v32 k0_hw1 c1_i32_473 >>= k) Φ := by
  rw [k0_part25_eq_skeleton]
  unfold k0_part25_skel
  refine send_l (s := 5) (by decide) (Fin.ext ((congrArg k0_dev14 hv32).trans (dev14 _))) rfl ?_
  refine assume_step hk15 ?_
  exact h

end Parts

end Cert.KernelIdeal.Moe

end
-- ==== Proof.PartsD.lean ====
/- The kernel body, parts 26 to 31. -/
module

public import proofs.«01_k».proof.Proof.Chunks

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Parts

variable {snd : Msgs F} {K : GSem nD τ sig → ℕ} {c : Dev nD} {α : Type} {Φ : α → sProp (MM F)} {M : Mem F} {x y : Vec F S128x1024 .bf16}

theorem part26_step {q892 q912 : Dev nD} {k : (FVec F S256x1024 .f32) → Prog (TpuEff nD τ sig (Elt F) Λ₀ .tc) α} (v3 : IVec S1x16 32) (v4 : Vec F S1x16 .i32) (v892 : BitVec 32) (k0_hw15 : k0_chk15 v892) (v897 : BitVec 32) (v902 : BitVec 1) (v903 : BitVec 32) (hv892 : v892 = wd q892) (hv912 : extractAt ![0, 0, 0] (k0_pay84 (F := F) v3 v4 v897 v902 v903) inpos_S1x1x1_p0_0_0 = wd q912) (hk16 : k0_chk16 (extractAt ![0, 0, 0] (k0_pay84 (F := F) v3 v4 v897 v902 v903) inpos_S1x1x1_p0_0_0))
    (h : iprop(memS c (M) ∗ st snd K c 6 none 5 6 none 5) ⊢ run c (k (k0_pay85 (F := F) (xch M.xb q892) (xch M.xb q912) (wch M.w q892) (wch M.w q912) M.ew)) Φ) :
    iprop(memS c M ∗ st snd K c 6 none 5 6 none 5) ⊢ run c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v4 v892 k0_hw15 v897 v902 v903 >>= k) Φ := by
  rw [k0_part26_eq_skeleton]
  unfold k0_part26_skel
  refine assume_step hk16 ?_
  refine load_xch ((congrArg k0_off25 hv892).trans (off25 _)) ?_
  refine load_xch ((congrArg k0_off26 hv912).trans (off26 _)) ?_
  refine load_wch ((congrArg k0_off27 hv892).trans (off27 _)) ?_
  refine load_wch ((congrArg k0_off28 hv912).trans (off28 _)) ?_
  refine load_ew_all ?_
  exact h

theorem part27_step {k : (FVec F S128x1024 .f32) → Prog (TpuEff nD τ sig (Elt F) Λ₀ .tc) α} (v32 : BitVec 32) (v51 : BitVec 32) (v951 : FVec F S256x1024 .f32) (hv32 : v32 = wd (nbr false c)) (hv51 : v51 = wd (nbr true c)) (hsr6 : (k0_pay87 (F := F) v951 (unsq (snd true 5 (nbr (!true) c)))) = snd true 6 c)
    (h : iprop(memS c (M) ∗ st snd K c 6 (some (snd true 6 c)) 6 6 (some (snd false 5 c)) 6) ⊢ run c (k (k0_pay86 (F := F) v951)) Φ) :
    iprop(memS c M ∗ st snd K c 6 none 5 6 none 5) ⊢ run c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v32 v51 v951 >>= k) Φ := by
  rw [k0_part27_eq_skeleton]
  unfold k0_part27_skel
  refine wait_snd_r (s := 5) (by decide) rfl semSr credBr ?_
  refine wait_rcv_r (s := 5) (by decide) (Or.inl (by decide)) (Or.inl (by decide)) semR5 credR5 ?_
  refine load_slot_r (s := 5) (by decide) rfl ?_
  refine load_buf_r ?_
  refine store_buf_r hsr6 ?_
  refine wait_snd_l (s := 5) (by decide) rfl semSl credBl ?_
  refine wait_rcv_l (s := 5) (by decide) (Or.inl (by decide)) (Or.inl (by decide)) semL5 credL5 ?_
  exact h

theorem part28_step {k : (Σ' (v1010 : IVec S1x16 1), IVec S1x16 32) → Prog (TpuEff nD τ sig (Elt F) Λ₀ .tc) α} (v3 : IVec S1x16 32) (v13 : BitVec 32) (v32 : BitVec 32) (k0_hw1 : k0_chk1 v32) (v51 : BitVec 32) (k0_hw2 : k0_chk2 v51) (v953 : FVec F S128x1024 .f32) (hv32 : v32 = wd (nbr false c)) (hv51 : v51 = wd (nbr true c)) (hsl6 : (k0_pay88 (F := F) v953 (unsq (snd false 5 (nbr (!false) c)))) = snd false 6 c)
    (h : iprop(memS c (M) ∗ st snd K c 7 none 6 7 none 6) ⊢ run c (k ⟨k0_pay89 v3 v13, k0_pay90⟩) Φ) :
    iprop(memS c M ∗ st snd K c 6 (some (snd true 6 c)) 6 6 (some (snd false 5 c)) 6) ⊢ run c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v3 v13 v32 k0_hw1 v51 k0_hw2 v953 >>= k) Φ := by
  rw [k0_part28_eq_skeleton]
  unfold k0_part28_skel
  refine load_slot_l (s := 5) (by decide) rfl ?_
  refine load_buf_l ?_
  refine store_buf_l hsl6 ?_
  refine send_r (s := 6) (by decide) (Fin.ext ((congrArg k0_dev15 hv51).trans (dev15 _))) rfl ?_
  refine send_l (s := 6) (by decide) (Fin.ext ((congrArg k0_dev16 hv32).trans (dev16 _))) rfl ?_
  exact h

theorem part29_step {q1016 : Dev nD} {k : (FVec F S128x1024 .f32) → Prog (TpuEff nD τ sig (Elt F) Λ₀ .tc) α} (v4 : Vec F S1x16 .i32) (v51 : BitVec 32) (v1010 : IVec S1x16 1) (v1011 : IVec S1x16 32) (hv51 : v51 = wd (nbr true c)) (hv1016 : extractAt ![0, 0, 0] (k0_pay91 (F := F) v4 v1010 v1011) inpos_S1x1x1_p0_0_0 = wd q1016) (hk17 : k0_chk17 (extractAt ![0, 0, 0] (k0_pay91 (F := F) v4 v1010 v1011) inpos_S1x1x1_p0_0_0))
    (h : iprop(memS c (M) ∗ st snd K c 7 (some (snd true 6 c)) 6 7 none 6) ⊢ run c (k (k0_pay92 (F := F) (xch M.xb q1016) (wch M.w q1016) M.ew)) Φ) :
    iprop(memS c M ∗ st snd K c 7 none 6 7 none 6) ⊢ run c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v4 v51 v1010 v1011 >>= k) Φ := by
  rw [k0_part29_eq_skeleton]
  unfold k0_part29_skel
  refine assume_step hk17 ?_
  refine load_xch ((congrArg k0_off29 hv1016).trans (off29 _)) ?_
  refine load_wch ((congrArg k0_off30 hv1016).trans (off30 _)) ?_
  refine load_ew_all ?_
  refine wait_snd_r (s := 6) (by decide) rfl semSr credBr ?_
  exact h

theorem part30_step {k : (Vec F S128x512 .bf16) → Prog (TpuEff nD τ sig (Elt F) Λ₀ .tc) α} (v2 : BitVec 32) (v32 : BitVec 32) (k0_hw1 : k0_chk1 v32) (v1048 : FVec F S128x1024 .f32) (hv32 : v32 = wd (nbr false c)) (hsl7 : (k0_pay93 (F := F) v1048 (unsq (snd false 6 (nbr (!false) c)))) = snd false 7 c)
    (h : iprop(memS c (M) ∗ st snd K c 7 (some (snd true 6 c)) 7 8 none 7) ⊢ run c (k (xch M.xb c)) Φ) :
    iprop(memS c M ∗ st snd K c 7 (some (snd true 6 c)) 6 7 none 6) ⊢ run c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v32 k0_hw1 v1048 >>= k) Φ := by
  rw [k0_part30_eq_skeleton]
  unfold k0_part30_skel
  refine wait_rcv_r (s := 6) (by decide) (Or.inl (by decide)) (Or.inl (by decide)) semR6 credR6 ?_
  refine wait_snd_l (s := 6) (by decide) rfl semSl credBl ?_
  refine wait_rcv_l (s := 6) (by decide) (Or.inl (by decide)) (Or.inl (by decide)) semL6 credL6 ?_
  refine load_slot_l (s := 6) (by decide) rfl ?_
  refine load_buf_l ?_
  refine store_buf_l hsl7 ?_
  refine send_l (s := 7) (by decide) (Fin.ext ((congrArg k0_dev17 hv32).trans (dev17 _))) rfl ?_
  refine load_xch (k0_off31_eq c) ?_
  exact h

theorem part31_step {k : (FVec F S128x1024 .f32) → Prog (TpuEff nD τ sig (Elt F) Λ₀ .tc) α} (v32 : BitVec 32) (v1081 : Vec F S128x512 .bf16) (hv32 : v32 = wd (nbr false c))
    (h : iprop(memS c (M) ∗ st snd K c 7 (some (snd true 6 c)) 7 8 (some (snd false 7 c)) 8) ⊢ run c (k (k0_pay94 (F := F) v1081 (wch M.w c) M.ew (unsq (snd true 6 (nbr (!true) c))))) Φ) :
    iprop(memS c M ∗ st snd K c 7 (some (snd true 6 c)) 7 8 none 7) ⊢ run c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v32 v1081 >>= k) Φ := by
  rw [k0_part31_eq_skeleton]
  unfold k0_part31_skel
  refine load_wch (k0_off32_eq c) ?_
  refine load_ew_all ?_
  refine wait_snd_l (s := 7) (by decide) rfl semSl credBl ?_
  refine wait_rcv_l (s := 7) (by decide) (Or.inr (by decide)) (Or.inl (by decide)) semL7 credL7 ?_
  refine load_slot_r (s := 6) (by decide) rfl ?_
  exact h

end Parts

end Cert.KernelIdeal.Moe

end
-- ==== Proof.Tables.lean ====
/- The two tables of the ring, and every word the kernel computes from them: the places round the ring. -/
module

public import proofs.«01_k».proof.Proof.Chunks
public import Idealize.ShloMosaic.PureOps.Ideal

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The device at each place of the ring, as the kernel is given it. -/
noncomputable def tpT : Vec F S1x16 .i32 := fun i => lit0 (S1x16.rowMajor i)
/-- The place of each device. -/
noncomputable def trT : Vec F S1x16 .i32 := fun i => lit1 (S1x16.rowMajor i)

theorem v32_ideal : ∀ c : Dev nD, extractAt ![0, 0, 0] (k0_pay3 (F := Ideal) c (tpT (F := Ideal)) (trT (F := Ideal))) inpos_S1x1x1_p0_0_0 = wd (nbr false c) := by decide +kernel
theorem v32_eq (c : Dev nD) : extractAt ![0, 0, 0] (k0_pay3 (F := F) c tpT trT) inpos_S1x1x1_p0_0_0 = wd (nbr false c) := v32_ideal c

theorem v51_ideal : ∀ c : Dev nD, extractAt ![0, 0, 0] (k0_pay4 (F := Ideal) (iota .tc S1x16 32 [1] iota_S1x16_d1_w32) (tpT (F := Ideal)) (Scalar.select (Scalar.cmpi .eq 16#32 0#32) 1#32 16#32) (Scalar.remsi (Scalar.addi (extractAt ![0, 0, 0] (k0_pay2 (F := Ideal) c (trT (F := Ideal))) inpos_S1x1x1_p0_0_0) 1#32) (Scalar.select (Scalar.cmpi .eq 16#32 0#32) 1#32 16#32))) inpos_S1x1x1_p0_0_0 = wd (nbr true c) := by decide +kernel
theorem v51_eq (c : Dev nD) : extractAt ![0, 0, 0] (k0_pay4 (F := F) (iota .tc S1x16 32 [1] iota_S1x16_d1_w32) tpT (Scalar.select (Scalar.cmpi .eq 16#32 0#32) 1#32 16#32) (Scalar.remsi (Scalar.addi (extractAt ![0, 0, 0] (k0_pay2 (F := F) c trT) inpos_S1x1x1_p0_0_0) 1#32) (Scalar.select (Scalar.cmpi .eq 16#32 0#32) 1#32 16#32))) inpos_S1x1x1_p0_0_0 = wd (nbr true c) := v51_ideal c

theorem v167_ideal : ∀ c : Dev nD, extractAt ![0, 0, 0] (k0_pay21 (F := Ideal) (iota .tc S1x16 32 [1] iota_S1x16_d1_w32) (tpT (F := Ideal)) (extractAt ![0, 0, 0] (k0_pay2 (F := Ideal) c (trT (F := Ideal))) inpos_S1x1x1_p0_0_0)) inpos_S1x1x1_p0_0_0 = wd (perm (rank c + 7)) := by decide +kernel
theorem v167_eq (c : Dev nD) : extractAt ![0, 0, 0] (k0_pay21 (F := F) (iota .tc S1x16 32 [1] iota_S1x16_d1_w32) tpT (extractAt ![0, 0, 0] (k0_pay2 (F := F) c trT) inpos_S1x1x1_p0_0_0)) inpos_S1x1x1_p0_0_0 = wd (perm (rank c + 7)) := v167_ideal c

theorem v186_ideal : ∀ c : Dev nD, extractAt ![0, 0, 0] (k0_pay22 (F := Ideal) (iota .tc S1x16 32 [1] iota_S1x16_d1_w32) (tpT (F := Ideal)) (Scalar.select (Scalar.cmpi .eq 16#32 0#32) 1#32 16#32) (Scalar.remsi (Scalar.addi (extractAt ![0, 0, 0] (k0_pay2 (F := Ideal) c (trT (F := Ideal))) inpos_S1x1x1_p0_0_0) 8#32) (Scalar.select (Scalar.cmpi .eq 16#32 0#32) 1#32 16#32)) 0#32) inpos_S1x1x1_p0_0_0 = wd (perm (rank c + 8)) := by decide +kernel
theorem v186_eq (c : Dev nD) : extractAt ![0, 0, 0] (k0_pay22 (F := F) (iota .tc S1x16 32 [1] iota_S1x16_d1_w32) tpT (Scalar.select (Scalar.cmpi .eq 16#32 0#32) 1#32 16#32) (Scalar.remsi (Scalar.addi (extractAt ![0, 0, 0] (k0_pay2 (F := F) c trT) inpos_S1x1x1_p0_0_0) 8#32) (Scalar.select (Scalar.cmpi .eq 16#32 0#32) 1#32 16#32)) 0#32) inpos_S1x1x1_p0_0_0 = wd (perm (rank c + 8)) := v186_ideal c

theorem v267_ideal : ∀ c : Dev nD, extractAt ![0, 0, 0] (k0_pay36 (F := Ideal) (iota .tc S1x16 32 [1] iota_S1x16_d1_w32) (tpT (F := Ideal)) (Scalar.select (Scalar.cmpi .eq 16#32 0#32) 1#32 16#32) (Scalar.remsi (Scalar.subi (Scalar.addi (extractAt ![0, 0, 0] (k0_pay2 (F := Ideal) c (trT (F := Ideal))) inpos_S1x1x1_p0_0_0) 6#32) 0#32) (Scalar.select (Scalar.cmpi .eq 16#32 0#32) 1#32 16#32))) inpos_S1x1x1_p0_0_0 = wd (perm (rank c + 6)) := by decide +kernel
theorem v267_eq (c : Dev nD) : extractAt ![0, 0, 0] (k0_pay36 (F := F) (iota .tc S1x16 32 [1] iota_S1x16_d1_w32) tpT (Scalar.select (Scalar.cmpi .eq 16#32 0#32) 1#32 16#32) (Scalar.remsi (Scalar.subi (Scalar.addi (extractAt ![0, 0, 0] (k0_pay2 (F := F) c trT) inpos_S1x1x1_p0_0_0) 6#32) 0#32) (Scalar.select (Scalar.cmpi .eq 16#32 0#32) 1#32 16#32))) inpos_S1x1x1_p0_0_0 = wd (perm (rank c + 6)) := v267_ideal c

theorem v287_ideal : ∀ c : Dev nD, extractAt ![0, 0, 0] (k0_pay37 (F := Ideal) (iota .tc S1x16 32 [1] iota_S1x16_d1_w32) (tpT (F := Ideal)) (extractAt ![0, 0, 0] (k0_pay2 (F := Ideal) c (trT (F := Ideal))) inpos_S1x1x1_p0_0_0)) inpos_S1x1x1_p0_0_0 = wd (perm (rank c + 9)) := by decide +kernel
theorem v287_eq (c : Dev nD) : extractAt ![0, 0, 0] (k0_pay37 (F := F) (iota .tc S1x16 32 [1] iota_S1x16_d1_w32) tpT (extractAt ![0, 0, 0] (k0_pay2 (F := F) c trT) inpos_S1x1x1_p0_0_0)) inpos_S1x1x1_p0_0_0 = wd (perm (rank c + 9)) := v287_ideal c

theorem v392_ideal : ∀ c : Dev nD, extractAt ![0, 0, 0] (k0_pay43 (F := Ideal) (iota .tc S1x16 32 [1] iota_S1x16_d1_w32) (tpT (F := Ideal)) (extractAt ![0, 0, 0] (k0_pay2 (F := Ideal) c (trT (F := Ideal))) inpos_S1x1x1_p0_0_0)) inpos_S1x1x1_p0_0_0 = wd (perm (rank c + 5)) := by decide +kernel
theorem v392_eq (c : Dev nD) : extractAt ![0, 0, 0] (k0_pay43 (F := F) (iota .tc S1x16 32 [1] iota_S1x16_d1_w32) tpT (extractAt ![0, 0, 0] (k0_pay2 (F := F) c trT) inpos_S1x1x1_p0_0_0)) inpos_S1x1x1_p0_0_0 = wd (perm (rank c + 5)) := v392_ideal c

theorem v412_ideal : ∀ c : Dev nD, extractAt ![0, 0, 0] (k0_pay44 (F := Ideal) (iota .tc S1x16 32 [1] iota_S1x16_d1_w32) (tpT (F := Ideal)) (Scalar.select (Scalar.cmpi .eq 16#32 0#32) 1#32 16#32) (Scalar.remsi (Scalar.addi (Scalar.subi (extractAt ![0, 0, 0] (k0_pay2 (F := Ideal) c (trT (F := Ideal))) inpos_S1x1x1_p0_0_0) 7#32) 1#32) (Scalar.select (Scalar.cmpi .eq 16#32 0#32) 1#32 16#32)) 0#32) inpos_S1x1x1_p0_0_0 = wd (perm (rank c + 10)) := by decide +kernel
theorem v412_eq (c : Dev nD) : extractAt ![0, 0, 0] (k0_pay44 (F := F) (iota .tc S1x16 32 [1] iota_S1x16_d1_w32) tpT (Scalar.select (Scalar.cmpi .eq 16#32 0#32) 1#32 16#32) (Scalar.remsi (Scalar.addi (Scalar.subi (extractAt ![0, 0, 0] (k0_pay2 (F := F) c trT) inpos_S1x1x1_p0_0_0) 7#32) 1#32) (Scalar.select (Scalar.cmpi .eq 16#32 0#32) 1#32 16#32)) 0#32) inpos_S1x1x1_p0_0_0 = wd (perm (rank c + 10)) := v412_ideal c

theorem v517_ideal : ∀ c : Dev nD, extractAt ![0, 0, 0] (k0_pay59 (F := Ideal) (iota .tc S1x16 32 [1] iota_S1x16_d1_w32) (tpT (F := Ideal)) (Scalar.select (Scalar.cmpi .eq 16#32 0#32) 1#32 16#32) (Scalar.remsi (Scalar.subi (Scalar.addi (extractAt ![0, 0, 0] (k0_pay2 (F := Ideal) c (trT (F := Ideal))) inpos_S1x1x1_p0_0_0) 6#32) 2#32) (Scalar.select (Scalar.cmpi .eq 16#32 0#32) 1#32 16#32)) (Scalar.cmpi .ne (Scalar.remsi (Scalar.subi (Scalar.addi (extractAt ![0, 0, 0] (k0_pay2 (F := Ideal) c (trT (F := Ideal))) inpos_S1x1x1_p0_0_0) 6#32) 2#32) (Scalar.select (Scalar.cmpi .eq 16#32 0#32) 1#32 16#32)) 0#32) (Scalar.cmpi .slt (Scalar.remsi (Scalar.subi (Scalar.addi (extractAt ![0, 0, 0] (k0_pay2 (F := Ideal) c (trT (F := Ideal))) inpos_S1x1x1_p0_0_0) 6#32) 2#32) (Scalar.select (Scalar.cmpi .eq 16#32 0#32) 1#32 16#32)) 0#32)) inpos_S1x1x1_p0_0_0 = wd (perm (rank c + 4)) := by decide +kernel
theorem v517_eq (c : Dev nD) : extractAt ![0, 0, 0] (k0_pay59 (F := F) (iota .tc S1x16 32 [1] iota_S1x16_d1_w32) tpT (Scalar.select (Scalar.cmpi .eq 16#32 0#32) 1#32 16#32) (Scalar.remsi (Scalar.subi (Scalar.addi (extractAt ![0, 0, 0] (k0_pay2 (F := F) c trT) inpos_S1x1x1_p0_0_0) 6#32) 2#32) (Scalar.select (Scalar.cmpi .eq 16#32 0#32) 1#32 16#32)) (Scalar.cmpi .ne (Scalar.remsi (Scalar.subi (Scalar.addi (extractAt ![0, 0, 0] (k0_pay2 (F := F) c trT) inpos_S1x1x1_p0_0_0) 6#32) 2#32) (Scalar.select (Scalar.cmpi .eq 16#32 0#32) 1#32 16#32)) 0#32) (Scalar.cmpi .slt (Scalar.remsi (Scalar.subi (Scalar.addi (extractAt ![0, 0, 0] (k0_pay2 (F := F) c trT) inpos_S1x1x1_p0_0_0) 6#32) 2#32) (Scalar.select (Scalar.cmpi .eq 16#32 0#32) 1#32 16#32)) 0#32)) inpos_S1x1x1_p0_0_0 = wd (perm (rank c + 4)) := v517_ideal c

theorem v537_ideal : ∀ c : Dev nD, extractAt ![0, 0, 0] (k0_pay60 (F := Ideal) (iota .tc S1x16 32 [1] iota_S1x16_d1_w32) (tpT (F := Ideal)) (extractAt ![0, 0, 0] (k0_pay2 (F := Ideal) c (trT (F := Ideal))) inpos_S1x1x1_p0_0_0)) inpos_S1x1x1_p0_0_0 = wd (perm (rank c + 11)) := by decide +kernel
theorem v537_eq (c : Dev nD) : extractAt ![0, 0, 0] (k0_pay60 (F := F) (iota .tc S1x16 32 [1] iota_S1x16_d1_w32) tpT (extractAt ![0, 0, 0] (k0_pay2 (F := F) c trT) inpos_S1x1x1_p0_0_0)) inpos_S1x1x1_p0_0_0 = wd (perm (rank c + 11)) := v537_ideal c

theorem v642_ideal : ∀ c : Dev nD, extractAt ![0, 0, 0] (k0_pay67 (F := Ideal) (iota .tc S1x16 32 [1] iota_S1x16_d1_w32) (tpT (F := Ideal)) (extractAt ![0, 0, 0] (k0_pay2 (F := Ideal) c (trT (F := Ideal))) inpos_S1x1x1_p0_0_0)) inpos_S1x1x1_p0_0_0 = wd (perm (rank c + 3)) := by decide +kernel
theorem v642_eq (c : Dev nD) : extractAt ![0, 0, 0] (k0_pay67 (F := F) (iota .tc S1x16 32 [1] iota_S1x16_d1_w32) tpT (extractAt ![0, 0, 0] (k0_pay2 (F := F) c trT) inpos_S1x1x1_p0_0_0)) inpos_S1x1x1_p0_0_0 = wd (perm (rank c + 3)) := v642_ideal c

theorem v662_ideal : ∀ c : Dev nD, extractAt ![0, 0, 0] (k0_pay68 (F := Ideal) (iota .tc S1x16 32 [1] iota_S1x16_d1_w32) (tpT (F := Ideal)) (Scalar.select (Scalar.cmpi .eq 16#32 0#32) 1#32 16#32) (Scalar.remsi (Scalar.addi (Scalar.subi (extractAt ![0, 0, 0] (k0_pay2 (F := Ideal) c (trT (F := Ideal))) inpos_S1x1x1_p0_0_0) 7#32) 3#32) (Scalar.select (Scalar.cmpi .eq 16#32 0#32) 1#32 16#32)) (Scalar.cmpi .ne (Scalar.remsi (Scalar.addi (Scalar.subi (extractAt ![0, 0, 0] (k0_pay2 (F := Ideal) c (trT (F := Ideal))) inpos_S1x1x1_p0_0_0) 7#32) 3#32) (Scalar.select (Scalar.cmpi .eq 16#32 0#32) 1#32 16#32)) 0#32) (Scalar.cmpi .slt (Scalar.remsi (Scalar.addi (Scalar.subi (extractAt ![0, 0, 0] (k0_pay2 (F := Ideal) c (trT (F := Ideal))) inpos_S1x1x1_p0_0_0) 7#32) 3#32) (Scalar.select (Scalar.cmpi .eq 16#32 0#32) 1#32 16#32)) 0#32) 0#32) inpos_S1x1x1_p0_0_0 = wd (perm (rank c + 12)) := by decide +kernel
theorem v662_eq (c : Dev nD) : extractAt ![0, 0, 0] (k0_pay68 (F := F) (iota .tc S1x16 32 [1] iota_S1x16_d1_w32) tpT (Scalar.select (Scalar.cmpi .eq 16#32 0#32) 1#32 16#32) (Scalar.remsi (Scalar.addi (Scalar.subi (extractAt ![0, 0, 0] (k0_pay2 (F := F) c trT) inpos_S1x1x1_p0_0_0) 7#32) 3#32) (Scalar.select (Scalar.cmpi .eq 16#32 0#32) 1#32 16#32)) (Scalar.cmpi .ne (Scalar.remsi (Scalar.addi (Scalar.subi (extractAt ![0, 0, 0] (k0_pay2 (F := F) c trT) inpos_S1x1x1_p0_0_0) 7#32) 3#32) (Scalar.select (Scalar.cmpi .eq 16#32 0#32) 1#32 16#32)) 0#32) (Scalar.cmpi .slt (Scalar.remsi (Scalar.addi (Scalar.subi (extractAt ![0, 0, 0] (k0_pay2 (F := F) c trT) inpos_S1x1x1_p0_0_0) 7#32) 3#32) (Scalar.select (Scalar.cmpi .eq 16#32 0#32) 1#32 16#32)) 0#32) 0#32) inpos_S1x1x1_p0_0_0 = wd (perm (rank c + 12)) := v662_ideal c

theorem v767_ideal : ∀ c : Dev nD, extractAt ![0, 0, 0] (k0_pay74 (F := Ideal) (iota .tc S1x16 32 [1] iota_S1x16_d1_w32) (tpT (F := Ideal)) (Scalar.select (Scalar.cmpi .eq 16#32 0#32) 1#32 16#32) (Scalar.remsi (Scalar.subi (Scalar.addi (extractAt ![0, 0, 0] (k0_pay2 (F := Ideal) c (trT (F := Ideal))) inpos_S1x1x1_p0_0_0) 6#32) 4#32) (Scalar.select (Scalar.cmpi .eq 16#32 0#32) 1#32 16#32)) (Scalar.andi (Scalar.xori (Scalar.cmpi .slt (Scalar.remsi (Scalar.subi (Scalar.addi (extractAt ![0, 0, 0] (k0_pay2 (F := Ideal) c (trT (F := Ideal))) inpos_S1x1x1_p0_0_0) 6#32) 4#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.subi (Scalar.addi (extractAt ![0, 0, 0] (k0_pay2 (F := Ideal) c (trT (F := Ideal))) inpos_S1x1x1_p0_0_0) 6#32) 4#32) (Scalar.select (Scalar.cmpi .eq 16#32 0#32) 1#32 16#32)) 0#32))) inpos_S1x1x1_p0_0_0 = wd (perm (rank c + 2)) := by decide +kernel
theorem v767_eq (c : Dev nD) : extractAt ![0, 0, 0] (k0_pay74 (F := F) (iota .tc S1x16 32 [1] iota_S1x16_d1_w32) tpT (Scalar.select (Scalar.cmpi .eq 16#32 0#32) 1#32 16#32) (Scalar.remsi (Scalar.subi (Scalar.addi (extractAt ![0, 0, 0] (k0_pay2 (F := F) c trT) inpos_S1x1x1_p0_0_0) 6#32) 4#32) (Scalar.select (Scalar.cmpi .eq 16#32 0#32) 1#32 16#32)) (Scalar.andi (Scalar.xori (Scalar.cmpi .slt (Scalar.remsi (Scalar.subi (Scalar.addi (extractAt ![0, 0, 0] (k0_pay2 (F := F) c trT) inpos_S1x1x1_p0_0_0) 6#32) 4#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.subi (Scalar.addi (extractAt ![0, 0, 0] (k0_pay2 (F := F) c trT) inpos_S1x1x1_p0_0_0) 6#32) 4#32) (Scalar.select (Scalar.cmpi .eq 16#32 0#32) 1#32 16#32)) 0#32))) inpos_S1x1x1_p0_0_0 = wd (perm (rank c + 2)) := v767_ideal c

theorem v787_ideal : ∀ c : Dev nD, extractAt ![0, 0, 0] (k0_pay75 (F := Ideal) (iota .tc S1x16 32 [1] iota_S1x16_d1_w32) (tpT (F := Ideal)) (extractAt ![0, 0, 0] (k0_pay2 (F := Ideal) c (trT (F := Ideal))) inpos_S1x1x1_p0_0_0)) inpos_S1x1x1_p0_0_0 = wd (perm (rank c + 13)) := by decide +kernel
theorem v787_eq (c : Dev nD) : extractAt ![0, 0, 0] (k0_pay75 (F := F) (iota .tc S1x16 32 [1] iota_S1x16_d1_w32) tpT (extractAt ![0, 0, 0] (k0_pay2 (F := F) c trT) inpos_S1x1x1_p0_0_0)) inpos_S1x1x1_p0_0_0 = wd (perm (rank c + 13)) := v787_ideal c

theorem v892_ideal : ∀ c : Dev nD, extractAt ![0, 0, 0] (k0_pay83 (F := Ideal) (iota .tc S1x16 32 [1] iota_S1x16_d1_w32) (tpT (F := Ideal)) (extractAt ![0, 0, 0] (k0_pay2 (F := Ideal) c (trT (F := Ideal))) inpos_S1x1x1_p0_0_0)) inpos_S1x1x1_p0_0_0 = wd (perm (rank c + 1)) := by decide +kernel
theorem v892_eq (c : Dev nD) : extractAt ![0, 0, 0] (k0_pay83 (F := F) (iota .tc S1x16 32 [1] iota_S1x16_d1_w32) tpT (extractAt ![0, 0, 0] (k0_pay2 (F := F) c trT) inpos_S1x1x1_p0_0_0)) inpos_S1x1x1_p0_0_0 = wd (perm (rank c + 1)) := v892_ideal c

theorem v912_ideal : ∀ c : Dev nD, extractAt ![0, 0, 0] (k0_pay84 (F := Ideal) (iota .tc S1x16 32 [1] iota_S1x16_d1_w32) (tpT (F := Ideal)) (Scalar.remsi (Scalar.addi (Scalar.subi (extractAt ![0, 0, 0] (k0_pay2 (F := Ideal) c (trT (F := Ideal))) inpos_S1x1x1_p0_0_0) 7#32) 5#32) (Scalar.select (Scalar.cmpi .eq 16#32 0#32) 1#32 16#32)) (Scalar.andi (Scalar.xori (Scalar.cmpi .slt (Scalar.remsi (Scalar.addi (Scalar.subi (extractAt ![0, 0, 0] (k0_pay2 (F := Ideal) c (trT (F := Ideal))) inpos_S1x1x1_p0_0_0) 7#32) 5#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.addi (Scalar.subi (extractAt ![0, 0, 0] (k0_pay2 (F := Ideal) c (trT (F := Ideal))) inpos_S1x1x1_p0_0_0) 7#32) 5#32) (Scalar.select (Scalar.cmpi .eq 16#32 0#32) 1#32 16#32)) 0#32)) (Scalar.addi (Scalar.remsi (Scalar.addi (Scalar.subi (extractAt ![0, 0, 0] (k0_pay2 (F := Ideal) c (trT (F := Ideal))) inpos_S1x1x1_p0_0_0) 7#32) 5#32) (Scalar.select (Scalar.cmpi .eq 16#32 0#32) 1#32 16#32)) (Scalar.select (Scalar.cmpi .eq 16#32 0#32) 1#32 16#32))) inpos_S1x1x1_p0_0_0 = wd (perm (rank c + 14)) := by decide +kernel
theorem v912_eq (c : Dev nD) : extractAt ![0, 0, 0] (k0_pay84 (F := F) (iota .tc S1x16 32 [1] iota_S1x16_d1_w32) tpT (Scalar.remsi (Scalar.addi (Scalar.subi (extractAt ![0, 0, 0] (k0_pay2 (F := F) c trT) inpos_S1x1x1_p0_0_0) 7#32) 5#32) (Scalar.select (Scalar.cmpi .eq 16#32 0#32) 1#32 16#32)) (Scalar.andi (Scalar.xori (Scalar.cmpi .slt (Scalar.remsi (Scalar.addi (Scalar.subi (extractAt ![0, 0, 0] (k0_pay2 (F := F) c trT) inpos_S1x1x1_p0_0_0) 7#32) 5#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.addi (Scalar.subi (extractAt ![0, 0, 0] (k0_pay2 (F := F) c trT) inpos_S1x1x1_p0_0_0) 7#32) 5#32) (Scalar.select (Scalar.cmpi .eq 16#32 0#32) 1#32 16#32)) 0#32)) (Scalar.addi (Scalar.remsi (Scalar.addi (Scalar.subi (extractAt ![0, 0, 0] (k0_pay2 (F := F) c trT) inpos_S1x1x1_p0_0_0) 7#32) 5#32) (Scalar.select (Scalar.cmpi .eq 16#32 0#32) 1#32 16#32)) (Scalar.select (Scalar.cmpi .eq 16#32 0#32) 1#32 16#32))) inpos_S1x1x1_p0_0_0 = wd (perm (rank c + 14)) := v912_ideal c

theorem v1016_ideal : ∀ c : Dev nD, extractAt ![0, 0, 0] (k0_pay91 (F := Ideal) (tpT (F := Ideal)) (k0_pay89 (iota .tc S1x16 32 [1] iota_S1x16_d1_w32) (extractAt ![0, 0, 0] (k0_pay2 (F := Ideal) c (trT (F := Ideal))) inpos_S1x1x1_p0_0_0)) k0_pay90) inpos_S1x1x1_p0_0_0 = wd (perm (rank c + 15)) := by decide +kernel
theorem v1016_eq (c : Dev nD) : extractAt ![0, 0, 0] (k0_pay91 (F := F) tpT (k0_pay89 (iota .tc S1x16 32 [1] iota_S1x16_d1_w32) (extractAt ![0, 0, 0] (k0_pay2 (F := F) c trT) inpos_S1x1x1_p0_0_0)) k0_pay90) inpos_S1x1x1_p0_0_0 = wd (perm (rank c + 15)) := v1016_ideal c

end Cert.KernelIdeal.Moe

end
-- ==== Proof.Contents.lean ====
/- What a device works out before the exchange, and what every message holds. -/
module

public import proofs.«01_k».proof.Proof.Tables
public import Idealize.ShloMosaic.Lib.Pipeline.Value
public import Idealize.ShloMosaic.Lib.ValueLayout

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- What a device is given. -/
structure Inp (F : FTy → Type) where
  x : Vec F S2048x512 .bf16
  rw : Vec F S512x128 .bf16
  ix : Vec F S2048x2 .i32
  ex : Vec F S8x512x1024 .bf16

/-- What a device works out before the exchange: the tokens, the weights and its experts' matrices one under another. -/
structure Loc (F : FTy → Type) where
  xb : Vec F S2048x512 .bf16
  w : Vec F S2048x8 .bf16
  ew : Vec F S4096x1024 .bf16

/-- The memory of a device with the inputs `i`. -/
noncomputable def memOf (i : Inp F) (o : Vec F S128x1024 .f32) (l : Loc F) : Mem F := ⟨i.x, i.rw, i.ix, i.ex, tpT, trT, o, l.w, l.xb, l.ew⟩

/-- The weights of a device's experts. -/
noncomputable def wA (c : Dev nD) (i : Inp F) : Vec F S2048x8 .bf16 := (k0_pay10 (F := F) (Scalar.remsi (Scalar.divsi (Dev.word c) 1#32) 16#32) (k0_pay5 (F := F) i.x i.rw) (k0_pay6 (F := F) (icol i.ix 0 inb_S2048x2_S2048x1_0_0)) (k0_pay7 (F := F) (icol i.ix 1 inb_S2048x2_S2048x1_0_1)) (iota .tc S2048x128 32 [1] iota_S2048x128_d1_w32) (k0_pay8 (F := F) (icol i.ix 0 inb_S2048x2_S2048x1_0_0)) (k0_pay9 (F := F)))

/-- The matrices of the experts, one under another. -/
noncomputable def ewA (ex : Vec F S8x512x1024 .bf16) : Vec F S4096x1024 .bf16 := fun i =>
  ex (ix3 (⟨(i 0).val / 512, by have := (i 0).isLt; have e : S4096x1024.size 0 = 4096 := rfl; omega⟩ : Fin 8) (⟨(i 0).val % 512, by omega⟩ : Fin 512) (i 1 : Fin 1024))

/-- What device `c` works out before the exchange. -/
noncomputable def loc (I : Dev nD → Inp F) (c : Dev nD) : Loc F := ⟨(k0_pay11 (F := F) (I c).x), wA c (I c), ewA (I c).ex⟩

/-! ## The experts' matrices -/

theorem putS_apply (o : ℕ) (h) (f : Vec F S4096x1024 .bf16) (v : Vec F S512x1024 .bf16) (i : S4096x1024.Idx) :
    putS o h f v i = if hi : o ≤ (i 0).val ∧ (i 0).val < o + 512 then v (ix2 (⟨(i 0).val - o, by omega⟩ : Fin 512) (i 1 : Fin 1024)) else f i := by
  have e : putS o h f v = updateSlice f v ![o, 0] ⟨rfl, h⟩ := View.write_whole_slice_unit (Val := Elt F) cc0_scratch2 ![o, 0] S512x1024.size h f v
  rw [e]
  unfold updateSlice
  have h1 : (i 1).val < 1024 := (i 1).isLt
  by_cases hi : o ≤ (i 0).val ∧ (i 0).val < o + 512
  · rw [dif_pos hi, dif_pos (fun a => by fin_cases a; exacts [hi, ⟨Nat.zero_le _, by show (i 1).val < 0 + 1024; omega⟩])]
    congr 1
    funext a
    fin_cases a
    · rfl
    · exact Fin.ext (Nat.sub_zero _)
  · rw [dif_neg hi, dif_neg (fun h => hi (h 0))]

theorem slab_apply (ex : Vec F S8x512x1024 .bf16) (j : ℕ) (hj : j < 8) (h) (r : Fin 512) (d : Fin 1024) :
    shapeCast S512x1024 (shapeCast S512x1024 (slab ex j h) shapeCasts_S1x512x1024_S512x1024) shapeCasts_S512x1024_S512x1024 (ix2 r d) = ex (ix3 (⟨j, hj⟩ : Fin 8) r d) := by
  rw [shapeCast_self, shapeCast_1ab_ab_apply]
  show ex _ = ex _
  congr 1
  funext a
  fin_cases a <;> exact Fin.ext (by simp [slab])

theorem ew_closed (ex : Vec F S8x512x1024 .bf16) (f : Vec F S4096x1024 .bf16) :
    (putS 3584 inb_S4096x1024_S512x1024_3584_0 (putS 3072 inb_S4096x1024_S512x1024_3072_0 (putS 2560 inb_S4096x1024_S512x1024_2560_0 (putS 2048 inb_S4096x1024_S512x1024_2048_0 (putS 1536 inb_S4096x1024_S512x1024_1536_0 (putS 1024 inb_S4096x1024_S512x1024_1024_0 (putS 512 inb_S4096x1024_S512x1024_512_0 (putS 0 inb_S4096x1024_S512x1024_0_0 f (k0_pay13 (F := F) (k0_pay12 (F := F) (slab ex 0 inb_S8x512x1024_S1x512x1024_0_0_0)))) (k0_pay14 (F := F) (slab ex 1 inb_S8x512x1024_S1x512x1024_1_0_0))) (k0_pay15 (F := F) (slab ex 2 inb_S8x512x1024_S1x512x1024_2_0_0))) (k0_pay16 (F := F) (slab ex 3 inb_S8x512x1024_S1x512x1024_3_0_0))) (k0_pay17 (F := F) (slab ex 4 inb_S8x512x1024_S1x512x1024_4_0_0))) (k0_pay18 (F := F) (slab ex 5 inb_S8x512x1024_S1x512x1024_5_0_0))) (k0_pay19 (F := F) (slab ex 6 inb_S8x512x1024_S1x512x1024_6_0_0))) (k0_pay20 (F := F) (slab ex 7 inb_S8x512x1024_S1x512x1024_7_0_0))) = ewA ex := by
  funext i
  have hi : (i 0).val < 4096 := (i 0).isLt
  simp only [putS_apply]
  unfold ewA
  have key : ∀ (j : ℕ) (hj : j < 8) (h) (hr : 512 * j ≤ (i 0).val ∧ (i 0).val < 512 * j + 512),
      shapeCast S512x1024 (shapeCast S512x1024 (slab ex j h) shapeCasts_S1x512x1024_S512x1024) shapeCasts_S512x1024_S512x1024 (ix2 (⟨(i 0).val - 512 * j, by omega⟩ : Fin 512) (i 1 : Fin 1024))
        = ex (ix3 (⟨(i 0).val / 512, by omega⟩ : Fin 8) (⟨(i 0).val % 512, by omega⟩ : Fin 512) (i 1 : Fin 1024)) := by
    intro j hj h hr
    refine (slab_apply ex j hj h _ _).trans ?_
    have e1 : (⟨j, hj⟩ : Fin 8) = ⟨(i 0).val / 512, by omega⟩ := Fin.ext (by show j = (i 0).val / 512; omega)
    have e2 : (⟨(i 0).val - 512 * j, by omega⟩ : Fin 512) = ⟨(i 0).val % 512, by omega⟩ := Fin.ext (by show (i 0).val - 512 * j = (i 0).val % 512; omega)
    exact congrArg₂ (fun a b => ex (ix3 a b (i 1 : Fin 1024))) e1 e2
  by_cases h7 : 3584 ≤ (i 0).val ∧ (i 0).val < 3584 + 512
  · rw [dif_pos h7]; exact key 7 (by decide) _ (by omega)
  by_cases h6 : 3072 ≤ (i 0).val ∧ (i 0).val < 3072 + 512
  · rw [dif_neg h7, dif_pos h6]; exact key 6 (by decide) _ (by omega)
  by_cases h5 : 2560 ≤ (i 0).val ∧ (i 0).val < 2560 + 512
  · rw [dif_neg h7, dif_neg h6, dif_pos h5]; exact key 5 (by decide) _ (by omega)
  by_cases h4 : 2048 ≤ (i 0).val ∧ (i 0).val < 2048 + 512
  · rw [dif_neg h7, dif_neg h6, dif_neg h5, dif_pos h4]; exact key 4 (by decide) _ (by omega)
  by_cases h3 : 1536 ≤ (i 0).val ∧ (i 0).val < 1536 + 512
  · rw [dif_neg h7, dif_neg h6, dif_neg h5, dif_neg h4, dif_pos h3]; exact key 3 (by decide) _ (by omega)
  by_cases h2 : 1024 ≤ (i 0).val ∧ (i 0).val < 1024 + 512
  · rw [dif_neg h7, dif_neg h6, dif_neg h5, dif_neg h4, dif_neg h3, dif_pos h2]; exact key 2 (by decide) _ (by omega)
  by_cases h1 : 512 ≤ (i 0).val ∧ (i 0).val < 512 + 512
  · rw [dif_neg h7, dif_neg h6, dif_neg h5, dif_neg h4, dif_neg h3, dif_neg h2, dif_pos h1]; exact key 1 (by decide) _ (by omega)
  by_cases h0 : 0 ≤ (i 0).val ∧ (i 0).val < 0 + 512
  · rw [dif_neg h7, dif_neg h6, dif_neg h5, dif_neg h4, dif_neg h3, dif_neg h2, dif_neg h1, dif_pos h0]; exact key 0 (by decide) _ (by omega)
  omega

/-! ## The messages -/

/-- The top half of a product of two chunks: chunk `q`'s share. -/
noncomputable def topP (l : Loc F) (q q' : Dev nD) : FVec F S128x1024 .f32 := (k0_pay39 (F := F) (xch l.xb q) (xch l.xb q') (wch l.w q) (wch l.w q') l.ew)
/-- The bottom half: chunk `q'`'s share. -/
noncomputable def botP (l : Loc F) (q q' : Dev nD) : FVec F S128x1024 .f32 := (k0_pay40 (F := F) (xch l.xb q) (xch l.xb q') (wch l.w q) (wch l.w q') l.ew)
/-- One chunk's product alone. -/
noncomputable def soloP (l : Loc F) (q : Dev nD) : FVec F S128x1024 .f32 := (k0_pay92 (F := F) (xch l.xb q) (wch l.w q) l.ew)
/-- A share as the first message. -/
noncomputable def packP (p : FVec F S128x1024 .f32) : Vec F S128x1024 .bf16 := shapeCast S128x1024 (truncf .bf16 p bitsLt_bf16_f32) shapeCasts_S128x1024_S128x1024
/-- A share added to a message that came. -/
noncomputable def bumpP (p : FVec F S128x1024 .f32) (m : Vec F S128x1024 .bf16) : Vec F S128x1024 .bf16 := k0_pay41 (F := F) p (unsq m)

/-- The messages to the right. -/
noncomputable def msgR (I : Dev nD → Inp F) : ℕ → Dev nD → Vec F S128x1024 .bf16
  | 0, c => packP (topP (loc I c) (perm (rank c + 7)) (perm (rank c + 8)))
  | s + 1, c => bumpP (topP (loc I c) (perm (rank c + (6 - s))) (perm (rank c + (9 + s)))) (msgR I s (nbr false c))
/-- The messages to the left. -/
noncomputable def msgL (I : Dev nD → Inp F) : ℕ → Dev nD → Vec F S128x1024 .bf16
  | 0, c => packP (botP (loc I c) (perm (rank c + 7)) (perm (rank c + 8)))
  | s + 1, c => bumpP (if s < 6 then botP (loc I c) (perm (rank c + (6 - s))) (perm (rank c + (9 + s))) else soloP (loc I c) (perm (rank c + 15))) (msgL I s (nbr true c))
/-- Every message of the exchange. -/
noncomputable def msgs (I : Dev nD → Inp F) : Msgs F := fun d s c => if d then msgR I s c else msgL I s c

/-- What a device ends with. -/
noncomputable def outOf (I : Dev nD → Inp F) (c : Dev nD) : Vec F S128x1024 .f32 := k0_pay1 (F := F) (k0_pay94 (F := F) (xch (loc I c).xb c) (wch (loc I c).w c) (loc I c).ew (unsq (msgs I true 6 (nbr (!true) c)))) (unsq (msgs I false 7 (nbr (!false) c)))

theorem msgR0 (I : Dev nD → Inp F) (c : Dev nD) : (k0_pay34 (F := F) (k0_pay23 (F := F) (xch (loc I c).xb (perm (rank c + 7))) (xch (loc I c).xb (perm (rank c + 8)))) (k0_pay25 (F := F) (xch (loc I c).xb (perm (rank c + 7))) (xch (loc I c).xb (perm (rank c + 8))) (wch (loc I c).w (perm (rank c + 7))) (wch (loc I c).w (perm (rank c + 8)))) (k0_pay26 (F := F) (xch (loc I c).xb (perm (rank c + 7))) (xch (loc I c).xb (perm (rank c + 8))) (wch (loc I c).w (perm (rank c + 7))) (wch (loc I c).w (perm (rank c + 8)))) (k0_pay27 (F := F) (xch (loc I c).xb (perm (rank c + 7))) (xch (loc I c).xb (perm (rank c + 8))) (wch (loc I c).w (perm (rank c + 7))) (wch (loc I c).w (perm (rank c + 8)))) (k0_pay28 (F := F) (xch (loc I c).xb (perm (rank c + 7))) (xch (loc I c).xb (perm (rank c + 8))) (wch (loc I c).w (perm (rank c + 7))) (wch (loc I c).w (perm (rank c + 8)))) (k0_pay29 (F := F) (xch (loc I c).xb (perm (rank c + 7))) (xch (loc I c).xb (perm (rank c + 8))) (wch (loc I c).w (perm (rank c + 7))) (wch (loc I c).w (perm (rank c + 8)))) (k0_pay30 (F := F) (xch (loc I c).xb (perm (rank c + 7))) (xch (loc I c).xb (perm (rank c + 8))) (wch (loc I c).w (perm (rank c + 7))) (wch (loc I c).w (perm (rank c + 8)))) (k0_pay31 (F := F) (xch (loc I c).xb (perm (rank c + 7))) (xch (loc I c).xb (perm (rank c + 8))) (wch (loc I c).w (perm (rank c + 7))) (wch (loc I c).w (perm (rank c + 8)))) (k0_pay32 (F := F) (wch (loc I c).w (perm (rank c + 7))) (wch (loc I c).w (perm (rank c + 8)))) (loc I c).ew) = msgs I true 0 c := rfl
theorem msgL0 (I : Dev nD → Inp F) (c : Dev nD) : (k0_pay35 (F := F) (k0_pay23 (F := F) (xch (loc I c).xb (perm (rank c + 7))) (xch (loc I c).xb (perm (rank c + 8)))) (k0_pay25 (F := F) (xch (loc I c).xb (perm (rank c + 7))) (xch (loc I c).xb (perm (rank c + 8))) (wch (loc I c).w (perm (rank c + 7))) (wch (loc I c).w (perm (rank c + 8)))) (k0_pay26 (F := F) (xch (loc I c).xb (perm (rank c + 7))) (xch (loc I c).xb (perm (rank c + 8))) (wch (loc I c).w (perm (rank c + 7))) (wch (loc I c).w (perm (rank c + 8)))) (k0_pay27 (F := F) (xch (loc I c).xb (perm (rank c + 7))) (xch (loc I c).xb (perm (rank c + 8))) (wch (loc I c).w (perm (rank c + 7))) (wch (loc I c).w (perm (rank c + 8)))) (k0_pay28 (F := F) (xch (loc I c).xb (perm (rank c + 7))) (xch (loc I c).xb (perm (rank c + 8))) (wch (loc I c).w (perm (rank c + 7))) (wch (loc I c).w (perm (rank c + 8)))) (k0_pay29 (F := F) (xch (loc I c).xb (perm (rank c + 7))) (xch (loc I c).xb (perm (rank c + 8))) (wch (loc I c).w (perm (rank c + 7))) (wch (loc I c).w (perm (rank c + 8)))) (k0_pay30 (F := F) (xch (loc I c).xb (perm (rank c + 7))) (xch (loc I c).xb (perm (rank c + 8))) (wch (loc I c).w (perm (rank c + 7))) (wch (loc I c).w (perm (rank c + 8)))) (k0_pay31 (F := F) (xch (loc I c).xb (perm (rank c + 7))) (xch (loc I c).xb (perm (rank c + 8))) (wch (loc I c).w (perm (rank c + 7))) (wch (loc I c).w (perm (rank c + 8)))) (k0_pay32 (F := F) (wch (loc I c).w (perm (rank c + 7))) (wch (loc I c).w (perm (rank c + 8)))) (loc I c).ew) = msgs I false 0 c := rfl
theorem msgR1 (I : Dev nD → Inp F) (c : Dev nD) : (k0_pay41 (F := F) (k0_pay39 (F := F) (xch (loc I c).xb (perm (rank c + 6))) (xch (loc I c).xb (perm (rank c + 9))) (wch (loc I c).w (perm (rank c + 6))) (wch (loc I c).w (perm (rank c + 9))) (loc I c).ew) (unsq (msgs I true 0 (nbr (!true) c)))) = msgs I true 1 c := rfl
theorem msgL1 (I : Dev nD → Inp F) (c : Dev nD) : (k0_pay42 (F := F) (k0_pay40 (F := F) (xch (loc I c).xb (perm (rank c + 6))) (xch (loc I c).xb (perm (rank c + 9))) (wch (loc I c).w (perm (rank c + 6))) (wch (loc I c).w (perm (rank c + 9))) (loc I c).ew) (unsq (msgs I false 0 (nbr (!false) c)))) = msgs I false 1 c := rfl
theorem msgR2 (I : Dev nD → Inp F) (c : Dev nD) : (k0_pay57 (F := F) (k0_pay45 (F := F) (xch (loc I c).xb (perm (rank c + 5))) (xch (loc I c).xb (perm (rank c + 10)))) (k0_pay47 (F := F) (xch (loc I c).xb (perm (rank c + 5))) (xch (loc I c).xb (perm (rank c + 10))) (wch (loc I c).w (perm (rank c + 5))) (wch (loc I c).w (perm (rank c + 10)))) (k0_pay48 (F := F) (xch (loc I c).xb (perm (rank c + 5))) (xch (loc I c).xb (perm (rank c + 10))) (wch (loc I c).w (perm (rank c + 5))) (wch (loc I c).w (perm (rank c + 10)))) (k0_pay49 (F := F) (xch (loc I c).xb (perm (rank c + 5))) (xch (loc I c).xb (perm (rank c + 10))) (wch (loc I c).w (perm (rank c + 5))) (wch (loc I c).w (perm (rank c + 10)))) (k0_pay50 (F := F) (xch (loc I c).xb (perm (rank c + 5))) (xch (loc I c).xb (perm (rank c + 10))) (wch (loc I c).w (perm (rank c + 5))) (wch (loc I c).w (perm (rank c + 10)))) (k0_pay51 (F := F) (xch (loc I c).xb (perm (rank c + 5))) (xch (loc I c).xb (perm (rank c + 10))) (wch (loc I c).w (perm (rank c + 5))) (wch (loc I c).w (perm (rank c + 10)))) (k0_pay52 (F := F) (xch (loc I c).xb (perm (rank c + 5))) (xch (loc I c).xb (perm (rank c + 10))) (wch (loc I c).w (perm (rank c + 5))) (wch (loc I c).w (perm (rank c + 10)))) (k0_pay53 (F := F) (xch (loc I c).xb (perm (rank c + 5))) (xch (loc I c).xb (perm (rank c + 10))) (wch (loc I c).w (perm (rank c + 5))) (wch (loc I c).w (perm (rank c + 10)))) (k0_pay54 (F := F) (wch (loc I c).w (perm (rank c + 5))) (wch (loc I c).w (perm (rank c + 10)))) (loc I c).ew (unsq (msgs I true 1 (nbr (!true) c)))) = msgs I true 2 c := rfl
theorem msgL2 (I : Dev nD → Inp F) (c : Dev nD) : (k0_pay58 (F := F) (k0_pay56 (F := F) (k0_pay45 (F := F) (xch (loc I c).xb (perm (rank c + 5))) (xch (loc I c).xb (perm (rank c + 10)))) (k0_pay47 (F := F) (xch (loc I c).xb (perm (rank c + 5))) (xch (loc I c).xb (perm (rank c + 10))) (wch (loc I c).w (perm (rank c + 5))) (wch (loc I c).w (perm (rank c + 10)))) (k0_pay48 (F := F) (xch (loc I c).xb (perm (rank c + 5))) (xch (loc I c).xb (perm (rank c + 10))) (wch (loc I c).w (perm (rank c + 5))) (wch (loc I c).w (perm (rank c + 10)))) (k0_pay49 (F := F) (xch (loc I c).xb (perm (rank c + 5))) (xch (loc I c).xb (perm (rank c + 10))) (wch (loc I c).w (perm (rank c + 5))) (wch (loc I c).w (perm (rank c + 10)))) (k0_pay50 (F := F) (xch (loc I c).xb (perm (rank c + 5))) (xch (loc I c).xb (perm (rank c + 10))) (wch (loc I c).w (perm (rank c + 5))) (wch (loc I c).w (perm (rank c + 10)))) (k0_pay51 (F := F) (xch (loc I c).xb (perm (rank c + 5))) (xch (loc I c).xb (perm (rank c + 10))) (wch (loc I c).w (perm (rank c + 5))) (wch (loc I c).w (perm (rank c + 10)))) (k0_pay52 (F := F) (xch (loc I c).xb (perm (rank c + 5))) (xch (loc I c).xb (perm (rank c + 10))) (wch (loc I c).w (perm (rank c + 5))) (wch (loc I c).w (perm (rank c + 10)))) (k0_pay53 (F := F) (xch (loc I c).xb (perm (rank c + 5))) (xch (loc I c).xb (perm (rank c + 10))) (wch (loc I c).w (perm (rank c + 5))) (wch (loc I c).w (perm (rank c + 10)))) (k0_pay54 (F := F) (wch (loc I c).w (perm (rank c + 5))) (wch (loc I c).w (perm (rank c + 10)))) (loc I c).ew) (unsq (msgs I false 1 (nbr (!false) c)))) = msgs I false 2 c := rfl
theorem msgR3 (I : Dev nD → Inp F) (c : Dev nD) : (k0_pay65 (F := F) (k0_pay63 (F := F) (k0_pay61 (F := F) (xch (loc I c).xb (perm (rank c + 4))) (xch (loc I c).xb (perm (rank c + 11)))) (wch (loc I c).w (perm (rank c + 4))) (wch (loc I c).w (perm (rank c + 11))) (loc I c).ew) (unsq (msgs I true 2 (nbr (!true) c)))) = msgs I true 3 c := rfl
theorem msgL3 (I : Dev nD → Inp F) (c : Dev nD) : (k0_pay66 (F := F) (k0_pay64 (F := F) (k0_pay61 (F := F) (xch (loc I c).xb (perm (rank c + 4))) (xch (loc I c).xb (perm (rank c + 11)))) (wch (loc I c).w (perm (rank c + 4))) (wch (loc I c).w (perm (rank c + 11))) (loc I c).ew) (unsq (msgs I false 2 (nbr (!false) c)))) = msgs I false 3 c := rfl
theorem msgR4 (I : Dev nD → Inp F) (c : Dev nD) : (k0_pay72 (F := F) (k0_pay69 (F := F) (xch (loc I c).xb (perm (rank c + 3))) (xch (loc I c).xb (perm (rank c + 12))) (wch (loc I c).w (perm (rank c + 3))) (wch (loc I c).w (perm (rank c + 12)))) (loc I c).ew (unsq (msgs I true 3 (nbr (!true) c)))) = msgs I true 4 c := rfl
theorem msgL4 (I : Dev nD → Inp F) (c : Dev nD) : (k0_pay73 (F := F) (k0_pay71 (F := F) (k0_pay69 (F := F) (xch (loc I c).xb (perm (rank c + 3))) (xch (loc I c).xb (perm (rank c + 12))) (wch (loc I c).w (perm (rank c + 3))) (wch (loc I c).w (perm (rank c + 12)))) (loc I c).ew) (unsq (msgs I false 3 (nbr (!false) c)))) = msgs I false 4 c := rfl
theorem msgR5 (I : Dev nD → Inp F) (c : Dev nD) : (k0_pay81 (F := F) (k0_pay78 (F := F) (k0_pay76 (F := F) (xch (loc I c).xb (perm (rank c + 2))) (xch (loc I c).xb (perm (rank c + 13)))) (wch (loc I c).w (perm (rank c + 2))) (wch (loc I c).w (perm (rank c + 13))) (loc I c).ew) (k0_pay80 (F := F) (unsq (msgs I true 4 (nbr (!true) c))))) = msgs I true 5 c := rfl
theorem msgL5 (I : Dev nD → Inp F) (c : Dev nD) : (k0_pay82 (F := F) (k0_pay79 (F := F) (k0_pay76 (F := F) (xch (loc I c).xb (perm (rank c + 2))) (xch (loc I c).xb (perm (rank c + 13)))) (wch (loc I c).w (perm (rank c + 2))) (wch (loc I c).w (perm (rank c + 13))) (loc I c).ew) (unsq (msgs I false 4 (nbr (!false) c)))) = msgs I false 5 c := rfl
theorem msgR6 (I : Dev nD → Inp F) (c : Dev nD) : (k0_pay87 (F := F) (k0_pay85 (F := F) (xch (loc I c).xb (perm (rank c + 1))) (xch (loc I c).xb (perm (rank c + 14))) (wch (loc I c).w (perm (rank c + 1))) (wch (loc I c).w (perm (rank c + 14))) (loc I c).ew) (unsq (msgs I true 5 (nbr (!true) c)))) = msgs I true 6 c := rfl
theorem msgL6 (I : Dev nD → Inp F) (c : Dev nD) : (k0_pay88 (F := F) (k0_pay86 (F := F) (k0_pay85 (F := F) (xch (loc I c).xb (perm (rank c + 1))) (xch (loc I c).xb (perm (rank c + 14))) (wch (loc I c).w (perm (rank c + 1))) (wch (loc I c).w (perm (rank c + 14))) (loc I c).ew)) (unsq (msgs I false 5 (nbr (!false) c)))) = msgs I false 6 c := rfl
theorem msgL7 (I : Dev nD → Inp F) (c : Dev nD) : (k0_pay93 (F := F) (k0_pay92 (F := F) (xch (loc I c).xb (perm (rank c + 15))) (wch (loc I c).w (perm (rank c + 15))) (loc I c).ew) (unsq (msgs I false 6 (nbr (!false) c)))) = msgs I false 7 c := rfl

end Cert.KernelIdeal.Moe

end
-- ==== Proof.Body.lean ====
/- The whole body of the kernel, part by part. -/
module

public import proofs.«01_k».proof.Proof.PartsA
public import proofs.«01_k».proof.Proof.PartsB
public import proofs.«01_k».proof.Proof.PartsC
public import proofs.«01_k».proof.Proof.PartsD
public import proofs.«01_k».proof.Proof.Contents

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

theorem memS_congr {c : Dev nD} {M M' : Mem F} {X Y : sProp (MM F)} (e : M = M') (h : iprop(memS c M' ∗ X) ⊢ Y) : iprop(memS c M ∗ X) ⊢ Y := e ▸ h

theorem mem_ready (I : Dev nD → Inp F) (c : Dev nD) (o : Vec F S128x1024 .f32) (f : Vec F S4096x1024 .bf16) :
    (⟨(I c).x, (I c).rw, (I c).ix, (I c).ex, tpT, trT, o, (k0_pay10 (F := F) (Scalar.remsi (Scalar.divsi (Dev.word c) 1#32) 16#32) (k0_pay5 (F := F) (I c).x (I c).rw) (k0_pay6 (F := F) (icol (I c).ix 0 inb_S2048x2_S2048x1_0_0)) (k0_pay7 (F := F) (icol (I c).ix 1 inb_S2048x2_S2048x1_0_1)) (iota .tc S2048x128 32 [1] iota_S2048x128_d1_w32) (k0_pay8 (F := F) (icol (I c).ix 0 inb_S2048x2_S2048x1_0_0)) (k0_pay9 (F := F))), (k0_pay11 (F := F) (I c).x), (putS 3584 inb_S4096x1024_S512x1024_3584_0 (putS 3072 inb_S4096x1024_S512x1024_3072_0 (putS 2560 inb_S4096x1024_S512x1024_2560_0 (putS 2048 inb_S4096x1024_S512x1024_2048_0 (putS 1536 inb_S4096x1024_S512x1024_1536_0 (putS 1024 inb_S4096x1024_S512x1024_1024_0 (putS 512 inb_S4096x1024_S512x1024_512_0 (putS 0 inb_S4096x1024_S512x1024_0_0 f (k0_pay13 (F := F) (k0_pay12 (F := F) (slab (I c).ex 0 inb_S8x512x1024_S1x512x1024_0_0_0)))) (k0_pay14 (F := F) (slab (I c).ex 1 inb_S8x512x1024_S1x512x1024_1_0_0))) (k0_pay15 (F := F) (slab (I c).ex 2 inb_S8x512x1024_S1x512x1024_2_0_0))) (k0_pay16 (F := F) (slab (I c).ex 3 inb_S8x512x1024_S1x512x1024_3_0_0))) (k0_pay17 (F := F) (slab (I c).ex 4 inb_S8x512x1024_S1x512x1024_4_0_0))) (k0_pay18 (F := F) (slab (I c).ex 5 inb_S8x512x1024_S1x512x1024_5_0_0))) (k0_pay19 (F := F) (slab (I c).ex 6 inb_S8x512x1024_S1x512x1024_6_0_0))) (k0_pay20 (F := F) (slab (I c).ex 7 inb_S8x512x1024_S1x512x1024_7_0_0)))⟩ : Mem F) = memOf (I c) o (loc I c) := by
  rw [ew_closed]; rfl

theorem body_run (I : Dev nD → Inp F) {K : GSem nD τ sig → ℕ} {c : Dev nD} {Φ : PUnit → sProp (MM F)} {o : Vec F S128x1024 .f32} {l : Loc F} {x y : Vec F S128x1024 .bf16}
    (h : iprop(memS c (memOf (I c) (outOf I c) (loc I c)) ∗ st (msgs I) K c 7 (some (msgs I true 6 c)) 7 8 (some (msgs I false 7 c)) 8) ⊢ Φ ⟨⟩) :
    iprop(memS c (memOf (I c) o l) ∗ st0 (msgs I) K c x y) ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) (fun a => iprop(Φ a ∗ atPos ER (barCell c) 1 ∅ 0)) := by
  rw [cc0_body_eq_skeleton]
  unfold cc0_body_skel
  refine part1_step  (v32_eq c) (chk1' (v32_eq c)) ?_
  refine part2_step _ _ _ _ _ _ (v32_eq c) (v51_eq c) (chk2' (v51_eq c)) ?_
  refine part3_step _ _ _ _ _ _ _  ?_
  refine part4_step _  ?_
  refine part5_step _ _ _ (v167_eq c) (chk3' (v167_eq c)) ?_
  refine memS_congr (mem_ready I c _ _) ?_
  refine part6_step _ _ _ _ _ _ _ (v167_eq c) (v186_eq c) (chk4' (v186_eq c)) ?_
  refine part7_step _ _ _ _ _ _ _ _ _ _ _ _ _ _ (v32_eq c) (v51_eq c) (msgR0 I c) (msgL0 I c) ?_
  refine part8_step _ _ _ _ _ (v267_eq c) (chk5' (v267_eq c)) (v287_eq c) (chk6' (v287_eq c)) ?_
  refine part9_step _ _ _ _ _ _ _ _ (v51_eq c) (v267_eq c) (v287_eq c) ?_
  refine part10_step _ _ _ _ (v32_eq c) (v51_eq c) (msgR1 I c) (msgL1 I c) ?_
  refine part11_step _ _ _ _ _ _ _ (v32_eq c) (v51_eq c) (v392_eq c) (chk7' (v392_eq c)) ?_
  refine part12_step _ _ _ _ _ _ _ (v392_eq c) (v412_eq c) (chk8' (v412_eq c)) ?_
  refine part13_step _ _ _ _ _ _ _ _ _ _ _ (v32_eq c) (v51_eq c) (msgR2 I c) ?_
  refine part14_step _ _ _ _ _ _ (v32_eq c) (v51_eq c) (msgL2 I c) ?_
  refine part15_step _ _ _ _ _ _ _ (v517_eq c) (chk9' (v517_eq c)) (v537_eq c) (chk10' (v537_eq c)) ?_
  refine part16_step _ _ _ _ _ _ _ (v51_eq c) (v517_eq c) (v537_eq c) ?_
  refine part17_step _ _ _ _ (v32_eq c) (v51_eq c) (msgR3 I c) (msgL3 I c) ?_
  refine part18_step _ _ _ _ _ _ _ (v32_eq c) (v51_eq c) (v642_eq c) (chk11' (v642_eq c)) ?_
  refine part19_step _ _ _ _ _ _ _ _ _ (v642_eq c) (v662_eq c) (chk12' (v662_eq c)) ?_
  refine part20_step _ _ _ (v32_eq c) (v51_eq c) (msgR4 I c) ?_
  refine part21_step _ _ _ _ _ _ (v32_eq c) (v51_eq c) (msgL4 I c) ?_
  refine part22_step _ _ _ _ _ _ (v767_eq c) (chk13' (v767_eq c)) (v787_eq c) (chk14' (v787_eq c)) ?_
  refine part23_step _ _ _ _ _ (v51_eq c) (v787_eq c) ?_
  refine part24_step _ _ _ _ _ _ (v32_eq c) (v51_eq c) (msgR5 I c) (msgL5 I c) ?_
  refine part25_step _ _ _ _ _ _ (v32_eq c) (v892_eq c) (chk15' (v892_eq c)) ?_
  refine part26_step _ _ _ _ _ _ _ (v892_eq c) (v912_eq c) (chk16' (v912_eq c)) ?_
  refine part27_step _ _ _ (v32_eq c) (v51_eq c) (msgR6 I c) ?_
  refine part28_step _ _ _ _ _ _ _ (v32_eq c) (v51_eq c) (msgL6 I c) ?_
  refine part29_step _ _ _ _ (v51_eq c) (v1016_eq c) (chk17' (v1016_eq c)) ?_
  refine part30_step _ _ _ _ (v32_eq c) (msgL7 I c) ?_
  refine part31_step _ _ (v32_eq c) ?_
  refine load_slot_l (s := 7) (by decide) rfl ?_
  refine load_o _ rfl ?_
  refine store_o_all ?_
  exact h.trans fupd_intro

end Cert.KernelIdeal.Moe

end
-- ==== Proof.Deal.lean ====
/- How the exchange starts: every cell, every right and every credit, dealt to the devices before the run. -/
module

public import proofs.«01_k».proof.Proof.Body
public import Idealize.ShloMosaic.Lib.Pipeline.Regions
public import Idealize.ShloMosaic.Lib.Pipeline.Kit
public import Idealize.ShloMosaic.Lib.Pipeline.RegionTalk
public import Idealize.ShloMosaic.Lib.Tactic
public import Idealize.ShloMosaic.Harness.Basic

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- The messages: a direction and a number. -/
abbrev Msg : Type := (d : Bool) × Fin (nS d)
/-- The exchange's own semaphores: one per direction that sends, one per message that lands. -/
abbrev Own : Type := Bool ⊕ Msg
abbrev osem : Own → SemLoc sig
  | .inl d => .dma (sndS d)
  | .inr j => .dma (rcvS j.1 j.2.val)

theorem osem_facts : Pipeline.OwnSemFacts spec0 osem := by decide
theorem osem_ne_bar (k : Own) : osem k ≠ .reg barS := by cases k <;> exact dma_ne_bar _

theorem osem_mem (k : Own) (c : Dev nD) : ((c : Thread nD τ), osem k) ∈ talkCells := by
  cases k
  · exact snd_mem _ c
  · exact rcv_mem _ _ c

def barEmb : Dev nD ↪ GSem nD τ sig := ⟨fun c => barCell c, fun _ _ h => congrArg (fun g : GSem nD τ sig => g.1.1) h⟩
def ownEmb : Dev nD × Own ↪ GSem nD τ sig :=
  ⟨fun p => ((p.1 : Thread nD τ), osem p.2), fun _ _ h =>
    Prod.ext (congrArg (fun g : GSem nD τ sig => g.1.1) h) (osem_facts.inj (congrArg Prod.snd h))⟩

abbrev barCells : Finset (GSem nD τ sig) := Finset.univ.map barEmb
abbrev ownCells : Finset (GSem nD τ sig) := Finset.univ.map ownEmb

theorem cells_apart : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem own_onto : ∀ k : Fin 17, ∃ o : Own, osem o = SemLoc.dma (⟨7 + k.val, (by omega : 7 + k.val < 24)⟩ : DmaSem sig) := by decide

theorem cells_all : (barCells ∪ ownCells : Finset (GSem nD τ sig)) = talkCells := by
  apply Finset.Subset.antisymm
  · intro g hg
    rcases Finset.mem_union.mp hg with h | h
    · obtain ⟨c, -, rfl⟩ := Finset.mem_map.mp h; exact bar_mem c
    · obtain ⟨p, -, rfl⟩ := Finset.mem_map.mp h; exact osem_mem p.2 p.1
  · intro g hg
    obtain ⟨c, -, h⟩ := Finset.mem_biUnion.mp hg
    obtain ⟨sm, hsm, rfl⟩ := Finset.mem_image.mp h
    rcases Finset.mem_insert.mp hsm with rfl | h
    · exact Finset.mem_union_left _ (Finset.mem_map_of_mem barEmb (Finset.mem_univ c))
    · obtain ⟨k, -, rfl⟩ := Finset.mem_image.mp h
      obtain ⟨o, ho⟩ := own_onto k
      rw [← ho]
      exact Finset.mem_union_right _ (Finset.mem_map_of_mem ownEmb (Finset.mem_univ (c, o)))

/-! ## The rights to pay -/

/-- A payment: to a barrier from either side, to a message's cell where it lands, to a sender's cell round by round. -/
abbrev Pay : Type := Bool ⊕ Msg ⊕ Msg
abbrev paySem : Pay → SemLoc sig × ℕ × Bool
  | .inl b => (.reg barS, 0, b)
  | .inr (.inl j) => (.dma (rcvS j.1 j.2.val), 0, true)
  | .inr (.inr j) => (.dma (sndS j.1), j.2.val, true)
theorem paySem_inj : Function.Injective paySem := by decide
def payEmb : Dev nD × Pay ↪ GSem nD τ sig × ℕ × Bool :=
  ⟨fun p => (((p.1 : Thread nD τ), (paySem p.2).1), (paySem p.2).2), fun _ _ h =>
    Prod.ext (congrArg (fun t : GSem nD τ sig × ℕ × Bool => t.1.1.1) h)
      (paySem_inj (Prod.ext (congrArg (fun t : GSem nD τ sig × ℕ × Bool => t.1.2) h) (congrArg (fun t : GSem nD τ sig × ℕ × Bool => t.2) h)))⟩
def talkToks : Finset (GSem nD τ sig × ℕ × Bool) := Finset.univ.map payEmb

theorem over_bool (Φ : Bool → sProp (MM F)) : bigSep Finset.univ Φ = iprop(Φ true ∗ Φ false) := by
  rw [show (Finset.univ : Finset Bool) = {true, false} from rfl, bigSep_insert (by decide), bigSep_singleton]; rfl

/-- A family over the messages of both directions, as one over each direction's numbers. -/
theorem over_msg (Φ : Bool → ℕ → sProp (MM F)) : bigSep Finset.univ (fun j : Msg => Φ j.1 j.2.val)
    = iprop(bigSep (Finset.range (nS true)) (Φ true) ∗ bigSep (Finset.range (nS false)) (Φ false)) := by
  rw [Pipeline.bigSep_univ_sigma, over_bool]
  exact congrArg₂ BI.sep (Ring.bigSep_fin_eq_range _ _ _ fun _ _ => rfl) (Ring.bigSep_fin_eq_range _ _ _ fun _ _ => rfl)

theorem over_own (Φ : SemLoc sig → sProp (MM F)) : bigSep Finset.univ (fun k : Own => Φ (osem k))
    = iprop((Φ (.dma (sndS true)) ∗ Φ (.dma (sndS false)))
      ∗ (bigSep (Finset.range (nS true)) fun s => Φ (.dma (rcvS true s))) ∗ bigSep (Finset.range (nS false)) fun s => Φ (.dma (rcvS false s))) := by
  rw [bigSep_univ_sum, over_bool]
  exact congrArg (BI.sep _) (over_msg fun d s => Φ (.dma (rcvS d s)))

def rcvToks (d : Bool) (c : Dev nD) : sProp (MM F) := bigSep (Finset.range (nS d)) fun s => dutyTok ER (rcvCell d s c) 0 true
def sndToks (d : Bool) (c : Dev nD) : sProp (MM F) := bigSep (Finset.range (nS d)) fun s => dutyTok ER (sndCell d c) s true

theorem toks_eq : bigSep talkToks (fun x => (dutyTok ER x.1 x.2.1 x.2.2 : sProp (MM F)))
    = bigSep Finset.univ fun c : Dev nD => iprop((dutyTok ER (barCell c) 0 true ∗ dutyTok ER (barCell c) 0 false)
        ∗ (rcvToks true c ∗ rcvToks false c) ∗ (sndToks true c ∗ sndToks false c)) := by
  unfold talkToks; rw [bigSep_map, bigSep_univ_prod]
  refine bigSep_congr fun c _ => ?_
  rw [bigSep_univ_sum, over_bool, bigSep_univ_sum]
  exact congrArg (BI.sep _) (congrArg₂ BI.sep (over_msg fun d s => dutyTok ER (rcvCell d s c) 0 true) (over_msg fun d s => dutyTok ER (sndCell d c) s true))

/-- The rights to pay a neighbour, each handed to the neighbour. -/
theorem toks_around :
    (bigSep Finset.univ fun c : Dev nD => iprop((dutyTok ER (barCell c) 0 true ∗ dutyTok ER (barCell c) 0 false)
        ∗ (rcvToks true c ∗ rcvToks false c) ∗ (sndToks true c ∗ sndToks false c) : sProp (MM F)))
      ⊢ bigSep Finset.univ fun c : Dev nD => iprop((dutyTok ER (barCell (nbr false c)) 0 true ∗ dutyTok ER (barCell (nbr true c)) 0 false)
        ∗ (rcvToks true (nbr true c) ∗ rcvToks false (nbr false c)) ∗ (sndToks true c ∗ sndToks false c)) := by
  rw [bigSep_sep', bigSep_sep', bigSep_sep', bigSep_sep', bigSep_sep', bigSep_sep', bigSep_sep', bigSep_sep', bigSep_sep', bigSep_sep',
    bigSep_univ_equiv (ring false) (fun c : Dev nD => (dutyTok ER (barCell c) 0 true : sProp (MM F))),
    bigSep_univ_equiv (ring true) (fun c : Dev nD => (dutyTok ER (barCell c) 0 false : sProp (MM F))),
    bigSep_univ_equiv (ring true) (fun c : Dev nD => (rcvToks true c : sProp (MM F))),
    bigSep_univ_equiv (ring false) (fun c : Dev nD => (rcvToks false c : sProp (MM F)))]
  exact BI.Entails.refl _

theorem sendToks_join (d : Bool) (c : Dev nD) : iprop(rcvToks (F := F) d (nbr d c) ∗ sndToks d c) ⊢ sendToks d c := by
  unfold rcvToks sndToks sendToks
  exact Entails.of_eq (bigSep_sep _ _ _).symm

/-! ## The credits -/

theorem rcv_inj {d d' : Bool} {s s' : ℕ} {c c' : Dev nD} (hs : s < nS d) (hs' : s' < nS d') (h : rcvCell d s c = rcvCell d' s' c') :
    d = d' ∧ s = s' ∧ c = c' := by
  have h1 := congrArg (fun g : GSem nD τ sig => rcvOf g.2) h
  dsimp only at h1
  rw [rcvOf_rcv hs, rcvOf_rcv hs', Option.some.injEq, Prod.mk.injEq] at h1
  exact ⟨h1.1, h1.2, congrArg (fun g : GSem nD τ sig => g.1.1) h⟩

theorem oweDir_bar (d : Bool) (a c : Dev nD) : oweDir d a 0 (barCell c) () = 0 := by
  by_contra h
  obtain ⟨s, -, -, e⟩ := oweDir_pos d a 0 (Nat.pos_of_ne_zero h)
  exact dma_ne_bar _ (congrArg Prod.snd e).symm

theorem oweDir_rcv (d e : Bool) (a c : Dev nD) {s : ℕ} (hs : s < nS e) :
    oweDir d a 0 (rcvCell e s c) () = if d = e ∧ nbr d a = c then N else 0 := by
  split
  · next h =>
    obtain ⟨rfl, rfl⟩ := h
    unfold oweDir
    rw [Finset.sum_apply, Finsupp.finset_sum_apply, Finset.sum_eq_single s]
    · rw [tallyAt_apply, if_pos ⟨rfl, rfl⟩]
    · intro s' h' hne
      rw [tallyAt_apply, if_neg]
      rintro ⟨h, -⟩
      exact hne (rcv_inj hs (Finset.mem_Ico.mp h').2 h).2.1.symm
    · intro h; exact absurd (Finset.mem_Ico.mpr ⟨Nat.zero_le _, hs⟩) h
  · next h =>
    by_contra h0
    obtain ⟨s', -, hs', e'⟩ := oweDir_pos d a 0 (Nat.pos_of_ne_zero h0)
    obtain ⟨h1, -, h2⟩ := rcv_inj hs hs' e'
    exact h ⟨h1.symm, h2.symm⟩

theorem tally_bar (x c : Dev nD) (n : ℕ) : (tallyAt (barCell x) () n : CellTallies nD τ sig Unit) (barCell c) () = if x = c then n else 0 := by
  rw [tallyAt_apply]
  by_cases h : x = c
  · subst h; rw [if_pos ⟨rfl, rfl⟩, if_pos rfl]
  · rw [if_neg (fun ⟨h1, _⟩ => h (congrArg (fun g : GSem nD τ sig => g.1.1) h1).symm), if_neg h]

theorem tally_bar_rcv (d : Bool) (s : ℕ) (x c : Dev nD) (n : ℕ) : (tallyAt (barCell x) () n : CellTallies nD τ sig Unit) (rcvCell d s c) () = 0 := by
  rw [tallyAt_apply, if_neg]; rintro ⟨h, -⟩; exact dma_ne_bar _ (congrArg Prod.snd h)

theorem nbr_eq_iff (d : Bool) (a c : Dev nD) : nbr d a = c ↔ a = nbr (!d) c :=
  ⟨fun h => by rw [← h, nbr_nbr], fun h => by rw [h, nbr_nbr']⟩

theorem launch_bar (c : Dev nD) :
    tallyOn (barCell c) (launchCredit (Pipeline.owing owe0) 0 (barCell c)) = (tallyAt (barCell c) () 2 : CellTallies nD τ sig Unit) := by
  have e (a : Dev nD) : owe0 a (barCell c) () = (if a = nbr false c then 1 else 0) + (if a = nbr true c then 1 else 0) := by
    unfold owe0
    rw [Pi.add_apply, Finsupp.add_apply, Pi.add_apply, Finsupp.add_apply, Pi.add_apply, Finsupp.add_apply, oweDir_bar, oweDir_bar, tally_bar, tally_bar]
    rw [if_congr (nbr_eq_iff true a c) rfl rfl, if_congr (nbr_eq_iff false a c) rfl rfl]
    simp only [Nat.zero_add, Bool.not_true, Bool.not_false]
  unfold tallyAt; refine congrArg _ (Finsupp.ext fun u => ?_); cases u
  rw [Pipeline.launchCredit_owing, Finsupp.single_eq_same, Finset.sum_congr rfl fun a _ => e a, Finset.sum_add_distrib,
    Finset.sum_ite_eq' Finset.univ (nbr false c) fun _ => 1, Finset.sum_ite_eq' Finset.univ (nbr true c) fun _ => 1, if_pos (Finset.mem_univ _), if_pos (Finset.mem_univ _)]

theorem launch_rcv (d : Bool) (c : Dev nD) {s : ℕ} (hs : s < nS d) :
    tallyOn (rcvCell d s c) (launchCredit (Pipeline.owing owe0) 0 (rcvCell d s c)) = (tallyAt (rcvCell d s c) () N : CellTallies nD τ sig Unit) := by
  have e (a : Dev nD) : owe0 a (rcvCell d s c) () = if a = nbr (!d) c then N else 0 := by
    unfold owe0
    rw [Pi.add_apply, Finsupp.add_apply, Pi.add_apply, Finsupp.add_apply, Pi.add_apply, Finsupp.add_apply, oweDir_rcv _ _ _ _ hs, oweDir_rcv _ _ _ _ hs, tally_bar_rcv, tally_bar_rcv]
    rw [if_congr (nbr_eq_iff d a c).symm rfl rfl]
    cases d <;> simp
  unfold tallyAt; refine congrArg _ (Finsupp.ext fun u => ?_); cases u
  rw [Pipeline.launchCredit_owing, Finsupp.single_eq_same, Finset.sum_congr rfl fun a _ => e a,
    Finset.sum_ite_eq' Finset.univ (nbr (!d) c) fun _ => N, if_pos (Finset.mem_univ _)]

/-- The credits of a direction's messages that are to land. -/
def rcvCreds (d : Bool) (c : Dev nD) : sProp (MM F) := bigSep (Finset.range (nS d)) fun s => cred (tallyAt (rcvCell d s c) () N)

theorem creds (c : Dev nD) :
    (Pipeline.launchCred owe0 c : sProp (MM F)) ⊢ iprop(cred (tallyAt (barCell c) () 2) ∗ rcvCreds true c ∗ rcvCreds false c) := by
  unfold Pipeline.launchCred
  rw [bigSep_univ_at _ (SemLoc.reg barS), launch_bar]
  refine sep_mono_right ?_
  refine (bigSep_subset (t := Finset.univ.image fun j : Msg => (SemLoc.dma (rcvS j.1 j.2.val) : SemLoc sig)) fun sm h => ?_).trans ?_
  · obtain ⟨j, -, rfl⟩ := Finset.mem_image.mp h
    exact Finset.mem_erase.mpr ⟨dma_ne_bar _, Finset.mem_univ _⟩
  · rw [bigSep_image_of_injOn (fun j _ j' _ h => Sum.inr_injective (osem_facts.inj (show osem (.inr j) = osem (.inr j') from h)))]
    unfold rcvCreds
    refine Entails.of_eq ((bigSep_congr fun j _ => congrArg cred (launch_rcv j.1 c j.2.isLt)).trans ?_)
    exact over_msg fun d s => cred (tallyAt (rcvCell d s c) () N)

end Cert.KernelIdeal.Moe

end
-- ==== Proof.Slots.lean ====
/- The landing buffers as their slots, and back; and the exchange's cells closed at the end. -/
module

public import proofs.«01_k».proof.Proof.Deal

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The slots tile their buffer -/

/-- The elements of a slot. -/
def elemsR (s : ℕ) : Finset S7x128x1024.Idx := (Rect.unit (s := S7x128x1024) ![min s 6, 0, 0] S1x128x1024.size (inbR s)).set
theorem setR (s : ℕ) : (slotR s).view.set = elemsR s :=
  (View.set_reshape _ squeezes_S1x128x1024_S128x1024.numel_eq).trans (View.set_slice_whole _ _)
theorem apartR (b b' : Fin 7) (h : b ≠ b') : Disjoint (elemsR b.val) (elemsR b'.val) := by
  unfold elemsR
  exact Ring.lead_disjoint (s := S7x128x1024) (NB := 7) 0 1 (fun b => ![min b.val 6, 0, 0]) S1x128x1024.size (fun b => inbR b.val)
    (fun b => by show min b.val 6 = 1 * b.val; omega) rfl b b' h
theorem coverR : Finset.univ.biUnion (fun b : Fin 7 => elemsR b.val) = Finset.univ := by
  unfold elemsR
  exact Ring.lead_cover (s := S7x128x1024) (NB := 7) 0 1 (fun b => ![min b.val 6, 0, 0]) S1x128x1024.size (fun b => inbR b.val)
      (fun b => by show min b.val 6 = 1 * b.val; omega)
      (fun b a h => by fin_cases a; exacts [absurd rfl h, rfl, rfl]) rfl
      (fun a h => by fin_cases a; exacts [absurd rfl h, rfl, rfl]) rfl
theorem slotAnyR (s : ℕ) (c : Dev nD) : slotAny (F := F) true s c
    = iprop(∃ f : Buf (Elt F) ((Memref.whole cc0_scratch5).view.loc (c : Thread nD τ)), (Memref.whole cc0_scratch5).view.loc (c : Thread nD τ) ↦[elemsR s]{fullShare} f) := by
  unfold slotAny
  exact congrArg (fun S : Finset (Idx ((Memref.whole cc0_scratch5).view.loc (c : Thread nD τ))) => (iprop(∃ f : Buf (Elt F) ((Memref.whole cc0_scratch5).view.loc (c : Thread nD τ)), (Memref.whole cc0_scratch5).view.loc (c : Thread nD τ) ↦[S]{fullShare} f) : sProp (MM F))) (setR s)

/-- The elements of a slot. -/
def elemsL (s : ℕ) : Finset S8x128x1024.Idx := (Rect.unit (s := S8x128x1024) ![min s 7, 0, 0] S1x128x1024.size (inbL s)).set
theorem setL (s : ℕ) : (slotL s).view.set = elemsL s :=
  (View.set_reshape _ squeezes_S1x128x1024_S128x1024.numel_eq).trans (View.set_slice_whole _ _)
theorem apartL (b b' : Fin 8) (h : b ≠ b') : Disjoint (elemsL b.val) (elemsL b'.val) := by
  unfold elemsL
  exact Ring.lead_disjoint (s := S8x128x1024) (NB := 8) 0 1 (fun b => ![min b.val 7, 0, 0]) S1x128x1024.size (fun b => inbL b.val)
    (fun b => by show min b.val 7 = 1 * b.val; omega) rfl b b' h
theorem coverL : Finset.univ.biUnion (fun b : Fin 8 => elemsL b.val) = Finset.univ := by
  unfold elemsL
  exact Ring.lead_cover (s := S8x128x1024) (NB := 8) 0 1 (fun b => ![min b.val 7, 0, 0]) S1x128x1024.size (fun b => inbL b.val)
      (fun b => by show min b.val 7 = 1 * b.val; omega)
      (fun b a h => by fin_cases a; exacts [absurd rfl h, rfl, rfl]) rfl
      (fun a h => by fin_cases a; exacts [absurd rfl h, rfl, rfl]) rfl
theorem slotAnyL (s : ℕ) (c : Dev nD) : slotAny (F := F) false s c
    = iprop(∃ f : Buf (Elt F) ((Memref.whole cc0_scratch6).view.loc (c : Thread nD τ)), (Memref.whole cc0_scratch6).view.loc (c : Thread nD τ) ↦[elemsL s]{fullShare} f) := by
  unfold slotAny
  exact congrArg (fun S : Finset (Idx ((Memref.whole cc0_scratch6).view.loc (c : Thread nD τ))) => (iprop(∃ f : Buf (Elt F) ((Memref.whole cc0_scratch6).view.loc (c : Thread nD τ)), (Memref.whole cc0_scratch6).view.loc (c : Thread nD τ) ↦[S]{fullShare} f) : sProp (MM F))) (setL s)

/-- The landing buffer of a direction. -/
abbrev landRef (d : Bool) : Ref sig .tc := match d with | true => cc0_scratch5 | false => cc0_scratch6

theorem some_intro {A : Type} (Φ : A → sProp (MM F)) (a : A) : Φ a ⊢ iprop(∃ x, Φ x) := by
  iintro H; iexists a; iexact H

theorem slots_range (d : Bool) (c : Dev nD) : (bigSep Finset.univ fun b : Fin (nS d) => slotAny (F := F) d b.val c) = bigSep (Finset.range (nS d)) fun s => slotAny d s c :=
  Ring.bigSep_fin_eq_range _ _ _ fun _ _ => rfl

theorem slots_split (d : Bool) (c : Dev nD) (f : (landRef d).ty.Contents (Elt F)) :
    pt c (landRef d) f ⊢ bigSep (Finset.range (nS d)) fun s => slotAny d s c := by
  rw [← slots_range]
  cases d
  · refine (Entails.of_eq (Ring.pointsTo_blocks (ℓ := (Memref.whole cc0_scratch6).view.loc (c : Thread nD τ)) (fun b : Fin 8 => elemsL b.val) apartL coverL f)).trans ?_
    refine bigSep_mono fun b _ => ?_
    rw [slotAnyL]
    exact some_intro (fun f => ((Memref.whole cc0_scratch6).view.loc (c : Thread nD τ) ↦[elemsL b.val]{fullShare} f : sProp (MM F))) f
  · refine (Entails.of_eq (Ring.pointsTo_blocks (ℓ := (Memref.whole cc0_scratch5).view.loc (c : Thread nD τ)) (fun b : Fin 7 => elemsR b.val) apartR coverR f)).trans ?_
    refine bigSep_mono fun b _ => ?_
    rw [slotAnyR]
    exact some_intro (fun f => ((Memref.whole cc0_scratch5).view.loc (c : Thread nD τ) ↦[elemsR b.val]{fullShare} f : sProp (MM F))) f

theorem slots_join (d : Bool) (c : Dev nD) (f : (landRef d).ty.Contents (Elt F)) :
    (bigSep (Finset.range (nS d)) fun s => slotAny (F := F) d s c) ⊢ iprop(∃ g, pt c (landRef d) g) := by
  rw [← slots_range]
  cases d
  · refine (Entails.of_eq (bigSep_congr fun b _ => slotAnyL b.val c)).trans ?_
    exact Ring.pointsTo_blocks_join_exists (ℓ := (Memref.whole cc0_scratch6).view.loc (c : Thread nD τ)) (fun b : Fin 8 => elemsL b.val) apartL coverL f
  · refine (Entails.of_eq (bigSep_congr fun b _ => slotAnyR b.val c)).trans ?_
    exact Ring.pointsTo_blocks_join_exists (ℓ := (Memref.whole cc0_scratch5).view.loc (c : Thread nD τ)) (fun b : Fin 7 => elemsR b.val) apartR coverR f

theorem slot_of_pay (snd : Msgs F) (d : Bool) (s : ℕ) (c : Dev nD) : rcvPay snd d s c ⊢ slotAny d s c := by
  unfold rcvPay slotAny owns
  iintro ⟨%f, -, H⟩; iexists f; iexact H

/-! ## Opening a direction's cells -/

/-- A direction's own cells with the rights to open them. -/
def shut (d : Bool) (c : Dev nD) : sProp (MM F) :=
  iprop(openTok ER (sndCell d c) ∗ bigSep (Finset.range (nS d)) fun s => openTok ER (rcvCell d s c))
/-- A direction's own counters at zero. -/
def zeros (d : Bool) (c : Dev nD) : sProp (MM F) :=
  iprop(semVal (sndCell d c) 0 ∗ bigSep (Finset.range (nS d)) fun s => semVal (rcvCell d s c) 0)
/-- A direction's own cells, opened. -/
def opened (d : Bool) (c : Dev nD) : sProp (MM F) :=
  iprop((atPos ER (sndCell d c) 0 ∅ 0 ∗ reached ER (sndCell d c) 0)
    ∗ bigSep (Finset.range (nS d)) fun s => iprop(atPos ER (rcvCell d s c) 0 ∅ 0 ∗ reached ER (rcvCell d s c) 0))

theorem open_at (snd : Msgs F) (K : GSem nD τ sig → ℕ) {g : GSem nD τ sig} (hg : g ∈ talkCells) :
    iprop(ctx snd K ∗ (openTok ER g ∗ semVal g 0)) ⊢ |={Set.univ}=> iprop(atPos ER g 0 ∅ 0 ∗ reached ER g 0) := by
  iintro ⟨#HC, Ho, Hv⟩
  iapply (Rounds.cell_open ER (talk snd) (g := g) (κ := K g) (Set.mem_univ (K g)))
  isplitr; · iapply (ctx_inv snd K hg); iexact HC
  isplitl [Ho] <;> iassumption

theorem open_dir (snd : Msgs F) (K : GSem nD τ sig → ℕ) (d : Bool) (c : Dev nD) :
    iprop(ctx snd K ∗ shut d c ∗ zeros d c) ⊢ |={Set.univ}=> opened d c := by
  unfold shut zeros opened
  iintro ⟨#HC, ⟨Ho, Hos⟩, Hz, Hzs⟩
  imod (open_at snd K (snd_mem d c)) $$ [Ho Hz] with H1
  · isplitr; · iexact HC
    isplitl [Ho] <;> iassumption
  imod ((bigSep_with_persistent (R := ctx snd K) (S := Finset.range (nS d)) (Φ := fun s => iprop(openTok ER (rcvCell d s c) ∗ semVal (rcvCell d s c) 0))
      (Ψ := fun s => iprop(|={Set.univ}=> (atPos ER (rcvCell d s c) 0 ∅ 0 ∗ reached ER (rcvCell d s c) 0))) fun s _ => open_at snd K (rcv_mem d s c)).trans (bigSep_fupd _ _)) $$ [Hos Hzs] with H2
  · isplitr; · iexact HC
    rw [bigSep_sep']
    isplitl [Hos] <;> iassumption
  imodintro
  isplitl [H1]; · iexact H1
  iexact H2

/-! ## Closing them -/

theorem close_at (snd : Msgs F) (K : GSem nD τ sig → ℕ) {g : GSem nD τ sig} (hg : g ∈ talkCells) {R : ℕ} (hR : ∀ r, R ≤ r → (talk snd).duties g r = ∅) :
    iprop(ctx snd K ∗ atPos ER g R ∅ 0) ⊢ |={Set.univ}=> (semVal g 0 : sProp (MM F)) := by
  iintro ⟨#HC, Ha⟩
  iapply (Rounds.cell_close ER (talk snd) (g := g) (κ := K g) (Set.mem_univ (K g)) (fun h => h) (R := R) hR)
  isplitr; · iapply (ctx_inv snd K hg); iexact HC
  iexact Ha

/-- The buffer a direction sends from. -/
abbrev sendRef (d : Bool) : Ref sig .tc := match d with | true => cc0_scratch3 | false => cc0_scratch4

theorem buf_owns (d : Bool) (c : Dev nD) (x : Vec F S128x1024 .bf16) : owns (c : Thread nD τ) (bufM d) fullShare x ⊢ iprop(∃ f, pt (F := F) c (sendRef d) f) := by
  cases d
  · refine (Entails.of_eq (owns_whole (c : Thread nD τ) cc0_scratch4 fullShare x)).trans ?_
    iintro H; iexists x; iexact H
  · refine (Entails.of_eq (owns_whole (c : Thread nD τ) cc0_scratch3 fullShare x)).trans ?_
    iintro H; iexists x; iexact H
theorem owns_buf (d : Bool) (c : Dev nD) : iprop(∃ f, pt (F := F) c (sendRef d) f) ⊢ iprop(∃ x, owns (c : Thread nD τ) (bufM d) fullShare x) := by
  cases d
  · iintro ⟨%f, H⟩; iexists f
    iapply (Entails.of_eq (owns_whole (c : Thread nD τ) cc0_scratch4 fullShare f).symm); iexact H
  · iintro ⟨%f, H⟩; iexists f
    iapply (Entails.of_eq (owns_whole (c : Thread nD τ) cc0_scratch3 fullShare f).symm); iexact H

theorem came_split (snd : Msgs F) (d : Bool) (c : Dev nD) : bigSep (Finset.range (nS d)) (came snd d c)
    ⊢ iprop((bigSep (Finset.range (nS d)) fun s => atPos ER (rcvCell d s c) 1 ∅ 0) ∗ bigSep (Finset.range (nS d)) fun s => slotAny d s c) := by
  unfold came
  rw [bigSep_sep']
  exact sep_mono_right (bigSep_mono fun s _ => slot_of_pay snd d s c)

/-- A direction at its end: its counters back at zero, its two buffers back whole. -/
theorem close_dir (snd : Msgs F) (K : GSem nD τ sig → ℕ) (d : Bool) (c : Dev nD) (x : Vec F S128x1024 .bf16) (f : (landRef d).ty.Contents (Elt F)) :
    iprop(ctx snd K ∗ dirSt snd d c (nS d) (some x) (nS d)) ⊢ |={Set.univ}=> iprop(zeros d c ∗ (∃ f, pt c (sendRef d) f) ∗ ∃ f, pt c (landRef d) f) := by
  unfold dirSt bufSt zeros
  iintro ⟨#HC, -, ⟨Ha, -, Hb⟩, -, Hcame⟩
  ihave Hc := (came_split snd d c) $$ Hcame
  icases Hc with ⟨Hat, Hs⟩
  imod (close_at snd K (snd_mem d c) (later_snd snd c d)) $$ [Ha] with H1
  · isplitr; · iexact HC
    iexact Ha
  imod ((bigSep_with_persistent (R := ctx snd K) (S := Finset.range (nS d)) (Φ := fun s => (atPos ER (rcvCell d s c) 1 ∅ 0 : sProp (MM F)))
      (Ψ := fun s => iprop(|={Set.univ}=> (semVal (rcvCell d s c) 0 : sProp (MM F)))) fun s hs => close_at snd K (rcv_mem d s c) (later_rcv snd c d (Finset.mem_range.mp hs))).trans (bigSep_fupd _ _)) $$ [Hat] with H2
  · isplitr; · iexact HC
    iexact Hat
  imodintro
  isplitl [H1 H2]; · isplitl [H1] <;> iassumption
  isplitl [Hb]; · iapply (buf_owns d c x); iexact Hb
  iapply (slots_join d c f); iexact Hs

end Cert.KernelIdeal.Moe

end
-- ==== Proof.Start.lean ====
/- The body between its two ends: the buffers and cells of a device made ready for it, and taken back after it. -/
module

public import proofs.«01_k».proof.Proof.Slots

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Entering -/

/-- What a direction brings to the body, its buffers apart. -/
def brings (d : Bool) (c : Dev nD) : sProp (MM F) := iprop(sendToks d c ∗ opened d c ∗ rcvCreds d c)

theorem slots_ready (d : Bool) (c : Dev nD) (f : (landRef d).ty.Contents (Elt F)) :
    iprop(pt c (landRef d) f ∗ bigSep (Finset.range (nS d)) fun s => reached ER (rcvCell d s c) 0) ⊢ ownSlots d c := by
  unfold ownSlots
  rw [bigSep_sep']
  iintro ⟨Hf, Hr⟩
  isplitl [Hf]
  · iapply (slots_split d c f); iexact Hf
  iexact Hr

theorem come_ready (d : Bool) (c : Dev nD) :
    iprop((bigSep (Finset.range (nS d)) fun s => atPos ER (rcvCell d s c) 0 ∅ 0) ∗ rcvCreds d c) ⊢ (bigSep (Finset.range (nS d)) (toCome d c) : sProp (MM F)) := by
  unfold rcvCreds
  exact Entails.of_eq (bigSep_sep' _ _ _).symm

/-- One direction, made ready. -/
theorem dir_enter (d : Bool) (c : Dev nD) (f : (landRef d).ty.Contents (Elt F)) :
    iprop(brings d c ∗ pt c (landRef d) f ∗ (∃ g, pt c (sendRef d) g)) ⊢ iprop(ownSlots d c ∗ ∃ x, dir0 d c x) := by
  unfold brings opened
  rw [bigSep_sep']
  iintro ⟨⟨Ht, ⟨⟨Ha, Hr⟩, Hp, Hq⟩, Hc⟩, Hf, Hg⟩
  isplitl [Hf Hq]
  · iapply (slots_ready d c f)
    isplitl [Hf] <;> iassumption
  ihave Hx := (owns_buf d c) $$ Hg
  icases Hx with ⟨%x, Hx⟩
  iexists x
  unfold dir0
  isplitl [Ht]; · iexact Ht
  isplitl [Ha Hr Hx]
  · unfold bufSt
    isplitl [Ha]; · iexact Ha
    isplitl [Hr]; · iexact Hr
    iexact Hx
  iapply (come_ready d c)
  isplitl [Hp] <;> iassumption

/-! ## Leaving -/

/-- What a direction gives back. -/
def leaves (d : Bool) (c : Dev nD) : sProp (MM F) := iprop(zeros d c ∗ (∃ f, pt c (sendRef d) f) ∗ ∃ f, pt c (landRef d) f)

theorem st_leave (snd : Msgs F) (K : GSem nD τ sig → ℕ) (c : Dev nD) (x y : Vec F S128x1024 .bf16)
    (f : (landRef true).ty.Contents (Elt F)) (g : (landRef false).ty.Contents (Elt F)) :
    iprop(st snd K c (nS true) (some x) (nS true) (nS false) (some y) (nS false) ∗ atPos ER (barCell c) 1 ∅ 0)
      ⊢ |={Set.univ}=> iprop(semVal (barCell c) 0 ∗ leaves true c ∗ leaves false c ∗ owing c 0) := by
  unfold st
  rw [oweDir_end, oweDir_end, add_zero]
  iintro ⟨⟨#HC, HT, HF, HO⟩, HB⟩
  imod (close_at snd K (bar_mem c) (later_bar snd c)) $$ [HB] with Hb
  · isplitr; · iexact HC
    iexact HB
  imod (close_dir snd K true c x f) $$ [HT] with H1
  · isplitr; · iexact HC
    iexact HT
  imod (close_dir snd K false c y g) $$ [HF] with H2
  · isplitr; · iexact HC
    iexact HF
  imodintro
  unfold leaves
  isplitl [Hb]; · iexact Hb
  isplitl [H1]; · iexact H1
  isplitl [H2]; · iexact H2
  iexact HO

/-! ## The body, end to end -/

/-- The kernel's body, on its buffers. -/
abbrev theBody : Prog (TpuEff nD τ sig (Elt F) Λ₀ .tc) PUnit := (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10)

/-- What a device brings to the exchange. -/
def Xk (snd : Msgs F) (c : Dev nD) : sProp (MM F) := iprop(∃ K, ctx snd K ∗ bar0 c ∗ brings true c ∗ brings false c)

/-- The memory of a device the body does not exchange through, with what the exchange goes through. -/
def given (c : Dev nD) : sProp (MM F) :=
  iprop((∃ f, pt c (landRef true) f) ∗ (∃ f, pt c (landRef false) f) ∗ (∃ f, pt c (sendRef true) f) ∗ ∃ f, pt c (sendRef false) f)

theorem run_then {c : Dev nD} {A : Type} {p : Prog (TpuEff nD τ sig (Elt F) Λ₀ .tc) A} {P : sProp (MM F)} {Q Q' : A → sProp (MM F)}
    (h : P ⊢ run c p Q) (hq : ∀ a, Q a ⊢ |={Set.univ}=> Q' a) : P ⊢ run c p Q' :=
  h.trans ((wp_mono frame (wpE (defs₀ (F := F)) 𝒱₀ (c : Thread nD τ) none) Set.univ hq).trans (wp_fupd frame (wpE (defs₀ (F := F)) 𝒱₀ (c : Thread nD τ) none) Set.univ p Q'))

theorem run_leave (I : Dev nD → Inp F) (K : GSem nD τ sig → ℕ) (c : Dev nD) (f : (landRef true).ty.Contents (Elt F)) (g : (landRef false).ty.Contents (Elt F)) :
    iprop((memS c (memOf (I c) (outOf I c) (loc I c)) ∗ st (msgs I) K c 7 (some (msgs I true 6 c)) 7 8 (some (msgs I false 7 c)) 8) ∗ atPos ER (barCell c) 1 ∅ 0)
      ⊢ |={Set.univ}=> iprop(memS c (memOf (I c) (outOf I c) (loc I c)) ∗ semVal (barCell c) 0 ∗ leaves true c ∗ leaves false c ∗ owing c 0) := by
  iintro ⟨⟨HM, HS⟩, HB⟩
  imod (st_leave (msgs I) K c (msgs I true 6 c) (msgs I false 7 c) f g) $$ [HS HB] with H
  · isplitl [HS]; · iexact HS
    iexact HB
  imodintro
  isplitl [HM]; · iexact HM
  iexact H

theorem whole_run (I : Dev nD → Inp F) (c : Dev nD) (o : Vec F S128x1024 .f32) (l : Loc F) :
    iprop(memS c (memOf (I c) o l) ∗ Xk (msgs I) c ∗ given c ∗ owing c (owe0 c))
      ⊢ run c theBody (fun _ => iprop(memS c (memOf (I c) (outOf I c) (loc I c)) ∗ semVal (barCell c) 0 ∗ leaves true c ∗ leaves false c ∗ owing c 0)) := by
  unfold Xk given
  iintro ⟨HM, ⟨%K, #HC, HB, HT, HF⟩, ⟨⟨%f, Hf⟩, ⟨%g, Hg⟩, Hs, Hs'⟩, HO⟩
  ihave H1 := (dir_enter true c f) $$ [HT Hf Hs]
  · isplitl [HT]; · iexact HT
    isplitl [Hf] <;> iassumption
  ihave H2 := (dir_enter false c g) $$ [HF Hg Hs']
  · isplitl [HF]; · iexact HF
    isplitl [Hg] <;> iassumption
  icases H1 with ⟨HS1, ⟨%x, HD1⟩⟩
  icases H2 with ⟨HS2, ⟨%y, HD2⟩⟩
  iapply (run_then (body_run I (K := K) (c := c) (o := o) (l := l) (x := x) (y := y) (Φ := fun _ => iprop(memS c (memOf (I c) (outOf I c) (loc I c)) ∗ st (msgs I) K c 7 (some (msgs I true 6 c)) 7 8 (some (msgs I false 7 c)) 8))
    (BI.Entails.refl _)) fun _ => run_leave I K c f g)
  isplitl [HM]; · iexact HM
  unfold st0
  isplitr; · iexact HC
  isplitl [HS1]; · iexact HS1
  isplitl [HS2]; · iexact HS2
  isplitl [HB]; · iexact HB
  isplitl [HD1]; · iexact HD1
  isplitl [HD2]; · iexact HD2
  iexact HO

end Cert.KernelIdeal.Moe

end
-- ==== Proof.Region.lean ====
/- The one region of the program: what a device brings to it, what it does there, what it takes away. -/
module

public import proofs.«01_k».proof.Proof.Start
public import proofs.«01_k».proof.Proof.Gen.KernelIdeal.Frame
public import Idealize.ShloMosaic.Lib.Pipeline.ValueKit.Geometry

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

variable (m : (ℓ : Idealize.ShloMosaic.Loc nD τ sig) → Buf (Elt F) ℓ) (ρ : Dev nD → PrngReg)

/-! ## The windows are the arrays -/

theorem at_zero {w : Pipeline.Window sig grid0} (t : Fin grid0.N) (h : ∀ a, w.index t a = 0) (j : (w.xblock (grid0.coords t)).Idx) (a : Fin w.shape.rank) :
    ((w.rect t).emb j a).val = (j a).val := Pipeline.Window.rect_emb_val_of_index_zero _ _ _ (h a) j
theorem iblk0_eq (c : Dev nD) (t : Fin cfg0.N) : iblk m c 0 t = V m c main_arg0 := by
  funext j
  show V m c main_arg0 ((win0_0.rect t).emb j) = V m c main_arg0 j
  exact congrArg (V m c main_arg0) (funext fun a => Fin.ext (at_zero (w := win0_0) t (fun _ => rfl) j a))
theorem iblk1_eq (c : Dev nD) (t : Fin cfg0.N) : iblk m c 1 t = V m c main_arg1 := by
  funext j
  show V m c main_arg1 ((win0_1.rect t).emb j) = V m c main_arg1 j
  exact congrArg (V m c main_arg1) (funext fun a => Fin.ext (at_zero (w := win0_1) t (fun _ => rfl) j a))
theorem iblk2_eq (c : Dev nD) (t : Fin cfg0.N) : iblk m c 2 t = V m c main_arg2 := by
  funext j
  show V m c main_arg2 ((win0_2.rect t).emb j) = V m c main_arg2 j
  exact congrArg (V m c main_arg2) (funext fun a => Fin.ext (at_zero (w := win0_2) t (fun _ => rfl) j a))
theorem iblk3_eq (c : Dev nD) (t : Fin cfg0.N) : iblk m c 3 t = V m c main_arg3 := by
  funext j
  show V m c main_arg3 ((win0_3.rect t).emb j) = V m c main_arg3 j
  exact congrArg (V m c main_arg3) (funext fun a => Fin.ext (at_zero (w := win0_3) t (fun _ => rfl) j a))
theorem iblk4_eq (c : Dev nD) (t : Fin cfg0.N) : iblk m c 4 t = V m c main_c := by
  funext j
  show V m c main_c ((win0_4.rect t).emb j) = V m c main_c j
  exact congrArg (V m c main_c) (funext fun a => Fin.ext (at_zero (w := win0_4) t (fun _ => rfl) j a))
theorem iblk5_eq (c : Dev nD) (t : Fin cfg0.N) : iblk m c 5 t = V m c main_c_0 := by
  funext j
  show V m c main_c_0 ((win0_5.rect t).emb j) = V m c main_c_0 j
  exact congrArg (V m c main_c_0) (funext fun a => Fin.ext (at_zero (w := win0_5) t (fun _ => rfl) j a))

/-- A device's inputs, as the region finds them. -/
def ins (c : Dev nD) : Inp F := ⟨V m c main_arg0, V m c main_arg1, V m c main_arg2, V m c main_arg3⟩

theorem V_tp (c : Dev nD) : V m c main_c = (tpT : Vec F S1x16 .i32) := by
  show StableHlo.after hostOps0 _ (Proc.devRef .tc main_c) = _
  rfl
theorem V_tr (c : Dev nD) : V m c main_c_0 = (trT : Vec F S1x16 .i32) := by
  rfl

/-- What the region leaves in each staging buffer. -/
def left (c : Dev nD) (w : Fin 7) : (cfg0.win w).block.Idx → Elt F (cfg0.win w).elt :=
  match w with
  | 0 => V m c main_arg0
  | 1 => V m c main_arg1
  | 2 => V m c main_arg2
  | 3 => V m c main_arg3
  | 4 => V m c main_c
  | 5 => V m c main_c_0
  | 6 => outOf (ins m) c

/-! ## The region's data -/

/-- The buffers of a device before the region. -/
def W₁ (c : Dev nD) : Valuation τ sig (Elt F) := StableHlo.after hostOps0 fun b => m (c, b)
/-- The buffers of a device after it. -/
def W₂ (c : Dev nD) : Valuation τ sig (Elt F) := Function.update (W₁ m c) (Proc.devRef .tc main_v1) (outOf (ins m) c)

/-- What a device brings beside its buffers. -/
def gifts (c : Dev nD) : sProp (MM F) := iprop(Pipeline.scopedRest spec0 c ∗ (∃ r, prngReg c r) ∗ StableHlo.held (c.tc : Thread nD τ) ∅ (W₁ m c) ∗ Xk (msgs (ins m)) c)
/-- What it takes away. -/
def spoils (c : Dev nD) : sProp (MM F) := iprop(Pipeline.scopedRest spec0 c ∗ (∃ r, prngReg c r) ∗ StableHlo.held (c.tc : Thread nD τ) ∅ (W₂ m c) ∗ Pipeline.ownSems0 osem c ∗ semVal (barCell c) 0)

def dat (c : Dev nD) : Pipeline.Dat τ (Elt F) Unit ℕ UU ℕ cfg0 c where
  A w := V m c (Pipeline.arrRef spec0 w)
  after w _ := left m c w
  Φ t := if t.val = 0 then gifts m c else spoils m c
  q _ := fullShare
  owed t := if t.val = 0 then owe0 c else 0

theorem before0 (c : Dev nD) (t : Fin cfg0.N) (d) : (dat m c).before 0 t d = V m c main_arg0 :=
  ((dat m c).before_in_eq_fetched 0 rfl (fun _ => rfl) (fun _ _ _ => rfl) (fun t => (iblk0_eq m c t).symm) t d).trans (iblk0_eq m c t)
theorem before1 (c : Dev nD) (t : Fin cfg0.N) (d) : (dat m c).before 1 t d = V m c main_arg1 :=
  ((dat m c).before_in_eq_fetched 1 rfl (fun _ => rfl) (fun _ _ _ => rfl) (fun t => (iblk1_eq m c t).symm) t d).trans (iblk1_eq m c t)
theorem before2 (c : Dev nD) (t : Fin cfg0.N) (d) : (dat m c).before 2 t d = V m c main_arg2 :=
  ((dat m c).before_in_eq_fetched 2 rfl (fun _ => rfl) (fun _ _ _ => rfl) (fun t => (iblk2_eq m c t).symm) t d).trans (iblk2_eq m c t)
theorem before3 (c : Dev nD) (t : Fin cfg0.N) (d) : (dat m c).before 3 t d = V m c main_arg3 :=
  ((dat m c).before_in_eq_fetched 3 rfl (fun _ => rfl) (fun _ _ _ => rfl) (fun t => (iblk3_eq m c t).symm) t d).trans (iblk3_eq m c t)
theorem before4 (c : Dev nD) (t : Fin cfg0.N) (d) : (dat m c).before 4 t d = V m c main_c :=
  ((dat m c).before_in_eq_fetched 4 rfl (fun _ => rfl) (fun _ _ _ => rfl) (fun t => (iblk4_eq m c t).symm) t d).trans (iblk4_eq m c t)
theorem before5 (c : Dev nD) (t : Fin cfg0.N) (d) : (dat m c).before 5 t d = V m c main_c_0 :=
  ((dat m c).before_in_eq_fetched 5 rfl (fun _ => rfl) (fun _ _ _ => rfl) (fun t => (iblk5_eq m c t).symm) t d).trans (iblk5_eq m c t)

/-! ## The body -/

theorem owes_in (c : Dev nD) (t : Fin (cfg0.N + 1)) {O : CellTallies nD τ sig Unit} (h : (dat m c).owed t = O) : owing c O ⊢ ((dat m c).owesAt () t : sProp (MM F)) := by
  unfold owing Dat.owesAt Pipeline.owesWithin Dat.bound
  rw [h]
  iintro ⟨%W, HO⟩
  iexists W
  isplitr
  · ipureintro; exact fun _ _ => Or.inl trivial
  iexact HO
theorem owes_out (c : Dev nD) (t : Fin (cfg0.N + 1)) {O : CellTallies nD τ sig Unit} (h : (dat m c).owed t = O) : ((dat m c).owesAt () t : sProp (MM F)) ⊢ owing c O := by
  unfold owing Dat.owesAt Pipeline.owesWithin
  rw [h]
  iintro ⟨%W, -, HO⟩
  iexists W; iexact HO

theorem own_sems (c : Dev nD) : (Pipeline.ownSems0 osem c : sProp (MM F)) ⊢ iprop(zeros true c ∗ zeros false c) := by
  unfold Pipeline.ownSems0 zeros
  rw [over_own (fun s => semVal ((c : Thread nD τ), s) 0)]
  iintro ⟨⟨H1, H2⟩, H3, H4⟩
  isplitl [H1 H3]
  · isplitl [H1] <;> iassumption
  isplitl [H2] <;> iassumption
theorem own_sems' (c : Dev nD) : iprop(zeros true c ∗ zeros false c) ⊢ (Pipeline.ownSems0 osem c : sProp (MM F)) := by
  unfold Pipeline.ownSems0 zeros
  rw [over_own (fun s => semVal ((c : Thread nD τ), s) 0)]
  iintro ⟨⟨H1, H3⟩, H2, H4⟩
  isplitl [H1 H2]
  · isplitl [H1] <;> iassumption
  isplitl [H3] <;> iassumption

theorem own_stage (c : Dev nD) (b : Ref sig .tc) (f : b.ty.Contents (Elt F)) : owns (c : Thread nD τ) (Memref.whole b) fullShare f = (pt c b f : sProp (MM F)) := owns_whole _ _ _ _

/-- The seven staging buffers, held. -/
def stages (c : Dev nD) (X : (w : Fin 7) → (cfg0.win w).block.Idx → Elt F (cfg0.win w).elt) : sProp (MM F) :=
  iprop(pt c cc0_stg0_0 (X 0) ∗ pt c cc0_stg1_0 (X 1) ∗ pt c cc0_stg2_0 (X 2) ∗ pt c cc0_stg3_0 (X 3) ∗ pt c cc0_stg4_0 (X 4) ∗ pt c cc0_stg5_0 (X 5) ∗ pt c cc0_stg6_0 (X 6))

theorem held_none (c : Dev nD) (W : Valuation τ sig (Elt F)) : (StableHlo.held (c.tc : Thread nD τ) ∅ W : sProp (MM F)) = BI.emp := by
  unfold StableHlo.held; exact bigSep_empty

theorem phi_first (c : Dev nD) : (dat m c).Φ t0_0.castSucc = gifts m c := by
  show (if (t0_0.castSucc : Fin (cfg0.N + 1)).val = 0 then gifts m c else spoils m c) = _
  exact if_pos rfl
theorem phi_after (c : Dev nD) : (dat m c).Φ t0_0.succ = spoils m c := by
  show (if (t0_0.succ : Fin (cfg0.N + 1)).val = 0 then gifts m c else spoils m c) = _
  exact if_neg (Nat.succ_ne_zero _)
theorem owed_first (c : Dev nD) : (dat m c).owed t0_0.castSucc = owe0 c := by
  show (if (t0_0.castSucc : Fin (cfg0.N + 1)).val = 0 then owe0 c else 0) = _
  exact if_pos rfl
theorem owed_after (c : Dev nD) : (dat m c).owed t0_0.succ = 0 := by
  show (if (t0_0.succ : Fin (cfg0.N + 1)).val = 0 then owe0 c else 0) = _
  exact if_neg (Nat.succ_ne_zero _)

theorem body_all (c : Dev nD) (o : Vec F S128x1024 .f32) :
    iprop(gifts m c ∗ owing c (owe0 c) ∗ pt c cc0_stg0_0 (V m c main_arg0) ∗ pt c cc0_stg1_0 (V m c main_arg1) ∗ pt c cc0_stg2_0 (V m c main_arg2) ∗ pt c cc0_stg3_0 (V m c main_arg3)
        ∗ pt c cc0_stg4_0 (V m c main_c) ∗ pt c cc0_stg5_0 (V m c main_c_0) ∗ pt c cc0_stg6_0 o)
      ⊢ run c theBody (fun _ => iprop(spoils m c ∗ owing c 0 ∗ pt c cc0_stg0_0 (V m c main_arg0) ∗ pt c cc0_stg1_0 (V m c main_arg1) ∗ pt c cc0_stg2_0 (V m c main_arg2) ∗ pt c cc0_stg3_0 (V m c main_arg3)
        ∗ pt c cc0_stg4_0 (V m c main_c) ∗ pt c cc0_stg5_0 (V m c main_c_0) ∗ pt c cc0_stg6_0 (outOf (ins m) c))) := by
  unfold gifts spoils
  rw [scopedRest0_eq, V_tp, V_tr, held_none, held_none]
  iintro ⟨⟨⟨⟨%w, H0⟩, ⟨%xb, H1⟩, ⟨%ew, H2⟩, H3, H4, H5, H6⟩, Hp, Hh, HX⟩, HO, S0, S1, S2, S3, S4, S5, S6⟩
  ihave HR := (whole_run (ins m) c o ⟨xb, w, ew⟩) $$ [H0 H1 H2 H3 H4 H5 H6 HX HO S0 S1 S2 S3 S4 S5 S6]
  · isplitl [H0 H1 H2 S0 S1 S2 S3 S4 S5 S6]
    · unfold memS memOf ins
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [H0]; · iexact H0
      isplitl [H1]; · iexact H1
      iexact H2
    isplitl [HX]; · iexact HX
    isplitr [HO]
    · unfold given
      isplitl [H5]; · iexact H5
      isplitl [H6]; · iexact H6
      isplitl [H3]; · iexact H3
      iexact H4
    iexact HO
  iapply (wp_wand frame (wpE (defs₀ (F := F)) 𝒱₀ (c : Thread nD τ) none) Set.univ) $$ HR
  iintro %a ⟨HM, Hb, HT, HF, HO⟩
  unfold memS memOf ins leaves
  icases HM with ⟨S0, S1, S2, S3, S4, S5, S6, H0, H1, H2⟩
  icases HT with ⟨Z1, H3, H5⟩
  icases HF with ⟨Z2, H4, H6⟩
  isplitr [HO S0 S1 S2 S3 S4 S5 S6]
  · isplitl [H0 H1 H2 H3 H4 H5 H6]
    · isplitl [H0]; · iexists _; iexact H0
      isplitl [H1]; · iexists _; iexact H1
      isplitl [H2]; · iexists _; iexact H2
      isplitl [H3]; · iexact H3
      isplitl [H4]; · iexact H4
      isplitl [H5]; · iexact H5
      iexact H6
    isplitl [Hp]; · iexact Hp
    isplitl [Hh]; · iexact Hh
    isplitl [Z1 Z2]
    · iapply (own_sems' c); isplitl [Z1] <;> iassumption
    iexact Hb
  isplitl [HO]; · iexact HO
  isplitl [S0]; · iexact S0
  isplitl [S1]; · iexact S1
  isplitl [S2]; · iexact S2
  isplitl [S3]; · iexact S3
  isplitl [S4]; · iexact S4
  isplitl [S5]; · iexact S5
  iexact S6

theorem stage_0 (c : Dev nD) (f : (cc0_stg0_0).ty.Contents (Elt F)) : owns (c : Thread nD τ) (stage0_0 0) fullShare f = (pt c cc0_stg0_0 f : sProp (MM F)) := own_stage c _ f
theorem after0 (c : Dev nD) (t : Fin cfg0.N) : (dat m c).after 0 t = V m c main_arg0 := rfl
theorem stage_1 (c : Dev nD) (f : (cc0_stg1_0).ty.Contents (Elt F)) : owns (c : Thread nD τ) (stage0_1 0) fullShare f = (pt c cc0_stg1_0 f : sProp (MM F)) := own_stage c _ f
theorem after1 (c : Dev nD) (t : Fin cfg0.N) : (dat m c).after 1 t = V m c main_arg1 := rfl
theorem stage_2 (c : Dev nD) (f : (cc0_stg2_0).ty.Contents (Elt F)) : owns (c : Thread nD τ) (stage0_2 0) fullShare f = (pt c cc0_stg2_0 f : sProp (MM F)) := own_stage c _ f
theorem after2 (c : Dev nD) (t : Fin cfg0.N) : (dat m c).after 2 t = V m c main_arg2 := rfl
theorem stage_3 (c : Dev nD) (f : (cc0_stg3_0).ty.Contents (Elt F)) : owns (c : Thread nD τ) (stage0_3 0) fullShare f = (pt c cc0_stg3_0 f : sProp (MM F)) := own_stage c _ f
theorem after3 (c : Dev nD) (t : Fin cfg0.N) : (dat m c).after 3 t = V m c main_arg3 := rfl
theorem stage_4 (c : Dev nD) (f : (cc0_stg4_0).ty.Contents (Elt F)) : owns (c : Thread nD τ) (stage0_4 0) fullShare f = (pt c cc0_stg4_0 f : sProp (MM F)) := own_stage c _ f
theorem after4 (c : Dev nD) (t : Fin cfg0.N) : (dat m c).after 4 t = V m c main_c := rfl
theorem stage_5 (c : Dev nD) (f : (cc0_stg5_0).ty.Contents (Elt F)) : owns (c : Thread nD τ) (stage0_5 0) fullShare f = (pt c cc0_stg5_0 f : sProp (MM F)) := own_stage c _ f
theorem after5 (c : Dev nD) (t : Fin cfg0.N) : (dat m c).after 5 t = V m c main_c_0 := rfl
theorem stage_6 (c : Dev nD) (f : (cc0_stg6_0).ty.Contents (Elt F)) : owns (c : Thread nD τ) (stage0_6 0) fullShare f = (pt c cc0_stg6_0 f : sProp (MM F)) := own_stage c _ f
theorem after6 (c : Dev nD) (t : Fin cfg0.N) : (dat m c).after 6 t = outOf (ins m) c := rfl
theorem body_is : defs₀ (F := F) .tc 0 (t0_0, cfg0.slots t0_0) = theBody := rfl

theorem body (c : Dev nD) : BodyObligation (dat m c) defs₀ 𝒱₀ () Set.univ := fun t => by
  rw [fin_N0 t, bigSep_W0, bigSep_W0]
  simp only [before0, before1, before2, before3, before4, before5, after0, after1, after2, after3, after4, after5, after6]
  rw [phi_first, phi_after]
  rw [body_is]
  iintro ⟨HG, HO, ⟨%d0, S0⟩, ⟨%d1, S1⟩, ⟨%d2, S2⟩, ⟨%d3, S3⟩, ⟨%d4, S4⟩, ⟨%d5, S5⟩, ⟨%d6, S6⟩⟩
  ihave HO := (owes_out m c _ (owed_first m c)) $$ HO
  ihave HR := (body_all m c ((dat m c).before 6 t0_0 d6)) $$ [HG HO S0 S1 S2 S3 S4 S5 S6]
  · isplitl [HG]; · iexact HG
    isplitl [HO]; · iexact HO
    isplitl [S0]; · iapply (Entails.of_eq (stage_0 c _)); iexact S0
    isplitl [S1]; · iapply (Entails.of_eq (stage_1 c _)); iexact S1
    isplitl [S2]; · iapply (Entails.of_eq (stage_2 c _)); iexact S2
    isplitl [S3]; · iapply (Entails.of_eq (stage_3 c _)); iexact S3
    isplitl [S4]; · iapply (Entails.of_eq (stage_4 c _)); iexact S4
    isplitl [S5]; · iapply (Entails.of_eq (stage_5 c _)); iexact S5
    iapply (Entails.of_eq (stage_6 c _)); iexact S6
  iapply (wp_wand frame (wpE (defs₀ (F := F)) 𝒱₀ (c : Thread nD τ) none) Set.univ) $$ HR
  iintro %a ⟨HG, HO, S⟩
  isplitl [HG]; · iexact HG
  isplitl [HO]
  · iapply (owes_in m c _ (owed_after m c)); iexact HO
  icases S with ⟨S0, S1, S2, S3, S4, S5, S6⟩
  isplitl [S0]; · iapply (Entails.of_eq (stage_0 c _).symm); iexact S0
  isplitl [S1]; · iapply (Entails.of_eq (stage_1 c _).symm); iexact S1
  isplitl [S2]; · iapply (Entails.of_eq (stage_2 c _).symm); iexact S2
  isplitl [S3]; · iapply (Entails.of_eq (stage_3 c _).symm); iexact S3
  isplitl [S4]; · iapply (Entails.of_eq (stage_4 c _).symm); iexact S4
  isplitl [S5]; · iapply (Entails.of_eq (stage_5 c _).symm); iexact S5
  iapply (Entails.of_eq (stage_6 c _).symm); iexact S6

/-! ## The segment -/

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

/-- What a device brings of the exchange's state, its own cells not opened yet. -/
def Tk (snd : Msgs F) (c : Dev nD) : sProp (MM F) :=
  iprop(∃ K : GSem nD τ sig → ℕ, (bigSep talkCells fun g => cellInv ER (talk snd) (K g) g) ∗ bar0 c ∗ (shut true c ∗ shut false c)
    ∗ (sendToks true c ∗ sendToks false c) ∗ (rcvCreds true c ∗ rcvCreds false c))

theorem opening (snd : Msgs F) (c : Dev nD) : iprop(Tk snd c ∗ Pipeline.ownSems0 osem c ∗ levAts L lv) ⊢ (|={Set.univ}=> Xk snd c : sProp (MM F)) := by
  unfold Tk Xk
  iintro ⟨⟨%K, #HI, HB, ⟨HT, HF⟩, ⟨T1, T2⟩, C1, C2⟩, Hz, #HL⟩
  ihave Hz := (own_sems c) $$ Hz
  icases Hz with ⟨Z1, Z2⟩
  ihave #HC := (show iprop((bigSep talkCells fun g => cellInv ER (talk snd) (K g) g) ∗ levAts L lv) ⊢ ctx snd K from BI.Entails.refl _) $$ []
  · isplitr; · iexact HI
    iexact HL
  imod (open_dir snd K true c) $$ [HT Z1] with O1
  · isplitr; · iexact HC
    isplitl [HT] <;> iassumption
  imod (open_dir snd K false c) $$ [HF Z2] with O2
  · isplitr; · iexact HC
    isplitl [HF] <;> iassumption
  imodintro
  iexists K
  unfold brings
  isplitr; · iexact HC
  isplitl [HB]; · iexact HB
  isplitl [T1 O1 C1]
  · isplitl [T1]; · iexact T1
    isplitl [O1] <;> iassumption
  isplitl [T2]; · iexact T2
  isplitl [O2] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owe_pos {c : Dev nD} {g : GSem nD τ sig} {u : Unit} (h : 0 < owe0 c g u) : u ∈ L g ∧ 0 < lv g u := by
  have hb (d : Bool) (h : 0 < (tallyAt (barCell (nbr d c)) () 1 : CellTallies nD τ sig Unit) g u) : u ∈ L g ∧ 0 < lv g u := by
    rw [tallyAt_apply] at h
    split at h
    · next hg => rw [hg.1]; exact ⟨by rw [L_tc]; exact Finset.mem_singleton_self _, by rw [lv_bar]; decide⟩
    · exact absurd h (Nat.lt_irrefl 0)
  have hr (d : Bool) (h : 0 < oweDir d c 0 g u) : u ∈ L g ∧ 0 < lv g u := by
    obtain ⟨s, -, hs, rfl⟩ := oweDir_pos d c 0 h
    exact ⟨by rw [L_tc]; exact Finset.mem_singleton_self _, by rw [lv_rcv _ hs]; omega⟩
  unfold owe0 at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact hr _ h
      · exact hr _ h
    · exact hb _ h
  · exact hb _ h

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owe0 c else 0 := rfl
  rw [e] at h
  split at h
  · exact owe_pos h
  · exact absurd h (Nat.lt_irrefl 0)

theorem out_done (c : Dev nD) : (dat m c).arrAt 6 cfg0.N = outOf (ins m) c :=
  (dat m c).arrAt_eq_of_after_last 6 t0_0 (by decide +kernel) (outOf (ins m) c) (fun j => rfl)

theorem W₂_out (c : Dev nD) : W₂ m c (Proc.devRef .tc main_v1) = outOf (ins m) c := Function.update_self _ _ _
theorem W₂_ne (c : Dev nD) {b : Ref sig .tc} (h : b ≠ main_v1) : W₂ m c (Proc.devRef .tc b) = V m c b :=
  Function.update_of_ne (StableHlo.devRef_ne_of_ne h) _ _

theorem arr_after (c : Dev nD) : ∀ w : Fin 7, (dat m c).arrAt w cfg0.N = W₂ m c (Proc.devRef .tc (Pipeline.arrRef spec0 w))
  | 0 => ((dat m c).arrAt_in 0 rfl _).trans (W₂_ne m c (b := main_arg0) (by decide)).symm
  | 1 => ((dat m c).arrAt_in 1 rfl _).trans (W₂_ne m c (b := main_arg1) (by decide)).symm
  | 2 => ((dat m c).arrAt_in 2 rfl _).trans (W₂_ne m c (b := main_arg2) (by decide)).symm
  | 3 => ((dat m c).arrAt_in 3 rfl _).trans (W₂_ne m c (b := main_arg3) (by decide)).symm
  | 4 => ((dat m c).arrAt_in 4 rfl _).trans (W₂_ne m c (b := main_c) (by decide)).symm
  | 5 => ((dat m c).arrAt_in 5 rfl _).trans (W₂_ne m c (b := main_c_0) (by decide)).symm
  | 6 => (out_done m c).trans (W₂_out m c).symm

theorem stage_low : ∀ (w : Fin 7) (k : Fin (spec0 w).nbuf), (if SemLoc.dma ((spec0 w).sem k) = .reg barS then 1 else match rcvOf (SemLoc.dma ((spec0 w).sem k)) with | some (_, s) => s + 2 | none => 0) ≤ 0 := by
  decide

set_option backward.isDefEq.respectTransparency.types false in
/-- The region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ ∅ (Finset.Subset.refl _) kit rfl (fun c => (body m c).loose)
    (fun _ => 0) owe0 (fun c => (owed_first m c).trans (zero_add _).symm) (owed_after m) (fun _ => rfl) (fun c w => by unfold Dat.share; split <;> rfl)
    (W₁ m) (W₂ m) (fun _ b hb => absurd hb (by rw [Finset.sdiff_self]; exact Finset.notMem_empty b))
    (Tk (msgs (ins m))) (fun c => semVal (barCell c) 0) (Xk (msgs (ins m))) (fun c => semVal (barCell c) 0) (opening (msgs (ins m))) (fun c => Entails.of_eq (phi_first m c).symm)
    (fun c => Entails.of_eq (phi_after m c))
    (fun c => by iintro H; imodintro; iexact H)
    (fun _ => 0)
    ⟨fun _ w s => by rw [L_tc]; exact Finset.mem_singleton_self _, fun _ w s => stage_low w s, fun c t g i h => cut m c t g i h⟩
    (fun _ => iprop(emp))
    (fun c w => rfl) (arr_after m)

end Cert.KernelIdeal.Moe

end
-- ==== Proof.Run.lean ====
/- The run of the whole program, from any memory. -/
module

public import proofs.«01_k».proof.Proof.Region

@[expose] public section

noncomputable section

namespace Cert.KernelIdeal.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Idealize.ShloMosaic.Loc nD τ sig) → Buf (Elt F) ℓ) (ρ : Dev nD → PrngReg)

/-! ## The host's part -/

/-- The buffers that outlive the region. -/
def bufs : Finset (DevRef τ sig) := (StableHlo.tcRefs τ sig).filter fun b => ¬ b.isScoped

theorem bufs_arr : Pipeline.arrRefs (τ := τ) (pcfgs (F := F) 0).spec = bufs := by
  show Pipeline.arrRefs (τ := τ) spec0 = bufs
  decide

theorem bufs_held (c : Dev nD) (W : Valuation τ sig (Elt F)) :
    (unscopedBufs c (fun b => W b) : sProp (MM F)) = StableHlo.held (c : Thread nD τ) bufs W := by
  unfold unscopedBufs StableHlo.held bufs StableHlo.tcRefs
  rw [Finset.filter_map, BI.bigSep_map]
  rfl

theorem held_all (c : Dev nD) (W : Valuation τ sig (Elt F)) : (StableHlo.held (c : Thread nD τ) bufs W : sProp (MM F))
    = iprop(pt c main_arg0 (W main_arg0) ∗ pt c main_arg1 (W main_arg1) ∗ pt c main_arg2 (W main_arg2) ∗ pt c main_arg3 (W main_arg3)
        ∗ pt c main_c (W main_c) ∗ pt c main_c_0 (W main_c_0) ∗ pt c main_v1 (W main_v1)) := by
  unfold StableHlo.held
  rw [bigSep_eq_bigSepL_of_eq [Proc.devRef .tc main_arg0, Proc.devRef .tc main_arg1, Proc.devRef .tc main_arg2, Proc.devRef .tc main_arg3,
    Proc.devRef .tc main_c, Proc.devRef .tc main_c_0, Proc.devRef .tc main_v1] (by decide) (by decide)]
  rfl

theorem bar_sem (c : Dev nD) : (unscopedSems0 c : sProp (MM F)) = semVal (barCell c) 0 := by
  unfold unscopedSems0
  rw [show (Finset.univ.filter fun sm : SemLoc sig => ¬ sm.isScoped .tc) = {SemLoc.reg barS} from by decide, BI.bigSep_singleton]

/-- What rides beside the buffers up to the region. -/
def rest (c : Dev nD) : sProp (MM F) := iprop(Tk (msgs (ins m)) c ∗ (∃ r, prngReg c r) ∗ owing c (owe0 c))

theorem host_sub : ∀ op ∈ (hostOps0 : List (HloOp τ sig (Elt F))), op.bufs ⊆ bufs := fun op h => by
  simp only [hostOps0, List.mem_cons, List.not_mem_nil, or_false] at h
  rcases h with rfl | rfl
  · show ({Proc.devRef .tc main_c} : Finset (DevRef τ sig)) ⊆ bufs; decide
  · show ({Proc.devRef .tc main_c_0} : Finset (DevRef τ sig)) ⊆ bufs; decide
theorem host_fresh : ∀ op ∈ (hostOps0 : List (HloOp τ sig (Elt F))), op.fresh = ∅ := List.forall_iff_forall_mem.mp hostOps0_fresh

/-- The two tables, written. -/
def seg0 : Pipeline.HostSeg (Name := ℕ) (U := UU) (pcfgs (F := F)) defs₀ 𝒱₀ L lv :=
  Pipeline.HostSeg.ofOps _ _ _ _ _ bufs hostOps0 host_sub host_fresh (fun c b => m (c, b)) (rest m)

theorem reg_pre (c : Dev nD) : (seg0 m).post c ⊢ (reg0 m).pre c := by
  show iprop(StableHlo.held (c : Thread nD τ) bufs (W₁ m c) ∗ rest m c) ⊢ iprop(StableHlo.held (c.tc : Thread nD τ) (Pipeline.arrRefs (τ := τ) (pcfgs (F := F) 0).spec) (W₁ m c) ∗ (∃ r, prngReg c r)
    ∗ (StableHlo.held (c.tc : Thread nD τ) ∅ (W₁ m c) ∗ emp) ∗ Tk (msgs (ins m)) c ∗ ∃ Wd, owes (c : Thread nD τ) (0 + owe0 c) Wd)
  rw [bufs_arr, held_none, zero_add]
  unfold rest owing
  iintro ⟨Hh, HT, Hp, HO⟩
  isplitl [Hh]; · iexact Hh
  isplitl [Hp]; · iexact Hp
  isplitr
  · isplitr <;> iempintro
  isplitl [HT]; · iexact HT
  iexact HO

theorem reg_post (c : Dev nD) : (reg0 m).post c
    ⊢ iprop((StableHlo.held (c : Thread nD τ) bufs (W₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (W₂ m c) ∗ (∃ r, prngReg c r)
    ∗ (StableHlo.held (c.tc : Thread nD τ) ∅ (W₂ m c) ∗ emp) ∗ semVal (barCell c) 0 ∗ ∃ Wd, owes (c : Thread nD τ) (0 : CellTallies nD τ sig Unit) Wd) ⊢ _
  rw [bufs_arr]
  iintro ⟨Hh, -, -, Hb, HO⟩
  isplitr [HO]
  · isplitl [Hh] <;> iassumption
  iexact HO

/-- The program as its two parts. -/
def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

/-! ## The launch -/

/-- A resource kept by one device. -/
def onDev (c₀ : Dev nD) (X : sProp (MM F)) (c : Dev nD) : sProp (MM F) := if c = c₀ then X else iprop(emp)
theorem over_onDev (c₀ : Dev nD) (X : sProp (MM F)) : bigSep Finset.univ (onDev c₀ X) = X := by
  rw [bigSep_univ_at _ c₀, bigSep_congr (s := Finset.univ.erase c₀) (Ψ := fun _ => (BI.emp : sProp (MM F)))
      fun c hc => by unfold onDev; rw [if_neg (Finset.ne_of_mem_erase hc)]; rfl, BI.bigSep_emp_const]
  unfold onDev; rw [if_pos rfl]
  exact BI.equiv_iff.mp sep_emp

def u₀ : UU :=
  (initOf (Pipeline.cells (Pipeline.pin (pcfgs (F := F)) adm) cellOf_inj) (Pipeline.launchToks (Pipeline.pin (pcfgs (F := F)) adm) cellOf_inj),
    launchOf barCells ownCells talkToks)
def G : Dev nD → sProp (MM F) := onDev 0 (BI.own (ER (launchOf barCells ownCells talkToks)))

/-- What every device may consult. -/
def records (snd : Msgs F) (κ : GSem nD τ sig → ℕ) : sProp (MM F) :=
  iprop((bigSep talkCells fun g => cellInv ER (talk snd) (κ g) g) ∗ bigSep Finset.univ fun c : Dev nD => reached ER (barCell c) 0)
instance records_persistent (snd : Msgs F) (κ : GSem nD τ sig → ℕ) : BI.Persistent (records snd κ) := by unfold records; infer_instance

/-- What is one device's alone. -/
def mine (c : Dev nD) : sProp (MM F) :=
  iprop(atPos ER (barCell c) 0 ∅ 0 ∗ (shut true c ∗ shut false c)
    ∗ ((dutyTok ER (barCell (nbr false c)) 0 true ∗ dutyTok ER (barCell (nbr true c)) 0 false) ∗ (rcvToks true (nbr true c) ∗ rcvToks false (nbr false c)) ∗ (sndToks true c ∗ sndToks false c)))

/-- The credit a device starts with. -/
def credits (c : Dev nD) : sProp (MM F) := iprop(cred (tallyAt (barCell c) () 2) ∗ rcvCreds true c ∗ rcvCreds false c)

theorem told (d : Dev nD) : (bigSep Finset.univ fun c : Dev nD => (reached ER (barCell c) 0 : sProp (MM F))) ⊢ reached ER (barCell d) 0 := bigSep_elim (Finset.mem_univ d)

theorem tk_intro (snd : Msgs F) (κ : GSem nD τ sig → ℕ) (c : Dev nD) : iprop(records snd κ ∗ mine c ∗ credits c) ⊢ Tk snd c := by
  unfold records mine credits Tk bar0
  iintro ⟨⟨#HI, #HR⟩, ⟨Ha, Hs, ⟨D1, D2⟩, ⟨R1, R2⟩, S1, S2⟩, Cb, C1, C2⟩
  iexists κ
  isplitr; · iexact HI
  isplitl [D1 D2 Ha Cb]
  · isplitl [D1]; · iexact D1
    isplitl [D2]; · iexact D2
    isplitr; · iapply (told (F := F) (nbr false c)); iexact HR
    isplitr; · iapply (told (F := F) (nbr true c)); iexact HR
    isplitl [Ha] <;> iassumption
  isplitl [Hs]; · iexact Hs
  isplitl [R1 R2 S1 S2]
  · isplitl [R1 S1]
    · iapply (sendToks_join true c); isplitl [R1] <;> iassumption
    · iapply (sendToks_join false c); isplitl [R2] <;> iassumption
  isplitl [C1] <;> iassumption

abbrev T₀ (c : Dev nD) : sProp (MM F) := iprop(StableHlo.held (c : Thread nD τ) bufs (fun b => m (c, b)) ∗ rest m c)
abbrev Tₙ (c : Dev nD) : sProp (MM F) := iprop(StableHlo.held (c : Thread nD τ) bufs (W₂ m c) ∗ semVal (barCell c) 0)

/-- The rest of what a core is launched with. -/
def bundle (c : Dev nD) : sProp (MM F) :=
  iprop(StableHlo.held (c : Thread nD τ) bufs (fun b => m (c, b)) ∗ credits c ∗ owes (c : Thread nD τ) (owe0 c) ∅ ∗ ∃ r, prngReg c r)

theorem T₀_intro (κ : GSem nD τ sig → ℕ) (c : Dev nD) : iprop(records (msgs (ins m)) κ ∗ (mine c ∗ bundle m c)) ⊢ T₀ m c := by
  unfold bundle T₀ rest owing
  iintro ⟨#HR, Hl, Hh, HC, HO, Hp⟩
  isplitl [Hh]; · iexact Hh
  isplitl [Hl HC]
  · iapply (tk_intro (msgs (ins m)) κ c)
    isplitr; · iexact HR
    isplitl [Hl] <;> iassumption
  isplitl [Hp]; · iexact Hp
  iexists ∅; iexact HO

theorem swap4 (A B C D : sProp (MM F)) : iprop((A ∗ B) ∗ C ∗ D) = iprop((A ∗ C) ∗ B ∗ D) := by
  refine BI.Entails.antisymm ?_ ?_
  · show iprop((A ∗ B) ∗ C ∗ D) ⊢ iprop((A ∗ C) ∗ B ∗ D)
    iintro ⟨⟨H1, H2⟩, H3, H4⟩
    isplitl [H1 H3]
    · isplitl [H1] <;> iassumption
    isplitl [H2] <;> iassumption
  · show iprop((A ∗ C) ∗ B ∗ D) ⊢ iprop((A ∗ B) ∗ C ∗ D)
    iintro ⟨⟨H1, H3⟩, H2, H4⟩
    isplitl [H1 H2]
    · isplitl [H1] <;> iassumption
    isplitl [H3] <;> iassumption

theorem shut_all : bigSep ownCells (fun g => (openTok ER g : sProp (MM F))) = bigSep Finset.univ fun c : Dev nD => iprop(shut true c ∗ shut false c) := by
  rw [bigSep_map, bigSep_univ_prod]
  exact bigSep_congr fun c _ => (over_own (F := F) (fun s => openTok ER ((c : Thread nD τ), s))).trans (swap4 _ _ _ _)

theorem core_init (c : Dev nD) : iprop(unscopedBufs c (fun b => m ((c : Thread nD τ).loc b)) ∗ unscopedSems0 c
        ∗ owes (c : Thread nD τ) (owe0 c) ∅ ∗ Pipeline.launchCred owe0 c ∗ prngReg c (ρ c) ∗ G c)
      ⊢ (iprop(bundle m c ∗ (semVal (barCell c) 0 ∗ G c)) : sProp (MM F)) := by
  rw [show unscopedBufs c (fun b => m ((c : Thread nD τ).loc b)) = StableHlo.held (c : Thread nD τ) bufs (fun b => m (c, b)) from bufs_held c (fun b => m (c, b)), bar_sem]
  unfold bundle credits
  iintro ⟨Hh, Hus, HO, Hcr, Hp, HG⟩
  isplitr [Hus HG]
  · isplitl [Hh]; · iexact Hh
    isplitl [Hcr]; · iapply (creds (F := F) c); iexact Hcr
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c)) ∗ levAts L lv)
      ⊢ (|={Set.univ}=> bigSep Finset.univ (T₀ m) : sProp (MM F)) := by
  have hv : bigSep Finset.univ (fun c : Dev nD => (semVal (barCell c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (barCell c) 0 ∅ 0 : sProp (MM F))) :=
    Entails.of_eq (bigSep_map (s := Finset.univ) barEmb (Φ := fun g : GSem nD τ sig => (atPos ER g 0 ∅ 0 : sProp (MM F))))
  have hre : bigSep barCells (fun g => (reached ER g 0 : sProp (MM F))) ⊢ bigSep Finset.univ (fun c : Dev nD => (reached ER (barCell c) 0 : sProp (MM F))) :=
    Entails.of_eq (bigSep_map (s := Finset.univ) barEmb (Φ := fun g : GSem nD τ sig => (reached ER g 0 : sProp (MM F))))
  iintro ⟨H, -⟩
  ihave H' := (show (bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c))
      ⊢ (bigSep Finset.univ fun c : Dev nD => iprop(bundle m c ∗ (semVal (barCell c) 0 ∗ G c)) : sProp (MM F)) from bigSep_mono fun c _ => core_init m ρ c) $$ H
  ihave H2 := Idealize.ShloMosaic.Smoke.bigSep_unpair $$ H'; icases H2 with ⟨HB, H3⟩
  ihave H4 := Idealize.ShloMosaic.Smoke.bigSep_unpair $$ H3; icases H4 with ⟨Hv, HG⟩
  ihave Hu := (show bigSep Finset.univ (G (F := F)) ⊢ BI.own (ER (launchOf barCells ownCells talkToks)) from
    Entails.of_eq (over_onDev (F := F) 0 (BI.own (ER (launchOf barCells ownCells talkToks))))) $$ HG
  imod (Rounds.fund_launch ER (talk (msgs (ins m))) cells_apart (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (msgs (ins m)) κ) (Φ := fun c => iprop(mine c ∗ bundle m c)) fun c _ => T₀_intro m κ c)
  isplitr
  · unfold records
    isplitr
    · iapply (Entails.of_eq (congrArg (fun S : Finset (GSem nD τ sig) => (bigSep S fun g => (cellInv ER (talk (msgs (ins m))) (κ g) g : sProp (MM F)))) cells_all)); iexact Hinv
    iapply hre; iexact Hr
  iapply Idealize.ShloMosaic.Smoke.bigSep_pair
  isplitr [HB]
  · unfold mine
    iapply Idealize.ShloMosaic.Smoke.bigSep_pair; isplitl [Hat]; · iapply hat $$ Hat
    iapply Idealize.ShloMosaic.Smoke.bigSep_pair; isplitl [Hopen]; · iapply (Entails.of_eq (shut_all (F := F))) $$ Hopen
    iapply (toks_around (F := F))
    iapply (Entails.of_eq (toks_eq (F := F))) $$ Htok
  · iexact HB

/-! ## The run -/

theorem unscoped_eq : ∀ sm : SemLoc sig, sm.isScoped .tc = false → sm = .reg barS := by decide

set_option backward.isDefEq.respectTransparency.types false in
/-- Every run ends, with the arguments as they were, the result as the exchange makes it, every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v1) = outOf (ins m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owe0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [over_onDev]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = W₂ m c main_arg0 ∧ s.mem ((c : Thread nD τ).loc main_arg1) = W₂ m c main_arg1
      ∧ s.mem ((c : Thread nD τ).loc main_arg2) = W₂ m c main_arg2 ∧ s.mem ((c : Thread nD τ).loc main_arg3) = W₂ m c main_arg3
      ∧ s.mem ((c : Thread nD τ).loc main_v1) = W₂ m c main_v1) ∧ s.sem (barCell c) = 0)
    (hfin := fun c s' => by
      dsimp only [Tₙ]; rw [held_all]
      iintro ⟨⟨⟨H0, H1, H2, H3, -, -, H6⟩, Hb0⟩, HSI⟩
      icombine HSI H0 gives %h0
      icombine HSI H1 gives %h1
      icombine HSI H2 gives %h2
      icombine HSI H3 gives %h3
      icombine HSI H6 gives %h6
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h6⟩, by simpa using hb⟩
      iexact HSI)
    (hQ := fun s h hs => ⟨fun c => by
        obtain ⟨⟨h0, h1, h2, h3, h6⟩, -⟩ := h c
        rw [W₂_ne m c (by decide)] at h0 h1 h2 h3
        exact ⟨h0.trans (V_main_arg0 m c), h1.trans (V_main_arg1 m c), h2.trans (V_main_arg2 m c), h3.trans (V_main_arg3 m c), h6.trans (W₂_out m c)⟩,
      sem_eq_zero hs fun c sm hsm => by
        obtain rfl := unscoped_eq sm hsm
        exact (h c).2⟩)

end Cert.KernelIdeal.Moe

end
-- ==== Proof.Frames.lean ====
/- What the run leaves of the arguments, at both readings of the program: they are unchanged and every
   counter is back at zero. -/
module

public import proofs.«01_k».proof.Proof.Run
public import proofs.«01_k».proof.Defs
public import proofs.«01_k».proof.Proof.Gen.Kernel
public import proofs.«01_k».proof.Proof.Gen.ReferenceIdeal.Run

@[expose] public section

noncomputable section

namespace Cert.KernelIdeal.Moe

open Idealize.ShloMosaic Idealize.ShloMosaic.TcCoe Cert.KernelIdeal Cert.KernelIdeal.Gen
open Idealize.SL.Sem

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (run_main (F := Ideal) m ρ)

/-! The program as printed and as read over the reals is the same text, so the one run serves both. -/

theorem same_body : Cert.Kernel.cc0_body (F := Bits) = Cert.KernelIdeal.cc0_body (F := Bits) := rfl

theorem same_table : Cert.Kernel.defs₀ (F := Bits) = Cert.KernelIdeal.defs₀ (F := Bits) := by
  unfold Cert.Kernel.defs₀ Cert.KernelIdeal.defs₀
  refine congrArg Defs.onTc ?_
  funext l a
  obtain ⟨l, hl⟩ := l
  match l, hl, a with
  | 0, _, (t, s) => exact rfl

theorem same_defs : Cert.Kernel.defs (F := Bits) = Cert.KernelIdeal.defs (F := Bits) :=
  congrArg (Pipeline.defs (Cert.KernelIdeal.pcfgs (F := Bits))) same_table

theorem frame_kernel : Cert.quiescent_Kernel := fun m ρ _ => by
  rw [same_defs]
  exact (θ_run Cert.KernelIdeal.defs _ _).mono
    (fun _ h => ⟨fun c => ⟨(h.1 c).1, (h.1 c).2.1, (h.1 c).2.2.1, (h.1 c).2.2.2.1⟩, h.2⟩)
    (run_main (F := Bits) m ρ)

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.KernelIdeal.Moe

end
-- ==== Proof.Products.lean ====
/- The products of a device, read over the reals as sums. -/
module

public import proofs.«01_k».proof.Proof.Contents
public import Idealize.ShloMosaic.PureOps.Ideal
public import Idealize.ShloMosaic.Lib.ValueIdx
public import Idealize.ShloMosaic.Lib.MatmulPlain

@[expose] public section

noncomputable section

namespace Cert.KernelIdeal.Moe

open Idealize.ShloMosaic Idealize.ShloMosaic.TcCoe Cert.KernelIdeal Cert.KernelIdeal.Gen
open Idealize.ShloMosaic.ValueIdx
open scoped BigOperators

/-! ## Chunks at an index -/

theorem xch_apply {F : FTy → Type} [FloatOps F] (f : Vec F S2048x512 .bf16) (q : Dev nD) (t : Fin 128) (d : Fin 512) :
    xch f q (ix2 t d) = f (ix2 (⟨128 * q.val + t.val, by have : q.val < 16 := q.isLt; omega⟩ : Fin 2048) d) := by
  show f _ = f _
  congr 1
  funext a
  fin_cases a <;> exact Fin.ext (by simp)

theorem wch_apply {F : FTy → Type} [FloatOps F] (f : Vec F S2048x8 .bf16) (q : Dev nD) (t : Fin 128) (e : Fin 8) :
    wch f q (ix2 t e) = f (ix2 (⟨128 * q.val + t.val, by have : q.val < 16 := q.isLt; omega⟩ : Fin 2048) e) := by
  show f _ = f _
  congr 1
  funext a
  fin_cases a <;> exact Fin.ext (by simp)

theorem unsq_apply {F : FTy → Type} [FloatOps F] (X : Vec F S128x1024 .bf16) : shapeCast S128x1024 (unsq X) shapeCasts_S1x128x1024_S128x1024 = X := by
  unfold unsq
  exact shapeCast_shapeCast _ _ _

/-! ## Eight weighted copies side by side -/

section Wide

variable {n : ℕ}

/-- Eight copies of the rows `X`, the `j`-th scaled by column `j` of `W`, side by side. -/
def wide (X : FVec Ideal ⟨2, ![n, 512]⟩ .bf16) (W : FVec Ideal ⟨2, ![n, 8]⟩ .bf16) : FVec Ideal ⟨2, ![n, 4096]⟩ .bf16 := fun i =>
  X (ix2 (i 0 : Fin n) (⟨(i 1).val % 512, by omega⟩ : Fin 512)) * W (ix2 (i 0 : Fin n) (⟨(i 1).val / 512, by have : (i 1).val < 4096 := (i 1).isLt; omega⟩ : Fin 8))

/-- A column repeated along the rows. -/
theorem col_apply {α : Type} {m : ℕ} (x : (⟨2, ![n, 1]⟩ : Shape).Idx → α) (hb : (⟨2, ![n, 1]⟩ : Shape).Broadcasts ⟨2, ![n, m]⟩) (t : Fin n) (d : Fin m) :
    broadcastTo ⟨2, ![n, m]⟩ x hb (ix2 t d) = x (ix2 t (0 : Fin 1)) :=
  broadcastTo_apply _ hb (ix2 t d) (ix2 t (0 : Fin 1)) (fun a => by
    fin_cases a
    · show t.val = if n = 1 then 0 else t.val
      have := t.isLt
      split <;> omega
    · rfl)

theorem scaled_apply (X : FVec Ideal ⟨2, ![n, 512]⟩ .bf16) (W : FVec Ideal ⟨2, ![n, 8]⟩ .bf16) (j : Fin 8)
    (hs : (⟨2, ![n, 8]⟩ : Shape).Slices ![0, j.val] ⟨2, ![n, 1]⟩) (hb : (⟨2, ![n, 1]⟩ : Shape).Broadcasts ⟨2, ![n, 512]⟩) (t : Fin n) (d : Fin 512) :
    mulf X (broadcastTo ⟨2, ![n, 512]⟩ (extractStridedSlice ⟨2, ![n, 1]⟩ ![0, j.val] W hs) hb) (ix2 t d) = X (ix2 t d) * W (ix2 t j) := by
  rw [mulf_apply, col_apply,
    extractStridedSlice_apply _ W hs (ix2 t (0 : Fin 1)) (ix2 t j) (fun a => by fin_cases a <;> simp)]

theorem wide_eq (X : FVec Ideal ⟨2, ![n, 512]⟩ .bf16) (W : FVec Ideal ⟨2, ![n, 8]⟩ .bf16)
    (hs : ∀ j : Fin 8, (⟨2, ![n, 8]⟩ : Shape).Slices ![0, j.val] ⟨2, ![n, 1]⟩) (hb : (⟨2, ![n, 1]⟩ : Shape).Broadcasts ⟨2, ![n, 512]⟩)
    (h) : concatenate ⟨2, ![n, 4096]⟩ 1 (List.ofFn fun j : Fin 8 => (⟨⟨2, ![n, 512]⟩, mulf X (broadcastTo ⟨2, ![n, 512]⟩ (extractStridedSlice ⟨2, ![n, 1]⟩ ![0, j.val] W (hs j)) hb)⟩ : (s : Shape) × (s.Idx → EReal))) h = wide X W := by
  funext i
  have hi : (i 1).val < 4096 := (i 1).isLt
  rw [concatenate_ofFn_apply 1 (fun j : Fin 8 => mulf X (broadcastTo ⟨2, ![n, 512]⟩ (extractStridedSlice ⟨2, ![n, 1]⟩ ![0, j.val] W (hs j)) hb)) h rfl 512 rfl i
    (⟨(i 1).val / 512, by omega⟩ : Fin 8) rfl (ix2 (i 0 : Fin n) (⟨(i 1).val % 512, by omega⟩ : Fin 512)) rfl
    (fun b hb => by fin_cases b; exacts [rfl, absurd rfl hb])]
  exact scaled_apply X W _ _ _ _ _

end Wide

/-! ## The products -/

/-- Expert by expert and feature by feature, row `t` of `X` against column `h` of the experts' matrices. -/
def prod {n : ℕ} (X : FVec Ideal ⟨2, ![n, 512]⟩ .bf16) (W : FVec Ideal ⟨2, ![n, 8]⟩ .bf16) (E : Vec Ideal S4096x1024 .bf16) (t : Fin n) (h : Fin 1024) : EReal :=
  ∑ k : Fin 4096, wide X W (ix2 t k) * E (ix2 k h)

theorem pay92_apply (X : Vec Ideal S128x512 .bf16) (W : Vec Ideal S128x8 .bf16) (E : Vec Ideal S4096x1024 .bf16) (t : Fin 128) (h : Fin 1024) :
    k0_pay92 (F := Ideal) X W E (ix2 t h) = prod X W E t h := by
  refine (Ideal.matmul_plain_apply none _ E _ t h).trans ?_
  rw [constant_apply, Ideal.ofBits_zero_f32, zero_add]
  unfold prod
  refine Finset.sum_congr rfl fun k _ => congrArg (· * E (ix2 k h)) (congrFun ?_ (ix2 t k))
  exact wide_eq X W (by decide) broadcasts_S128x1_S128x512 concatenates_S128x512_S128x512_S128x512_S128x512_S128x512_S128x512_S128x512_S128x512_S128x4096_d1

theorem pay38_apply (X X' : Vec Ideal S128x512 .bf16) (W W' : Vec Ideal S128x8 .bf16) (E : Vec Ideal S4096x1024 .bf16) (t : Fin 256) (h : Fin 1024) :
    k0_pay38 (F := Ideal) X X' W W' E (ix2 t h)
      = prod (n := 256) (concatenate S256x512 0 [⟨S128x512, X⟩, ⟨S128x512, X'⟩] concatenates_S128x512_S128x512_S256x512_d0) (concatenate S256x8 0 [⟨S128x8, W⟩, ⟨S128x8, W'⟩] concatenates_S128x8_S128x8_S256x8_d0) E t h := by
  refine (Ideal.matmul_plain_apply none _ E _ t h).trans ?_
  rw [constant_apply, Ideal.ofBits_zero_f32, zero_add]
  unfold prod
  refine Finset.sum_congr rfl fun k _ => congrArg (· * E (ix2 k h)) (congrFun ?_ (ix2 t k))
  exact wide_eq _ _ (by decide) broadcasts_S256x1_S256x512 concatenates_S256x512_S256x512_S256x512_S256x512_S256x512_S256x512_S256x512_S256x512_S256x4096_d1

theorem stack_top {m : ℕ} (A B : FVec Ideal ⟨2, ![128, m]⟩ .bf16) (h) (t : Fin 128) (d : Fin m) :
    concatenate ⟨2, ![256, m]⟩ 0 [⟨⟨2, ![128, m]⟩, A⟩, ⟨⟨2, ![128, m]⟩, B⟩] h (ix2 (⟨t.val, by omega⟩ : Fin 256) d) = A (ix2 t d) :=
  concatenate_apply_piece 0 _ h _ 0 (by simp) _ A rfl rfl 0 rfl (ix2 t d) (fun b hb => by fin_cases b; exacts [absurd rfl hb, rfl]) (Nat.zero_add _)

theorem stack_bot {m : ℕ} (A B : FVec Ideal ⟨2, ![128, m]⟩ .bf16) (h) (t : Fin 128) (d : Fin m) :
    concatenate ⟨2, ![256, m]⟩ 0 [⟨⟨2, ![128, m]⟩, A⟩, ⟨⟨2, ![128, m]⟩, B⟩] h (ix2 (⟨128 + t.val, by omega⟩ : Fin 256) d) = B (ix2 t d) :=
  concatenate_apply_piece 0 _ h _ 1 (by simp) _ B rfl rfl 128 (by simp) (ix2 t d) (fun b hb => by fin_cases b; exacts [absurd rfl hb, rfl]) rfl

theorem prod_congr {n n' : ℕ} (X : FVec Ideal ⟨2, ![n, 512]⟩ .bf16) (W : FVec Ideal ⟨2, ![n, 8]⟩ .bf16) (X' : FVec Ideal ⟨2, ![n', 512]⟩ .bf16) (W' : FVec Ideal ⟨2, ![n', 8]⟩ .bf16)
    (E : Vec Ideal S4096x1024 .bf16) (t : Fin n) (t' : Fin n') (h : Fin 1024) (hX : ∀ d, X (ix2 t d) = X' (ix2 t' d)) (hW : ∀ e, W (ix2 t e) = W' (ix2 t' e)) :
    prod X W E t h = prod X' W' E t' h :=
  Finset.sum_congr rfl fun k _ => congrArg (· * E (ix2 k h)) (congrArg₂ (· * ·) (hX _) (hW _))

/-- What a device holds of chunk `q`'s result. -/
def share (l : Loc Ideal) (q : Dev nD) (t : Fin 128) (h : Fin 1024) : EReal := prod (n := 128) (xch l.xb q) (wch l.w q) l.ew t h

theorem topP_apply (l : Loc Ideal) (q q' : Dev nD) (t : Fin 128) (h : Fin 1024) : topP l q q' (ix2 t h) = share l q t h := by
  unfold topP k0_pay39
  refine (extractStridedSlice_apply _ _ slices_S256x1024_o0_0_S128x1024 (ix2 t h) (ix2 (⟨t.val, by omega⟩ : Fin 256) h) (fun a => by fin_cases a <;> simp)).trans ?_
  rw [pay38_apply]
  exact prod_congr _ _ _ _ _ _ _ _ (stack_top _ _ _ t) (stack_top _ _ _ t)

theorem botP_apply (l : Loc Ideal) (q q' : Dev nD) (t : Fin 128) (h : Fin 1024) : botP l q q' (ix2 t h) = share l q' t h := by
  unfold botP k0_pay40
  refine (extractStridedSlice_apply _ _ slices_S256x1024_o128_0_S128x1024 (ix2 t h) (ix2 (⟨128 + t.val, by omega⟩ : Fin 256) h) (fun a => by fin_cases a <;> simp)).trans ?_
  rw [pay38_apply]
  exact prod_congr _ _ _ _ _ _ _ _ (stack_bot _ _ _ t) (stack_bot _ _ _ t)

theorem soloP_apply (l : Loc Ideal) (q : Dev nD) (t : Fin 128) (h : Fin 1024) : soloP l q (ix2 t h) = share l q t h :=
  pay92_apply _ _ _ t h

theorem packP_apply (p : FVec Ideal S128x1024 .f32) (i) : packP p i = p i := by
  unfold packP
  rw [shapeCast_self]
  rfl

theorem bumpP_apply (p : FVec Ideal S128x1024 .f32) (m : Vec Ideal S128x1024 .bf16) (i) : bumpP p m i = m i + p i := by
  unfold bumpP k0_pay41
  rw [shapeCast_self, unsq_apply]
  rfl

theorem last_apply (X : Vec Ideal S128x512 .bf16) (W : Vec Ideal S128x8 .bf16) (E : Vec Ideal S4096x1024 .bf16) (a b : Vec Ideal S128x1024 .bf16) (t : Fin 128) (h : Fin 1024) :
    k0_pay1 (F := Ideal) (k0_pay94 (F := Ideal) X W E (unsq a)) (unsq b) (ix2 t h) = (prod (n := 128) X W E t h + a (ix2 t h)) + b (ix2 t h) := by
  rw [← pay92_apply]
  have e : k0_pay94 (F := Ideal) X W E (unsq a) = addf (k0_pay92 (F := Ideal) X W E) (extf .f32 (shapeCast S128x1024 (unsq a) shapeCasts_S1x128x1024_S128x1024) bitsLt_bf16_f32) := rfl
  rw [e]
  unfold k0_pay1
  rw [unsq_apply a, unsq_apply b]
  rfl

end Cert.KernelIdeal.Moe

end
-- ==== Proof.RingSum.lean ====
/- What a device ends with: the shares of its chunk from every device of the ring. -/
module

public import proofs.«01_k».proof.Proof.Products

@[expose] public section

noncomputable section

namespace Cert.KernelIdeal.Moe

open Idealize.ShloMosaic Idealize.ShloMosaic.TcCoe Cert.KernelIdeal Cert.KernelIdeal.Gen
open Idealize.ShloMosaic.ValueIdx
open scoped BigOperators

theorem perm_add (k j : ℕ) : perm (k % 16 + j) = perm (k + j) := by
  rw [← perm_mod (k % 16 + j), ← perm_mod (k + j), Nat.mod_add_mod]

theorem perm_of_mod {j k : ℕ} (h : j % 16 = k % 16) : perm j = perm k := by rw [← perm_mod j, ← perm_mod k, h]

theorem rank_perm_lt : ∀ k : Fin 16, rank (perm k.val) = k.val := by decide

theorem rank_perm (k : ℕ) : rank (perm k) = k % 16 := by
  rw [← perm_mod k]
  exact rank_perm_lt ⟨k % 16, Nat.mod_lt _ (by decide)⟩

theorem nbr_perm (d : Bool) (k : ℕ) : nbr d (perm k) = perm (k + (if d then 1 else 15)) := by
  unfold nbr
  rw [rank_perm, perm_add]

variable (I : Dev nD → Inp Ideal) (t : Fin 128) (h : Fin 1024)

theorem msgR_apply (s k : ℕ) (hs : s ≤ 7) :
    msgR I s (perm k) (ix2 t h) = ∑ j ∈ Finset.range (s + 1), share (loc I (perm (k + 15 * j))) (perm (k + (7 - s))) t h := by
  induction s generalizing k with
  | zero =>
    show packP _ _ = _
    rw [packP_apply, topP_apply, rank_perm, perm_add]
    simp
  | succ s ih =>
    show bumpP _ _ _ = _
    rw [bumpP_apply, topP_apply, rank_perm, perm_add, nbr_perm, ih _ (by omega), Finset.sum_range_succ' _ (s + 1)]
    have e : perm (k + (7 - (s + 1))) = perm (k + (6 - s)) := congrArg perm (by omega)
    rw [e]
    refine congrArg₂ (· + ·) (Finset.sum_congr rfl fun j _ => ?_) (by simp)
    have e1 : perm (k + (if false then 1 else 15) + 15 * j) = perm (k + 15 * (j + 1)) := congrArg perm (by simp; omega)
    have e2 : perm (k + (if false then 1 else 15) + (7 - s)) = perm (k + (6 - s)) := perm_of_mod (by simp; omega)
    exact congrArg₂ (fun a b => share (loc I a) b t h) e1 e2

theorem msgL_apply (s k : ℕ) (hs : s ≤ 7) :
    msgL I s (perm k) (ix2 t h) = ∑ j ∈ Finset.range (s + 1), share (loc I (perm (k + j))) (perm (k + (8 + s))) t h := by
  induction s generalizing k with
  | zero =>
    show packP _ _ = _
    rw [packP_apply, botP_apply, rank_perm, perm_add]
    simp
  | succ s ih =>
    show bumpP _ _ _ = _
    have e0 : (if s < 6 then botP (loc I (perm k)) (perm (rank (perm k) + (6 - s))) (perm (rank (perm k) + (9 + s))) else soloP (loc I (perm k)) (perm (rank (perm k) + 15))) (ix2 t h)
        = share (loc I (perm k)) (perm (k + (9 + s))) t h := by
      by_cases h6 : s < 6
      · rw [if_pos h6, botP_apply, rank_perm, perm_add]
      · rw [if_neg h6, soloP_apply, rank_perm, perm_add]
        have : s = 6 := by omega
        subst this
        rfl
    rw [bumpP_apply, e0, nbr_perm, ih _ (by omega), Finset.sum_range_succ' _ (s + 1)]
    have e : perm (k + (8 + (s + 1))) = perm (k + (9 + s)) := congrArg perm (by omega)
    rw [e]
    refine congrArg₂ (· + ·) (Finset.sum_congr rfl fun j _ => ?_) (by simp)
    have e1 : perm (k + (if true then 1 else 15) + j) = perm (k + (j + 1)) := congrArg perm (by simp; omega)
    have e2 : perm (k + (if true then 1 else 15) + (8 + s)) = perm (k + (9 + s)) := congrArg perm (by simp; omega)
    exact congrArg₂ (fun a b => share (loc I a) b t h) e1 e2

theorem ring_bij (c : Dev nD) : Function.Bijective (fun k : Fin 16 => (perm (rank c + k.val) : Fin 16)) := by
  refine Finite.injective_iff_bijective.mp fun j k e => ?_
  have e' := congrArg rank e
  simp only [rank_perm] at e'
  have := j.isLt
  have := k.isLt
  exact Fin.ext (by omega)

/-- The devices taken in ring order from `c` on. -/
theorem sum_ring (f : Dev nD → EReal) (c : Dev nD) : ∑ c' : Dev nD, f c' = ∑ k ∈ Finset.range 16, f (perm (rank c + k)) := by
  rw [Finset.sum_range]
  exact ((ring_bij c).sum_comp f).symm

theorem outOf_apply (c : Dev nD) : outOf I c (ix2 t h) = ∑ c' : Dev nD, share (loc I c') c t h := by
  unfold outOf
  rw [last_apply]
  have hR : msgs I true 6 (nbr (!true) c) (ix2 t h) = ∑ j ∈ Finset.range 7, share (loc I (perm (rank c + (15 - j)))) c t h := by
    show msgR I 6 (perm (rank c + 15)) (ix2 t h) = _
    rw [msgR_apply I t h 6 _ (by omega)]
    refine Finset.sum_congr rfl fun j hj => ?_
    have hj' := Finset.mem_range.mp hj
    have e1 : perm (rank c + 15 + 15 * j) = perm (rank c + (15 - j)) := perm_of_mod (by omega)
    have e2 : perm (rank c + 15 + (7 - 6)) = c := (perm_of_mod (by omega)).trans (perm_rank c)
    exact congrArg₂ (fun a b => share (loc I a) b t h) e1 e2
  have hL : msgs I false 7 (nbr (!false) c) (ix2 t h) = ∑ j ∈ Finset.range 8, share (loc I (perm (rank c + (1 + j)))) c t h := by
    show msgL I 7 (perm (rank c + 1)) (ix2 t h) = _
    rw [msgL_apply I t h 7 _ (by omega)]
    refine Finset.sum_congr rfl fun j hj => ?_
    have e1 : perm (rank c + 1 + j) = perm (rank c + (1 + j)) := congrArg perm (by omega)
    have e2 : perm (rank c + 1 + (8 + 7)) = c := (perm_of_mod (by omega)).trans (perm_rank c)
    exact congrArg₂ (fun a b => share (loc I a) b t h) e1 e2
  have h0 : prod (n := 128) (xch (loc I c).xb c) (wch (loc I c).w c) (loc I c).ew t h = share (loc I (perm (rank c + 0))) c t h := by
    rw [Nat.add_zero, perm_rank]; rfl
  rw [hR, hL, h0, sum_ring _ c]
  have key : ∀ g : ℕ → EReal, (g 0 + ∑ j ∈ Finset.range 7, g (15 - j)) + ∑ j ∈ Finset.range 8, g (1 + j) = ∑ k ∈ Finset.range 16, g k := by
    intro g
    simp only [Finset.sum_range_succ, Finset.sum_range_zero]
    norm_num only
    abel
  exact key (fun k => share (loc I (perm (rank c + k))) c t h)

end Cert.KernelIdeal.Moe

end
-- ==== Proof.Weights.lean ====
/- The weights a device gives its experts, read over the reals. -/
module

public import proofs.«01_k».proof.Proof.RingSum
public import Idealize.ShloMosaic.Lib.WordCmp
public import Idealize.ShloMosaic.Lib.ValueLayoutCasts
public import Idealize.ShloMosaic.Lib.IdealHost

@[expose] public section

noncomputable section

namespace Cert.KernelIdeal.Moe

open Idealize.ShloMosaic Idealize.ShloMosaic.TcCoe Cert.KernelIdeal Cert.KernelIdeal.Gen
open Idealize.ShloMosaic.ValueIdx
open scoped BigOperators

/-- Token `t`'s score for expert `g`. -/
def score (x : FVec Ideal S2048x512 .bf16) (r : FVec Ideal S512x128 .bf16) (t : Fin 2048) (g : Fin 128) : EReal :=
  ∑ d : Fin 512, x (ix2 t d) * r (ix2 d g)

theorem pay5_apply (x : Vec Ideal S2048x512 .bf16) (r : Vec Ideal S512x128 .bf16) (t : Fin 2048) (g : Fin 128) :
    k0_pay5 (F := Ideal) x r (ix2 t g) = score x r t g := by
  unfold k0_pay5
  rw [shapeCast_self, shapeCast_self]
  refine (Ideal.matmul_plain_apply none _ _ _ t g).trans ?_
  rw [constant_apply, Ideal.ofBits_zero_f32, zero_add]
  rfl

theorem lift_row {n m : ℕ} (h : (⟨2, ![n, m]⟩ : Shape).Reduces [1] (⟨1, ![n]⟩ : Shape)) (t : Fin n)
    (k : Fin ((⟨2, ![n, m]⟩ : Shape).size 1)) : h.lift (ix1 t) k = ix2 t (⟨k.val, k.isLt⟩ : Fin m) := by
  funext c; apply Fin.ext
  fin_cases c <;> rfl

/-- The score of the chosen expert, summed out of its row. -/
theorem pick_apply (S : FVec Ideal S2048x128 .f32) (E : IVec S2048x1 32) (t : Fin 2048) (g : Fin 128) (hE : E (ix2 t (0 : Fin 1)) = BitVec.ofNat 32 g.val) :
    shapeCast S2048x1 (multiReduction .add [1] S2048 (select (cmpi .eq (iota .tc S2048x128 32 [1] iota_S2048x128_d1_w32) (broadcastTo S2048x128 E broadcasts_S2048x1_S2048x128)) S (broadcast S2048x128 (Scalar.ofBits (F := Ideal) .f32 0x00000000#32)))
      0x00000000#32 reduces_S2048x128_S2048 (.inl rfl) rfl) shapeCasts_S2048_S2048x1 (ix2 t (0 : Fin 1)) = S (ix2 t g) := by
  rw [shapeCast_a_a1_apply]
  refine (Ideal.multiReduction_add_single _ _ _ _ _ _).trans ?_
  have e : ∀ k : Fin 128, select (cmpi .eq (iota .tc S2048x128 32 [1] iota_S2048x128_d1_w32) (broadcastTo S2048x128 E broadcasts_S2048x1_S2048x128)) S (broadcast S2048x128 (Scalar.ofBits (F := Ideal) .f32 0x00000000#32)) (ix2 t k)
      = if k = g then S (ix2 t k) else 0 := by
    intro k
    show Scalar.select (IntOp.cmpi .eq (BitVec.ofNat 32 (0 * 128 + k.val)) (broadcastTo S2048x128 E broadcasts_S2048x1_S2048x128 (ix2 t k))) (S (ix2 t k)) (Ideal.ofBits .f32 0x00000000#32) = _
    have hb : broadcastTo S2048x128 E broadcasts_S2048x1_S2048x128 (ix2 t k) = BitVec.ofNat 32 g.val := (col_apply E _ t k).trans hE
    rw [hb, WordCmp.cmpi_eq_ofNat (by omega) (by omega), WordCmp.select_ofBool, Ideal.ofBits_zero_f32]
    by_cases hk : k = g
    · subst hk; simp
    · have : ¬ (0 * 128 + k.val = g.val) := fun h => hk (Fin.ext (by omega))
      simp [hk, this]
      intro h
      exact absurd (Fin.ext h) hk
  refine (Finset.sum_congr rfl fun k _ => (congrArg _ (lift_row reduces_S2048x128_S2048 t k)).trans (e k)).trans ?_
  exact (Finset.sum_ite_eq' Finset.univ g _).trans (if_pos (Finset.mem_univ _))

/-- A weight handed to the expert it is meant for. -/
theorem spread_apply (c : Dev nD) (v : BitVec 32) (hv : v = BitVec.ofNat 32 c.val) (E : IVec S2048x1 32) (P : FVec Ideal S2048x1 .f32) (t : Fin 2048) (e : Fin 8) (g : Fin 128) (hE : E (ix2 t (0 : Fin 1)) = BitVec.ofNat 32 g.val) :
    select (cmpi .eq (broadcastTo S2048x8 E broadcasts_S2048x1_S2048x8) (addi (broadcast S2048x8 (Scalar.muli v 8#32)) (iota .tc S2048x8 32 [1] iota_S2048x8_d1_w32)))
      (broadcastTo S2048x8 (shapeCast S2048x1 P shapeCasts_S2048x1_S2048x1) broadcasts_S2048x1_S2048x8) (broadcast S2048x8 (Scalar.ofBits (F := Ideal) .f32 0x00000000#32)) (ix2 t e)
      = if g.val = c.val * 8 + e.val then P (ix2 t (0 : Fin 1)) else 0 := by
  have hc : c.val < 16 := c.isLt
  show Scalar.select (IntOp.cmpi .eq (broadcastTo S2048x8 E broadcasts_S2048x1_S2048x8 (ix2 t e)) (IntOp.addi (IntOp.muli v 8#32) (BitVec.ofNat 32 (0 * 8 + e.val))))
    (broadcastTo S2048x8 (shapeCast S2048x1 P shapeCasts_S2048x1_S2048x1) broadcasts_S2048x1_S2048x8 (ix2 t e)) (Ideal.ofBits .f32 0x00000000#32) = _
  have hb : broadcastTo S2048x8 E broadcasts_S2048x1_S2048x8 (ix2 t e) = BitVec.ofNat 32 g.val := (col_apply E _ t e).trans hE
  have hp : broadcastTo S2048x8 (shapeCast S2048x1 P shapeCasts_S2048x1_S2048x1) broadcasts_S2048x1_S2048x8 (ix2 t e) = P (ix2 t (0 : Fin 1)) := by
    rw [shapeCast_self]; exact col_apply P _ t e
  have h8 : (8#32 : BitVec 32) = BitVec.ofNat 32 8 := rfl
  rw [hb, hp, hv, h8, WordCmp.muli_ofNat, WordCmp.addi_ofNat, WordCmp.cmpi_eq_ofNat (by omega) (by omega), WordCmp.select_ofBool, Ideal.ofBits_zero_f32]
  simp

/-- The first weight of a token whose chosen experts score `s` and `s'`. -/
def first (s s' : EReal) : EReal := Ideal.logistic (s - s')

theorem word_id : ∀ c : Dev nD, Scalar.remsi (Scalar.divsi (Dev.word c) 1#32) 16#32 = BitVec.ofNat 32 c.val := by decide

theorem icol_apply {F : FTy → Type} [FloatOps F] (f : Vec F S2048x2 .i32) (j : Fin 2) (h) (t : Fin 2048) : icol f j.val h (ix2 t (0 : Fin 1)) = f (ix2 t j) := by
  show f _ = f _
  congr 1
  funext a
  fin_cases a <;> exact Fin.ext (by simp)

theorem wA_apply (c : Dev nD) (i : Inp Ideal) (t : Fin 2048) (e : Fin 8) (g g' : Fin 128)
    (hg : i.ix (ix2 t (0 : Fin 2)) = BitVec.ofNat 32 g.val) (hg' : i.ix (ix2 t (1 : Fin 2)) = BitVec.ofNat 32 g'.val) :
    wA c i (ix2 t e) = (if g.val = c.val * 8 + e.val then first (score i.x i.rw t g) (score i.x i.rw t g') else 0)
      + (if g'.val = c.val * 8 + e.val then 1 - first (score i.x i.rw t g) (score i.x i.rw t g') else 0) := by
  have h0 : k0_pay6 (F := Ideal) (icol i.ix 0 inb_S2048x2_S2048x1_0_0) (ix2 t (0 : Fin 1)) = BitVec.ofNat 32 g.val := by
    unfold k0_pay6; rw [shapeCast_self]; exact (icol_apply i.ix 0 _ t).trans hg
  have h1 : k0_pay7 (F := Ideal) (icol i.ix 1 inb_S2048x2_S2048x1_0_1) (ix2 t (0 : Fin 1)) = BitVec.ofNat 32 g'.val := by
    unfold k0_pay7; rw [shapeCast_self]; exact (icol_apply i.ix 1 _ t).trans hg'
  unfold wA
  generalize k0_pay7 (F := Ideal) (icol i.ix 1 inb_S2048x2_S2048x1_0_1) = E1 at h1 ⊢
  unfold k0_pay8
  generalize k0_pay6 (F := Ideal) (icol i.ix 0 inb_S2048x2_S2048x1_0_0) = E0 at h0 ⊢
  unfold k0_pay10
  rw [shapeCast_self]
  refine congrArg₂ (· + ·) (spread_apply c _ (word_id c) E0 _ t e g h0) (spread_apply c _ (word_id c) E1 _ t e g' h1) |>.trans ?_
  have p0 := pick_apply (k0_pay5 (F := Ideal) i.x i.rw) E0 t g h0
  have p1 := pick_apply (k0_pay5 (F := Ideal) i.x i.rw) E1 t g' h1
  rw [pay5_apply] at p0 p1
  have hf : logistic (subf (shapeCast S2048x1 (multiReduction .add [1] S2048 (select (cmpi .eq (iota .tc S2048x128 32 [1] iota_S2048x128_d1_w32) (broadcastTo S2048x128 E0 broadcasts_S2048x1_S2048x128)) (k0_pay5 (F := Ideal) i.x i.rw) (k0_pay9 (F := Ideal)))
      0x00000000#32 reduces_S2048x128_S2048 (.inl rfl) rfl) shapeCasts_S2048_S2048x1) (shapeCast S2048x1 (multiReduction .add [1] S2048 (select (cmpi .eq (iota .tc S2048x128 32 [1] iota_S2048x128_d1_w32) (broadcastTo S2048x128 E1 broadcasts_S2048x1_S2048x128)) (k0_pay5 (F := Ideal) i.x i.rw) (broadcast S2048x128 (Scalar.ofBits (F := Ideal) .f32 0x00000000#32)))
      0x00000000#32 reduces_S2048x128_S2048 (.inl rfl) rfl) shapeCasts_S2048_S2048x1)) (ix2 t (0 : Fin 1)) = first (score i.x i.rw t g) (score i.x i.rw t g') :=
    congrArg₂ (fun a b : EReal => Ideal.logistic (a - b)) p0 p1
  refine congrArg₂ (fun a b : EReal => (if g.val = c.val * 8 + e.val then a else 0) + (if g'.val = c.val * 8 + e.val then b else 0)) hf ?_
  exact congrArg₂ (fun a b : EReal => a - b) Ideal.ofBits_one_f32 hf

end Cert.KernelIdeal.Moe

end
-- ==== Proof.Experts.lean ====
/- The ring's sum, read as a sum over the experts: the two products of a token, each under its weight. -/
module

public import proofs.«01_k».proof.Proof.Weights

@[expose] public section

noncomputable section

namespace Cert.KernelIdeal.Moe

open Idealize.ShloMosaic Idealize.ShloMosaic.TcCoe Cert.KernelIdeal Cert.KernelIdeal.Gen
open Idealize.ShloMosaic.ValueIdx
open scoped BigOperators

/-- A sum over `m * n` places, by rows. -/
theorem sum_rows (m n : ℕ) (f : Fin (m * n) → EReal) :
    ∑ k, f k = ∑ e : Fin m, ∑ d : Fin n, f (finProdFinEquiv (e, d)) := by
  rw [← (finProdFinEquiv (m := m) (n := n)).sum_comp, Fintype.sum_prod_type]

/-- A weight that is neither negative nor infinite goes under a sum. -/
theorem mul_sum_nn {ι : Type} (s : Finset ι) (w : EReal) (h0 : 0 ≤ w) (ht : w ≠ ⊤) (f : ι → EReal) :
    w * ∑ i ∈ s, f i = ∑ i ∈ s, w * f i := by
  classical
  induction s using Finset.induction_on with
  | empty => simp
  | insert a s ha ih => rw [Finset.sum_insert ha, Finset.sum_insert ha, EReal.left_distrib_of_nonneg_of_ne_top h0 ht, ih]

/-- Token `t`'s row of expert `e`'s product, at column `h`. -/
def inner {n : ℕ} (x : FVec Ideal S2048x512 .bf16) (E : FVec Ideal ⟨3, ![n, 512, 1024]⟩ .bf16) (t : Fin 2048) (e : Fin n) (h : Fin 1024) : EReal :=
  ∑ d : Fin 512, x (ix2 t d) * E (ix3 e d h)

/-- The row of the tokens that is row `t` of chunk `q`. -/
def row (q : Dev nD) (t : Fin 128) : Fin 2048 := ⟨128 * q.val + t.val, by have : q.val < 16 := q.isLt; omega⟩

theorem share_loc (I : Dev nD → Inp Ideal) (c q : Dev nD) (t : Fin 128) (h : Fin 1024)
    (hw : ∀ e : Fin 8, 0 ≤ wA c (I c) (ix2 (row q t) e) ∧ wA c (I c) (ix2 (row q t) e) ≠ (⊤ : EReal)) :
    share (loc I c) q t h = ∑ e : Fin 8, wA c (I c) (ix2 (row q t) e) * inner (I c).x (I c).ex (row q t) e h := by
  unfold share prod
  refine (sum_rows 8 512 _).trans (Finset.sum_congr rfl fun e _ => ?_)
  unfold inner
  rw [mul_sum_nn _ _ (hw e).1 (hw e).2]
  refine Finset.sum_congr rfl fun d _ => ?_
  have hk : ((finProdFinEquiv (e, d) : Fin (8 * 512)) : ℕ) = d.val + 512 * e.val := rfl
  have h1 : ((finProdFinEquiv (e, d) : Fin (8 * 512)) : ℕ) % 512 = d.val := by omega
  have h2 : ((finProdFinEquiv (e, d) : Fin (8 * 512)) : ℕ) / 512 = e.val := by omega
  have hx : (loc I c).xb = (I c).x := by
    show k0_pay11 (F := Ideal) (I c).x = _
    unfold k0_pay11; exact (shapeCast_self _ _).trans (shapeCast_self _ _)
  have hX : xch (loc I c).xb q (ix2 t (⟨((finProdFinEquiv (e, d) : Fin (8 * 512)) : ℕ) % 512, by omega⟩ : Fin 512)) = (I c).x (ix2 (row q t) d) := by
    rw [hx, xch_apply]
    exact congrArg (fun d' : Fin 512 => (I c).x (ix2 (row q t) d')) (Fin.ext h1)
  have hW : wch (loc I c).w q (ix2 t (⟨((finProdFinEquiv (e, d) : Fin (8 * 512)) : ℕ) / 512, by omega⟩ : Fin 8)) = wA c (I c) (ix2 (row q t) e) := by
    rw [wch_apply]
    exact congrArg (fun e' : Fin 8 => wA c (I c) (ix2 (row q t) e')) (Fin.ext h2)
  have hE : (loc I c).ew (ix2 (finProdFinEquiv (e, d) : Fin 4096) h) = (I c).ex (ix3 e d h) := by
    refine congrArg (I c).ex ?_
    funext a
    fin_cases a
    · exact Fin.ext h2
    · exact Fin.ext h1
    · rfl
  refine (congrArg₂ (fun a b : EReal => a * b) (congrArg₂ (fun a b : EReal => a * b) hX hW) hE).trans ?_
  show ((I c).x (ix2 (row q t) d) * wA c (I c) (ix2 (row q t) e) : EReal) * _ = _
  rw [mul_comm ((I c).x (ix2 (row q t) d) : EReal), mul_assoc]

/-- Of a sum over the experts, two remain. -/
theorem sum_two (a b : EReal) (ha : 0 ≤ a) (hb : 0 ≤ b) (g g' : Fin 128) (Y : Fin 128 → EReal) :
    ∑ k : Fin 128, ((if g = k then a else 0) + (if g' = k then b else 0)) * Y k = a * Y g + b * Y g' := by
  have e : ∀ k : Fin 128, ((if g = k then a else 0) + (if g' = k then b else 0)) * Y k
      = (if g = k then a * Y k else 0) + (if g' = k then b * Y k else 0) := by
    intro k
    rw [EReal.right_distrib_of_nonneg (by split <;> simp [ha]) (by split <;> simp [hb])]
    congr 1 <;> split <;> simp
  rw [Finset.sum_congr rfl fun k _ => e k, Finset.sum_add_distrib, Finset.sum_ite_eq, Finset.sum_ite_eq]
  simp

/-- The weight of an expert is a weight of a token, so it is not negative and not infinite. -/
theorem two_bounds (p p' : Prop) [Decidable p] [Decidable p'] (a : ℝ) (h0 : 0 ≤ a) (h1 : a ≤ 1) :
    0 ≤ ((if p then ((a : ℝ) : EReal) else 0) + (if p' then 1 - ((a : ℝ) : EReal) else 0)) ∧ ((if p then ((a : ℝ) : EReal) else 0) + (if p' then 1 - ((a : ℝ) : EReal) else 0)) ≠ ⊤ := by
  have e : (1 : EReal) - ((a : ℝ) : EReal) = ((1 - a : ℝ) : EReal) := by
    rw [EReal.coe_sub, EReal.coe_one]
  have e' : ((if p then ((a : ℝ) : EReal) else 0) + (if p' then 1 - ((a : ℝ) : EReal) else 0)) = (((if p then a else 0) + (if p' then 1 - a else 0) : ℝ) : EReal) := by
    rw [e, EReal.coe_add]
    congr 1 <;> split <;> simp
  rw [e']
  refine ⟨EReal.coe_nonneg.mpr (add_nonneg ?_ ?_), EReal.coe_ne_top _⟩ <;> split <;> linarith

/-- A device's result: each token's two products, under its two weights. -/
theorem out_two (I : Dev nD → Inp Ideal) (x : FVec Ideal S2048x512 .bf16) (r : FVec Ideal S512x128 .bf16) (ix : IVec S2048x2 32) (E : FVec Ideal ⟨3, ![128, 512, 1024]⟩ .bf16)
    (hx : ∀ c, (I c).x = x) (hr : ∀ c, (I c).rw = r) (hi : ∀ c, (I c).ix = ix)
    (hE : ∀ (c : Dev nD) (e : Fin 8) (d : Fin 512) (h : Fin 1024), (I c).ex (ix3 e d h) = E (ix3 (finProdFinEquiv (c, e) : Fin (16 * 8)) d h))
    (q : Dev nD) (t : Fin 128) (h : Fin 1024) (g g' : Fin 128)
    (hg : ix (ix2 (row q t) (0 : Fin 2)) = BitVec.ofNat 32 g.val) (hg' : ix (ix2 (row q t) (1 : Fin 2)) = BitVec.ofNat 32 g'.val)
    (a : ℝ) (h0 : 0 ≤ a) (h1 : a ≤ 1) (ha : first (score x r (row q t) g) (score x r (row q t) g') = ((a : ℝ) : EReal)) :
    outOf I q (ix2 t h) = ((a : ℝ) : EReal) * inner x E (row q t) g h + ((1 - a : ℝ) : EReal) * inner x E (row q t) g' h := by
  have hw : ∀ (c : Dev nD) (e : Fin 8), wA c (I c) (ix2 (row q t) e)
      = ((if g.val = c.val * 8 + e.val then ((a : ℝ) : EReal) else 0) + (if g'.val = c.val * 8 + e.val then 1 - ((a : ℝ) : EReal) else 0) : EReal) := by
    intro c e
    have w := wA_apply c (I c) (row q t) e g g' ((congrFun (hi c) _).trans hg) ((congrFun (hi c) _).trans hg')
    rw [hx c, hr c, ha] at w
    exact w
  rw [outOf_apply]
  have hs : ∀ c : Dev nD, share (loc I c) q t h = ∑ e : Fin 8, ((if g = (finProdFinEquiv (c, e) : Fin (16 * 8)) then ((a : ℝ) : EReal) else 0) + (if g' = (finProdFinEquiv (c, e) : Fin (16 * 8)) then ((1 - a : ℝ) : EReal) else 0)) * inner x E (row q t) (finProdFinEquiv (c, e) : Fin (16 * 8)) h := by
    intro c
    rw [share_loc I c q t h (fun e => by rw [hw c e]; exact two_bounds _ _ a h0 h1)]
    refine Finset.sum_congr rfl fun e _ => ?_
    have hin : inner (I c).x (I c).ex (row q t) e h = inner x E (row q t) (finProdFinEquiv (c, e) : Fin (16 * 8)) h := by
      unfold inner
      refine Finset.sum_congr rfl fun d _ => ?_
      rw [hx c, hE c e d h]
    have hk : ((finProdFinEquiv (c, e) : Fin (16 * 8)) : ℕ) = e.val + 8 * c.val := rfl
    have hp : ∀ j : Fin 128, (j.val = c.val * 8 + e.val) = (j = (finProdFinEquiv (c, e) : Fin (16 * 8))) := fun j =>
      propext ⟨fun hj => Fin.ext (by omega), fun hj => by rw [hj]; omega⟩
    rw [hin, hw c e]
    congr 1
    simp only [hp]
    rw [EReal.coe_sub, EReal.coe_one]
  rw [Finset.sum_congr rfl fun c _ => hs c]
  have hr := sum_rows 16 8 (fun k : Fin (16 * 8) => ((if g = k then ((a : ℝ) : EReal) else 0) + (if g' = k then ((1 - a : ℝ) : EReal) else 0)) * inner x E (row q t) k h)
  refine hr.symm.trans ?_
  exact sum_two _ _ (EReal.coe_nonneg.mpr h0) (EReal.coe_nonneg.mpr (by linarith)) g g' (fun k => inner x E (row q t) k h)

end Cert.KernelIdeal.Moe

end
-- ==== Proof.RefParts.lean ====
/- The reference's result, cut into its parts, and each part read at an index over the reals. -/
module

public import proofs.«01_k».proof.Proof.Experts
public import proofs.«01_k».proof.Proof.Gen.ReferenceIdeal.Run
public import Idealize.ShloMosaic.Lib.StackMember
public import Idealize.ShloMosaic.Lib.KernelVsHost

@[expose] public section

noncomputable section

namespace Cert.ReferenceIdeal.Moe

open Idealize.ShloMosaic Idealize.ShloMosaic.TcCoe Cert.ReferenceIdeal Cert.ReferenceIdeal.Gen
open Idealize.ShloMosaic.ValueIdx
open scoped BigOperators

/-! ## The parts -/

/-- The scores. -/
def scores (x : FVec Ideal S2048x512 .bf16) (r : FVec Ideal S512x128 .bf16) : FVec Ideal S2048x128 .f32 :=
  Host.dotGeneral dot_S2048x512_S512x128_S2048x128_1_0_0_1_n_n none (extf .f32 x bitsLt_bf16_f32) (extf .f32 r bitsLt_bf16_f32)

/-- A number for each row, along the row. -/
def along (v : FVec Ideal S2048 .f32) : FVec Ideal S2048x128 .f32 :=
  broadcastInDim S2048x128 ![0, 1] bcast_S2048x1_S2048x128_0_1 (broadcastInDim S2048x1 ![0] bcast_S2048_S2048x1_0 v)

/-- Each row's largest. -/
def largest (S : FVec Ideal S2048x128 .f32) : FVec Ideal S2048 .f32 :=
  Host.reduce FloatOps.maximumf S (constant S_ .f32 0xFF800000#32) reducesTo_S2048x128_S2048_d1 h_S_

/-- Each row's exponentials. -/
def exps (S : FVec Ideal S2048x128 .f32) : FVec Ideal S2048x128 .f32 := Host.exp (subf S (along (largest S)))

/-- Each row's softmax. -/
def probs (S : FVec Ideal S2048x128 .f32) : FVec Ideal S2048x128 .f32 :=
  Host.divf (exps S) (along (Host.reduceAdd (exps S) (constant S_ .f32 0x00000000#32) reducesTo_S2048x128_S2048_d1 h_S_))

/-- A number for each row as a column. -/
def upright (v : IVec S2048 32) : IVec S2048x1 32 := broadcastInDim S2048x1 ![0] bcast_S2048_S2048x1_0 v

/-- Each row's softmax at its expert. -/
def gate (P : FVec Ideal S2048x128 .f32) (v : IVec S2048 32) : FVec Ideal S2048x1 .f32 :=
  Host.gather gather_S2048x128_S2048x1x1_S2048x1_n_1_0_0_1_2_11 P (shapeCast _ (select (cmpi .slt (upright v) (broadcastInDim S2048x1 ![] bcast_S_S2048x1 (constantI S_ 32 0#32)))
    (addi (upright v) (broadcastInDim S2048x1 ![] bcast_S_S2048x1 (constantI S_ 32 128#32))) (upright v)) shapeCasts_S2048x1_S2048x1x1)

/-- Each row's expert. -/
def mats (E : FVec Ideal S128x512x1024 .bf16) (v : IVec S2048 32) : FVec Ideal S2048x512x1024 .f32 :=
  Host.gather gather_S128x512x1024_S2048x1_S2048x512x1024_12_0_n_n_0_1_15121024 (extf .f32 E bitsLt_bf16_f32) (upright (select (cmpi .slt v (broadcastInDim S2048 ![] bcast_S_S2048 (constantI S_ 32 0#32)))
    (addi v (broadcastInDim S2048 ![] bcast_S_S2048 (constantI S_ 32 128#32))) v))

/-- Each row through its expert. -/
def through (x : FVec Ideal S2048x512 .bf16) (M : FVec Ideal S2048x512x1024 .f32) : FVec Ideal S2048x1024 .f32 :=
  Host.dotGeneral dot_S2048x512_S2048x512x1024_S2048x1024_1_1_n_2_0_0 none (extf .f32 x bitsLt_bf16_f32) M

/-- The first and the second expert of every row. -/
def pick0 (ix : IVec S2048x2 32) : IVec S2048 32 := shapeCast _ (extractStridedSlice S2048x1 ![0, 0] ix slices_S2048x2_S2048x1_0_0) shapeCasts_S2048x1_S2048
def pick1 (ix : IVec S2048x2 32) : IVec S2048 32 := shapeCast _ (extractStridedSlice S2048x1 ![0, 1] ix slices_S2048x2_S2048x1_0_1) shapeCasts_S2048x1_S2048

/-- One of the two terms: the product under its share of the two gates. -/
def term (a b : FVec Ideal S2048x1 .f32) (y : FVec Ideal S2048x1024 .f32) : FVec Ideal S2048x1024 .f32 :=
  mulf (broadcastInDim S2048x1024 ![0, 1] bcast_S2048x1_S2048x1024_0_1 (Host.divf a b)) y

/-- The whole result. -/
def whole (x : FVec Ideal S2048x512 .bf16) (r : FVec Ideal S512x128 .bf16) (ix : IVec S2048x2 32) (E : FVec Ideal S128x512x1024 .bf16) : FVec Ideal S2048x1024 .f32 :=
  addf (term (gate (probs (scores x r)) (pick0 ix)) (addf (gate (probs (scores x r)) (pick0 ix)) (gate (probs (scores x r)) (pick1 ix))) (through x (mats E (pick0 ix))))
    (term (gate (probs (scores x r)) (pick1 ix)) (addf (gate (probs (scores x r)) (pick0 ix)) (gate (probs (scores x r)) (pick1 ix))) (through x (mats E (pick1 ix))))

theorem res_eq (m : (ℓ : Loc nD τ sig) → Buf (Elt Ideal) ℓ) (c : Dev nD) : Value.res_main_v44 m c
    = whole (m ((c.tc : Thread nD τ).loc main_arg0)) (m ((c.tc : Thread nD τ).loc main_arg1)) (m ((c.tc : Thread nD τ).loc main_arg2)) (m ((c.tc : Thread nD τ).loc main_arg3)) := by
  unfold Value.res_main_v44
  rfl

/-! ## Each part at an index -/

theorem scores_apply (x : FVec Ideal S2048x512 .bf16) (r : FVec Ideal S512x128 .bf16) (t : Fin 2048) (g : Fin 128) :
    scores x r (ix2 t g) = Cert.KernelIdeal.Moe.score x r t g :=
  (StackMember.dotGeneral_plain_apply none (extf .f32 x bitsLt_bf16_f32) (extf .f32 r bitsLt_bf16_f32) t g).trans rfl

theorem upright_apply {α : Type} (v : S2048.Idx → α) (t : Fin 2048) : broadcastInDim S2048x1 ![0] bcast_S2048_S2048x1_0 v (ix2 t (0 : Fin 1)) = v (ix1 t) :=
  broadcastInDim_apply _ _ _ _ (ix1 t) (fun a => by fin_cases a; simp)

theorem along_apply (v : FVec Ideal S2048 .f32) (t : Fin 2048) (g : Fin 128) : along v (ix2 t g) = v (ix1 t) :=
  (broadcastInDim_apply _ _ _ _ (ix2 t (0 : Fin 1)) (fun a => by fin_cases a <;> simp)).trans (upright_apply v t)

theorem reduces_row : S2048x128.Reduces [1] S2048 := by decide

theorem neginf : Ideal.ofBits .f32 0xFF800000#32 = (⊥ : EReal) := by simp [Ideal.ofBits, Ideal.ieee]

/-- The largest of a row of reals is a real. -/
theorem largest_apply (S : FVec Ideal S2048x128 .f32) (t : Fin 2048) (s : Fin 128 → ℝ) (hS : ∀ g : Fin 128, S (ix2 t g) = ((s g : ℝ) : EReal)) :
    ∃ M : ℝ, largest S (ix1 t) = ((M : ℝ) : EReal) := by
  have h : largest S (ix1 t) = (Finset.univ : Finset (Fin 128)).fold max (⊥ : EReal) (fun g => ((s g : ℝ) : EReal)) := by
    unfold largest
    refine (congrFun (hostReduce_maximumf_eq_multiReduction S 0xFF800000#32 reducesTo_S2048x128_S2048_d1 h_S_ reduces_row (.inl rfl) rfl) (ix1 t)).trans ?_
    refine (Ideal.multiReduction_maximumf_single _ _ _ _ _ _).trans ?_
    refine congrArg₂ (fun (b : EReal) (f : Fin 128 → EReal) => (Finset.univ : Finset (Fin 128)).fold max b f) neginf (funext fun g => ?_)
    exact (congrArg S (Cert.KernelIdeal.Moe.lift_row reduces_row t g)).trans (hS g)
  have h1 : (⊥ : EReal) < largest S (ix1 t) := by
    rw [h, Finset.lt_fold_max]
    exact Or.inr ⟨0, Finset.mem_univ _, EReal.bot_lt_coe _⟩
  have h2 : largest S (ix1 t) < (⊤ : EReal) := by
    rw [h, Finset.fold_max_lt]
    exact ⟨bot_lt_top, fun g _ => EReal.coe_lt_top _⟩
  exact ⟨EReal.toReal (largest S (ix1 t)), (EReal.coe_toReal h2.ne h1.ne').symm⟩

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The softmax of a row of reals. -/
theorem probs_apply (S : FVec Ideal S2048x128 .f32) (t : Fin 2048) (s : Fin 128 → ℝ) (hS : ∀ g : Fin 128, S (ix2 t g) = ((s g : ℝ) : EReal)) :
    ∃ M Z : ℝ, 0 < Z ∧ ∀ g : Fin 128, probs S (ix2 t g) = ((Real.exp (s g - M) * (1 / Z) : ℝ) : EReal) := by
  obtain ⟨M, hM⟩ := largest_apply S t s hS
  have hx : ∀ g : Fin 128, exps S (ix2 t g) = ((Real.exp (s g - M) : ℝ) : EReal) := by
    intro g
    show Ideal.exp (S (ix2 t g) - along (largest S) (ix2 t g)) = _
    rw [along_apply, hM, hS g, ← EReal.coe_sub, Ideal.exp_coe]
  refine ⟨M, ∑ g : Fin 128, Real.exp (s g - M), Finset.sum_pos (fun g _ => Real.exp_pos _) ⟨0, Finset.mem_univ _⟩, fun g => ?_⟩
  have hz : Host.reduceAdd (exps S) (constant S_ .f32 0x00000000#32) reducesTo_S2048x128_S2048_d1 h_S_ (ix1 t) = ((∑ g : Fin 128, Real.exp (s g - M) : ℝ) : EReal) := by
    rw [hostReduceAdd_apply, Ideal.hostReduceAdd_single _ reduces_row]
    rw [constant_apply, Ideal.ofBits_zero_f32, zero_add]
    refine (Finset.sum_congr rfl fun k _ => (congrArg (exps S) (Cert.KernelIdeal.Moe.lift_row reduces_row t k)).trans (hx k)).trans ?_
    exact sum_coe _ _
  unfold probs
  rw [hostDivf_apply, along_apply, hz, hx g, Ideal.div_coe (Finset.sum_pos (fun g _ => Real.exp_pos _) ⟨0, Finset.mem_univ _⟩).ne', ← EReal.coe_mul]

theorem pick0_apply (ix : IVec S2048x2 32) (t : Fin 2048) : pick0 ix (ix1 t) = ix (ix2 t (0 : Fin 2)) := by
  unfold pick0
  refine (shapeCast_apply _ shapeCasts_S2048x1_S2048 (ix1 t) (ix2 t (0 : Fin 1)) ?_).trans ?_
  · rw [Shape.rowMajor_val_two, Shape.rowMajor_val_one]; simp
  · exact extractStridedSlice_apply _ _ _ (ix2 t (0 : Fin 1)) (ix2 t (0 : Fin 2)) (fun a => by fin_cases a <;> simp)

theorem pick1_apply (ix : IVec S2048x2 32) (t : Fin 2048) : pick1 ix (ix1 t) = ix (ix2 t (1 : Fin 2)) := by
  unfold pick1
  refine (shapeCast_apply _ shapeCasts_S2048x1_S2048 (ix1 t) (ix2 t (0 : Fin 1)) ?_).trans ?_
  · rw [Shape.rowMajor_val_two, Shape.rowMajor_val_one]; simp
  · exact extractStridedSlice_apply _ _ _ (ix2 t (0 : Fin 1)) (ix2 t (1 : Fin 2)) (fun a => by fin_cases a <;> simp)

theorem wrap_word : ∀ g : Fin 128, Scalar.select (IntOp.cmpi .slt (BitVec.ofNat 32 g.val) 0#32) (IntOp.addi (BitVec.ofNat 32 g.val) 128#32) (BitVec.ofNat 32 g.val) = BitVec.ofNat 32 g.val := by decide
theorem clamp_word : ∀ g : Fin 128, min (BitVec.ofNat 32 g.val).toInt.toNat 127 = g.val := by decide

/-- An index in range, read as the reference reads it. -/
theorem wrap_upright (v : IVec S2048 32) (t : Fin 2048) (g : Fin 128) (hv : v (ix1 t) = BitVec.ofNat 32 g.val) :
    select (cmpi .slt (upright v) (broadcastInDim S2048x1 ![] bcast_S_S2048x1 (constantI S_ 32 0#32)))
    (addi (upright v) (broadcastInDim S2048x1 ![] bcast_S_S2048x1 (constantI S_ 32 128#32))) (upright v) (ix2 t (0 : Fin 1)) = BitVec.ofNat 32 g.val := by
  have h : upright v (ix2 t (0 : Fin 1)) = BitVec.ofNat 32 g.val := (upright_apply v t).trans hv
  show Scalar.select (IntOp.cmpi .slt (upright v (ix2 t (0 : Fin 1))) 0#32) (IntOp.addi (upright v (ix2 t (0 : Fin 1))) 128#32) (upright v (ix2 t (0 : Fin 1))) = _
  rw [h]; exact wrap_word g

theorem upright_wrap (v : IVec S2048 32) (t : Fin 2048) (g : Fin 128) (hv : v (ix1 t) = BitVec.ofNat 32 g.val) :
    upright (select (cmpi .slt v (broadcastInDim S2048 ![] bcast_S_S2048 (constantI S_ 32 0#32)))
    (addi v (broadcastInDim S2048 ![] bcast_S_S2048 (constantI S_ 32 128#32))) v) (ix2 t (0 : Fin 1)) = BitVec.ofNat 32 g.val := by
  refine (upright_apply _ t).trans ?_
  show Scalar.select (IntOp.cmpi .slt (v (ix1 t)) 0#32) (IntOp.addi (v (ix1 t)) 128#32) (v (ix1 t)) = _
  rw [hv]; exact wrap_word g

/-- The gather of one entry from each row. -/
theorem gate_gather (P : FVec Ideal S2048x128 .f32) (idx : IVec S2048x1x1 32) (t : Fin 2048) (g : Fin 128) (hi : idx (ix3 t (0 : Fin 1) (0 : Fin 1)) = BitVec.ofNat 32 g.val) :
    Host.gather gather_S2048x128_S2048x1x1_S2048x1_n_1_0_0_1_2_11 P idx (ix2 t (0 : Fin 1)) = P (ix2 t g) := by
  have word : min (idx (ix3 t (0 : Fin 1) (0 : Fin 1))).toInt.toNat 127 = g.val := by rw [hi]; exact clamp_word g
  have at0 : (gather_S2048x128_S2048x1x1_S2048x1_n_1_0_0_1_2_11.operandIdx (ix2 t (0 : Fin 1)) idx 0).val = t.val := by
    simp [GatherDims.operandIdx, GatherDims.start, GatherDims.batchCoord, GatherDims.offCoord, gather_S2048x128_S2048x1x1_S2048x1_n_1_0_0_1_2_11]
    rfl
  have at1 : (gather_S2048x128_S2048x1x1_S2048x1_n_1_0_0_1_2_11.operandIdx (ix2 t (0 : Fin 1)) idx 1).val = g.val := by
    have si : gather_S2048x128_S2048x1x1_S2048x1_n_1_0_0_1_2_11.siIdx (ix2 t (0 : Fin 1)) (⟨0, by decide⟩ : Fin 1) = ix3 t (0 : Fin 1) (0 : Fin 1) := funext fun b => by fin_cases b <;> rfl
    exact (congrArg (fun k => min (idx k).toInt.toNat 127) si).trans word
  exact congrArg P (funext fun a => Fin.ext (by fin_cases a; exacts [at0, at1]))

/-- The gather of a whole matrix for each row. -/
theorem mats_gather (E : FVec Ideal S128x512x1024 .f32) (idx : IVec S2048x1 32) (t : Fin 2048) (g : Fin 128) (d : Fin 512) (h : Fin 1024) (hi : idx (ix2 t (0 : Fin 1)) = BitVec.ofNat 32 g.val) :
    Host.gather gather_S128x512x1024_S2048x1_S2048x512x1024_12_0_n_n_0_1_15121024 E idx (ix3 t d h) = E (ix3 g d h) := by
  have word : min (idx (ix2 t (0 : Fin 1))).toInt.toNat 127 = g.val := by rw [hi]; exact clamp_word g
  have at0 : (gather_S128x512x1024_S2048x1_S2048x512x1024_12_0_n_n_0_1_15121024.operandIdx (ix3 t d h) idx 0).val = g.val := by
    have si : gather_S128x512x1024_S2048x1_S2048x512x1024_12_0_n_n_0_1_15121024.siIdx (ix3 t d h) (⟨0, by decide⟩ : Fin 1) = ix2 t (0 : Fin 1) := funext fun b => by fin_cases b <;> rfl
    exact (congrArg (fun k => min (idx k).toInt.toNat 127) si).trans word
  have at1 : (gather_S128x512x1024_S2048x1_S2048x512x1024_12_0_n_n_0_1_15121024.operandIdx (ix3 t d h) idx 1).val = d.val := by
    simp [GatherDims.operandIdx, GatherDims.start, GatherDims.batchCoord, GatherDims.offCoord, gather_S128x512x1024_S2048x1_S2048x512x1024_12_0_n_n_0_1_15121024]
    rfl
  have at2 : (gather_S128x512x1024_S2048x1_S2048x512x1024_12_0_n_n_0_1_15121024.operandIdx (ix3 t d h) idx 2).val = h.val := by
    simp [GatherDims.operandIdx, GatherDims.start, GatherDims.batchCoord, GatherDims.offCoord, gather_S128x512x1024_S2048x1_S2048x512x1024_12_0_n_n_0_1_15121024]
    rfl
  exact congrArg E (funext fun a => Fin.ext (by fin_cases a; exacts [at0, at1, at2]))

theorem gate_apply (P : FVec Ideal S2048x128 .f32) (v : IVec S2048 32) (t : Fin 2048) (g : Fin 128) (hv : v (ix1 t) = BitVec.ofNat 32 g.val) :
    gate P v (ix2 t (0 : Fin 1)) = P (ix2 t g) := by
  unfold gate
  refine gate_gather P _ t g ?_
  refine (shapeCast_apply _ shapeCasts_S2048x1_S2048x1x1 _ (ix2 t (0 : Fin 1)) ?_).trans (wrap_upright v t g hv)
  rw [Shape.rowMajor_val_two, Shape.rowMajor_val_three]; simp

theorem mats_apply (E : FVec Ideal S128x512x1024 .bf16) (v : IVec S2048 32) (t : Fin 2048) (g : Fin 128) (d : Fin 512) (h : Fin 1024) (hv : v (ix1 t) = BitVec.ofNat 32 g.val) :
    mats E v (ix3 t d h) = E (ix3 g d h) :=
  (mats_gather _ _ t g d h (upright_wrap v t g hv)).trans rfl

theorem through_apply (x : FVec Ideal S2048x512 .bf16) (M : FVec Ideal S2048x512x1024 .f32) (t : Fin 2048) (h : Fin 1024) :
    through x M (ix2 t h) = ∑ d : Fin 512, x (ix2 t d) * M (ix3 t d h) := by
  unfold through
  show FloatOps.dotGeneral _ none _ _ M (ix2 t h) = _
  rw [Ideal.dotGeneral_apply, ← Equiv.sum_comp (contrEquiv1 dot_S2048x512_S2048x512x1024_S2048x1024_1_1_n_2_0_0 512 rfl rfl).symm]
  refine Finset.sum_congr rfl fun c _ => ?_
  have c2 := contrEquiv1_symm_val dot_S2048x512_S2048x512x1024_S2048x1024_1_1_n_2_0_0 512 rfl rfl c
  have l2 : dot_S2048x512_S2048x512x1024_S2048x1024_1_1_n_2_0_0.lhsIdx (ix2 t h) ((contrEquiv1 _ 512 rfl rfl).symm c) = ix2 t c := by
    funext ax; apply Fin.ext
    match ax with
    | ⟨0, _⟩ => simp [DotDims.lhsIdx, dot_S2048x512_S2048x512x1024_S2048x1024_1_1_n_2_0_0]; rfl
    | ⟨1, _⟩ => simp [DotDims.lhsIdx, dot_S2048x512_S2048x512x1024_S2048x1024_1_1_n_2_0_0]; exact c2
  have r2 : dot_S2048x512_S2048x512x1024_S2048x1024_1_1_n_2_0_0.rhsIdx (ix2 t h) ((contrEquiv1 _ 512 rfl rfl).symm c) = ix3 t c h := by
    funext ax; apply Fin.ext
    match ax with
    | ⟨0, _⟩ => simp [DotDims.rhsIdx, dot_S2048x512_S2048x512x1024_S2048x1024_1_1_n_2_0_0]; rfl
    | ⟨1, _⟩ => simp [DotDims.rhsIdx, dot_S2048x512_S2048x512x1024_S2048x1024_1_1_n_2_0_0]; exact c2
    | ⟨2, _⟩ => simp [DotDims.rhsIdx, dot_S2048x512_S2048x512x1024_S2048x1024_1_1_n_2_0_0]; rfl
  rw [l2, r2]
  rfl

theorem term_apply (a b : FVec Ideal S2048x1 .f32) (y : FVec Ideal S2048x1024 .f32) (t : Fin 2048) (h : Fin 1024) :
    term a b y (ix2 t h) = Ideal.div (a (ix2 t (0 : Fin 1))) (b (ix2 t (0 : Fin 1))) * y (ix2 t h) := by
  unfold term
  rw [mulf_apply]
  exact congrArg (fun z : EReal => z * y (ix2 t h)) (broadcastInDim_apply _ _ (Host.divf a b) _ (ix2 t (0 : Fin 1)) (fun a => by fin_cases a <;> simp))

end Cert.ReferenceIdeal.Moe

end
-- ==== Proof.Value.lean ====
/- The device program's result and the reference's, shown to be one value. -/
module

public import proofs.«01_k».proof.Defs
public import proofs.«01_k».proof.Proof.RefParts
public import proofs.«01_k».proof.Proof.Run
public import Idealize.ShloMosaic.Lib.Layout

@[expose] public section

noncomputable section

namespace Cert.KernelIdeal.Moe

open Idealize.ShloMosaic Idealize.ShloMosaic.TcCoe
open Idealize.ShloMosaic.ValueIdx
open scoped BigOperators

/-! ## The reference at an index -/

/-- The first of the two weights. -/
def sig1 (a b : ℝ) : ℝ := (1 + Real.exp (-(a - b)))⁻¹

theorem sig1_bounds (a b : ℝ) : 0 ≤ sig1 a b ∧ sig1 a b ≤ 1 := by
  unfold sig1
  have h := Real.exp_pos (-(a - b))
  exact ⟨inv_nonneg.mpr (by linarith), inv_le_one_of_one_le₀ (by linarith)⟩

theorem first_coe (a b : ℝ) : first ((a : ℝ) : EReal) ((b : ℝ) : EReal) = ((sig1 a b : ℝ) : EReal) := by
  unfold first sig1
  rw [← EReal.coe_sub, Ideal.logistic_coe]

theorem gates (a b M Z : ℝ) (hZ : 0 < Z) :
    Real.exp (a - M) * (1 / Z) * (1 / (Real.exp (a - M) * (1 / Z) + Real.exp (b - M) * (1 / Z))) = sig1 a b
    ∧ Real.exp (b - M) * (1 / Z) * (1 / (Real.exp (a - M) * (1 / Z) + Real.exp (b - M) * (1 / Z))) = 1 - sig1 a b := by
  have e : Real.exp (-(a - b)) = Real.exp (b - M) / Real.exp (a - M) := by
    rw [← Real.exp_sub]; congr 1; ring
  unfold sig1
  rw [e]
  have hA := Real.exp_pos (a - M)
  have hB := Real.exp_pos (b - M)
  generalize Real.exp (a - M) = A at *
  generalize Real.exp (b - M) = B at *
  have hAB : A + B ≠ 0 := by positivity
  constructor
  · field_simp
  · field_simp
    ring

theorem whole_apply (x : FVec Ideal Cert.ReferenceIdeal.S2048x512 .bf16) (r : FVec Ideal Cert.ReferenceIdeal.S512x128 .bf16) (ix : IVec Cert.ReferenceIdeal.S2048x2 32) (E : FVec Ideal Cert.ReferenceIdeal.S128x512x1024 .bf16)
    (t : Fin 2048) (h : Fin 1024) (s : Fin 128 → ℝ) (hs : ∀ g : Fin 128, score x r t g = ((s g : ℝ) : EReal)) (g g' : Fin 128)
    (hg : ix (ix2 t (0 : Fin 2)) = BitVec.ofNat 32 g.val) (hg' : ix (ix2 t (1 : Fin 2)) = BitVec.ofNat 32 g'.val) :
    Cert.ReferenceIdeal.Moe.whole x r ix E (ix2 t h) = ((sig1 (s g) (s g') : ℝ) : EReal) * inner x E t g h + ((1 - sig1 (s g) (s g') : ℝ) : EReal) * inner x E t g' h := by
  obtain ⟨M, Z, hZ, hP⟩ := Cert.ReferenceIdeal.Moe.probs_apply (Cert.ReferenceIdeal.Moe.scores x r) t s
    (fun g => (Cert.ReferenceIdeal.Moe.scores_apply x r t g).trans (hs g))
  have h0 := (Cert.ReferenceIdeal.Moe.pick0_apply ix t).trans hg
  have h1 := (Cert.ReferenceIdeal.Moe.pick1_apply ix t).trans hg'
  have p0 := (Cert.ReferenceIdeal.Moe.gate_apply (Cert.ReferenceIdeal.Moe.probs (Cert.ReferenceIdeal.Moe.scores x r)) _ t g h0).trans (hP g)
  have p1 := (Cert.ReferenceIdeal.Moe.gate_apply (Cert.ReferenceIdeal.Moe.probs (Cert.ReferenceIdeal.Moe.scores x r)) _ t g' h1).trans (hP g')
  have y0 : Cert.ReferenceIdeal.Moe.through x (Cert.ReferenceIdeal.Moe.mats E (Cert.ReferenceIdeal.Moe.pick0 ix)) (ix2 t h) = inner x E t g h :=
    (Cert.ReferenceIdeal.Moe.through_apply x _ t h).trans (Finset.sum_congr rfl fun d _ => by rw [Cert.ReferenceIdeal.Moe.mats_apply E _ t g d h h0])
  have y1 : Cert.ReferenceIdeal.Moe.through x (Cert.ReferenceIdeal.Moe.mats E (Cert.ReferenceIdeal.Moe.pick1 ix)) (ix2 t h) = inner x E t g' h :=
    (Cert.ReferenceIdeal.Moe.through_apply x _ t h).trans (Finset.sum_congr rfl fun d _ => by rw [Cert.ReferenceIdeal.Moe.mats_apply E _ t g' d h h1])
  unfold Cert.ReferenceIdeal.Moe.whole
  rw [addf_apply, Cert.ReferenceIdeal.Moe.term_apply, Cert.ReferenceIdeal.Moe.term_apply, addf_apply, p0, p1, y0, y1]
  have hA := Real.exp_pos (s g - M)
  have hB := Real.exp_pos (s g' - M)
  have hne : Real.exp (s g - M) * (1 / Z) + Real.exp (s g' - M) * (1 / Z) ≠ 0 := by positivity
  have k := gates (s g) (s g') M Z hZ
  rw [← EReal.coe_add, Ideal.div_coe hne, Ideal.div_coe hne, ← EReal.coe_mul, ← EReal.coe_mul, k.1, k.2]

/-! ## The precondition at an index -/

theorem inf_bf16 : Ideal.ofBits .bf16 0x7F80#16 = (⊤ : EReal) := by simp [Ideal.ofBits, Ideal.ieee]

/-- A number whose size is below infinity is a real. -/
theorem real_of_lt (z : EReal) (h : Ideal.cmp .olt (max z (-z)) (Ideal.ofBits .bf16 0x7F80#16) = 1#1) : ∃ q : ℝ, z = ((q : ℝ) : EReal) := by
  rw [inf_bf16] at h
  have h' : max z (-z) < (⊤ : EReal) := by
    by_contra hn
    have : Ideal.cmp .olt (max z (-z)) (⊤ : EReal) = 0#1 := by
      show BitVec.ofBool (decide (max z (-z) < (⊤ : EReal))) = 0#1
      rw [decide_eq_false hn]; rfl
    rw [this] at h
    exact absurd h (by decide)
  have hz : z ≠ ⊤ := fun e => by rw [e] at h'; simp at h'
  have hz' : z ≠ ⊥ := fun e => by rw [e] at h'; simp at h'
  exact ⟨z.toReal, (EReal.coe_toReal hz hz').symm⟩

/-- A word from 0 to 127. -/
theorem expert_of_range (v : BitVec 32) (h : IntOp.andi (IntOp.cmpi .sge v 0#32) (IntOp.cmpi .slt v 128#32) = 1#1) : ∃ g : Fin 128, v = BitVec.ofNat 32 g.val := by
  rw [WordCmp.cmpi_sge_eq, WordCmp.cmpi_slt_eq] at h
  have h0 : (0#32 : BitVec 32).toInt ≤ v.toInt := by
    by_contra hn
    rw [decide_eq_false hn] at h
    revert h; cases decide (v.toInt < (128#32 : BitVec 32).toInt) <;> decide
  have h1 : v.toInt < (128#32 : BitVec 32).toInt := by
    by_contra hn
    rw [decide_eq_false hn] at h
    revert h; cases decide ((0#32 : BitVec 32).toInt ≤ v.toInt) <;> decide
  have e0 : (0#32 : BitVec 32).toInt = 0 := by decide
  have e1 : (128#32 : BitVec 32).toInt = 128 := by decide
  rw [e0] at h0
  rw [e1] at h1
  have hlt : v.toNat < 128 := by
    rw [BitVec.toInt_eq_toNat_cond] at h0 h1
    have := v.isLt
    split at h0 <;> split at h1 <;> omega
  exact ⟨⟨v.toNat, hlt⟩, by simp⟩

/-- The scores of finite tokens under a finite router. -/
theorem score_real (x : FVec Ideal Cert.KernelIdeal.S2048x512 .bf16) (r : FVec Ideal Cert.KernelIdeal.S512x128 .bf16) (hx : ∀ i, ∃ q : ℝ, x i = ((q : ℝ) : EReal)) (hr : ∀ i, ∃ q : ℝ, r i = ((q : ℝ) : EReal)) (t : Fin 2048) :
    ∃ s : Fin 128 → ℝ, ∀ g : Fin 128, score x r t g = ((s g : ℝ) : EReal) := by
  choose fx hfx using hx
  choose fr hfr using hr
  refine ⟨fun g => ∑ d : Fin 512, fx (ix2 t d) * fr (ix2 d g), fun g => ?_⟩
  unfold score
  rw [← Cert.ReferenceIdeal.Moe.sum_coe]
  exact Finset.sum_congr rfl fun d _ => by rw [hfx, hfr, EReal.coe_mul]

/-! ## The claim -/

theorem values [hp : Cert.Pre_routed_KernelIdeal.Facts] : Cert.algebraic_KernelIdeal_ReferenceIdeal_pre_routed_KernelIdeal := by
  intro m g m' g' hpre hin
  refine ⟨Cert.ReferenceIdeal.Value.res_main_v44 m' 0, ?_, ?_⟩
  · refine (θ_run Cert.KernelIdeal.defs _ _).mono (fun r h c => ?_) (run_main (F := Ideal) m g)
    obtain ⟨h0, h1, h2, h3, hv⟩ := h.1 c
    refine ⟨hv.trans ?_, h0, h1, h2, h3⟩
    rw [Cert.ReferenceIdeal.Moe.res_eq]
    generalize hX : m' (((0 : Dev Cert.ReferenceIdeal.nD).tc : Thread Cert.ReferenceIdeal.nD Cert.ReferenceIdeal.τ).loc Cert.ReferenceIdeal.main_arg0) = X at *
    generalize hR : m' (((0 : Dev Cert.ReferenceIdeal.nD).tc : Thread Cert.ReferenceIdeal.nD Cert.ReferenceIdeal.τ).loc Cert.ReferenceIdeal.main_arg1) = R at *
    generalize hI : m' (((0 : Dev Cert.ReferenceIdeal.nD).tc : Thread Cert.ReferenceIdeal.nD Cert.ReferenceIdeal.τ).loc Cert.ReferenceIdeal.main_arg2) = ix at *
    generalize hE : m' (((0 : Dev Cert.ReferenceIdeal.nD).tc : Thread Cert.ReferenceIdeal.nD Cert.ReferenceIdeal.τ).loc Cert.ReferenceIdeal.main_arg3) = E at *
    have ex : ∀ c, (ins m c).x = X := fun c => (Gen.V_main_arg0 m c).trans (hin c).1
    have er : ∀ c, (ins m c).rw = R := fun c => (Gen.V_main_arg1 m c).trans (hin c).2.1
    have ei : ∀ c, (ins m c).ix = ix := fun c => (Gen.V_main_arg2 m c).trans (hin c).2.2.1
    have ee : ∀ (c : Dev Cert.KernelIdeal.nD) (e : Fin 8) (d : Fin 512) (h : Fin 1024), (ins m c).ex (ix3 e d h) = E (ix3 (finProdFinEquiv (c, e) : Fin (16 * 8)) d h) := by
      intro c e d h
      refine (congrFun ((Gen.V_main_arg3 m c).trans (hin c).2.2.2) (ix3 e d h)).trans ?_
      refine congrArg E ?_
      funext a
      refine Fin.ext ?_
      match a with
      | ⟨0, _⟩ => show c.val * 8 + e.val = e.val + 8 * c.val; omega
      | ⟨1, _⟩ => rfl
      | ⟨2, _⟩ => rfl
    obtain ⟨q0, q1, q2⟩ := hpre c
    rw [(hin c).1, (hin c).2.1, (hin c).2.2.1] at q0 q1 q2
    have rx : ∀ i, ∃ q : ℝ, X i = ((q : ℝ) : EReal) := fun i => real_of_lt (X i) (congrFun q0 i)
    have rr : ∀ i, ∃ q : ℝ, R i = ((q : ℝ) : EReal) := fun i => real_of_lt (R i) (congrFun q1 i)
    have ri : ∀ i, ∃ g : Fin 128, ix i = BitVec.ofNat 32 g.val := fun i => expert_of_range (ix i) (congrFun q2 i)
    funext i
    obtain ⟨t, h, rfl⟩ : ∃ (t : Fin 128) (h : Fin 1024), i = ix2 t h := ⟨i 0, i 1, by funext a; fin_cases a <;> rfl⟩
    obtain ⟨s, hs⟩ := score_real X R rx rr (row c t)
    obtain ⟨e0, he0⟩ := ri (ix2 (row c t) (0 : Fin 2))
    obtain ⟨e1, he1⟩ := ri (ix2 (row c t) (1 : Fin 2))
    refine (out_two (ins m) X R ix E ex er ei ee c t h e0 e1 he0 he1 (sig1 (s e0) (s e1)) (sig1_bounds _ _).1 (sig1_bounds _ _).2 (by rw [hs, hs]; exact first_coe _ _)).trans ?_
    refine (whole_apply X R ix E (row c t) h s hs e0 e1 he0 he1).symm.trans ?_
    refine congrArg (Cert.ReferenceIdeal.Moe.whole X R ix E) ?_
    funext a
    refine Fin.ext ?_
    match a with
    | ⟨0, _⟩ => show 128 * c.val + t.val = c.val * 128 + t.val; omega
    | ⟨1, _⟩ => rfl
  · exact (θ_run Cert.ReferenceIdeal.defs _ _).mono (fun r h => h 0) (Cert.ReferenceIdeal.Value.run (F := Ideal) m' g')

end Cert.KernelIdeal.Moe

end
-- ==== Proof.lean ====
/- The claims of this directory put together: the program's side conditions, the frames and the values. -/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Cert.KernelIdeal.Moe

/-- The shapes the precondition broadcasts over, on the devices and on the host. -/
theorem pre_facts : Cert.Pre_routed_KernelIdeal.Facts := ⟨by decide, by decide, by decide⟩
theorem pre_facts' : Cert.Pre_routed_ReferenceIdeal.Facts := ⟨by decide, by decide, by decide⟩

theorem claim : Cert.Claim :=
  ⟨Cert.Kernel.Gen.facts, Cert.KernelIdeal.Gen.facts, Cert.ReferenceIdeal.Gen.facts, pre_facts, pre_facts',
    frame_kernel, frame_ideal, fun m g _ => frame_ideal m g trivial, frame_reference, fun m g _ => frame_reference m g trivial, trivial,
    values (hp := pre_facts)⟩

end Cert.Proof

end
